-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualRefIdeal (m : (ℓ : Loc Cert.ResidualRefIdeal.nD Cert.ResidualRefIdeal.τ Cert.ResidualRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Moe [hPre_experts_in_range : Cert.Pre_experts_in_range.Facts] (m : (ℓ : Loc Cert.Moe.nD Cert.Moe.τ Cert.Moe.sig) → Buf (Elt Bits) ℓ) : Prop :=
  ∀ c : Dev Cert.Moe.nD,
    (Cert.Pre_experts_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_experts_in_range : Cert.Pre_experts_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_experts_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal [hPre_experts_in_range : Cert.Pre_experts_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_MoeFirst [hPre_experts_in_range : Cert.Pre_experts_in_range.Facts] (m : (ℓ : Loc Cert.MoeFirst.nD Cert.MoeFirst.τ Cert.MoeFirst.sig) → Buf (Elt Bits) ℓ) : Prop :=
  ∀ c : Dev Cert.MoeFirst.nD,
    (Cert.Pre_experts_in_range.fn (F := Bits) (m ((c.tc : Thread Cert.MoeFirst.nD Cert.MoeFirst.τ).loc Cert.MoeFirst.main_arg0)) (m ((c.tc : Thread Cert.MoeFirst.nD Cert.MoeFirst.τ).loc Cert.MoeFirst.main_arg1)) (m ((c.tc : Thread Cert.MoeFirst.nD Cert.MoeFirst.τ).loc Cert.MoeFirst.main_arg2)) (m ((c.tc : Thread Cert.MoeFirst.nD Cert.MoeFirst.τ).loc Cert.MoeFirst.main_arg3)) (m ((c.tc : Thread Cert.MoeFirst.nD Cert.MoeFirst.τ).loc Cert.MoeFirst.main_arg4)) (m ((c.tc : Thread Cert.MoeFirst.nD Cert.MoeFirst.τ).loc Cert.MoeFirst.main_arg5))) = (fun _ => 1#1)

def Pre_MoeFirstIdeal [hPre_experts_in_range : Cert.Pre_experts_in_range.Facts] (m : (ℓ : Loc Cert.MoeFirstIdeal.nD Cert.MoeFirstIdeal.τ Cert.MoeFirstIdeal.sig) → Buf (Elt Ideal) ℓ) : Prop :=
  ∀ c : Dev Cert.MoeFirstIdeal.nD,
    (Cert.Pre_experts_in_range.fn (F := Ideal) (m ((c.tc : Thread Cert.MoeFirstIdeal.nD Cert.MoeFirstIdeal.τ).loc Cert.MoeFirstIdeal.main_arg0)) (m ((c.tc : Thread Cert.MoeFirstIdeal.nD Cert.MoeFirstIdeal.τ).loc Cert.MoeFirstIdeal.main_arg1)) (m ((c.tc : Thread Cert.MoeFirstIdeal.nD Cert.MoeFirstIdeal.τ).loc Cert.MoeFirstIdeal.main_arg2)) (m ((c.tc : Thread Cert.MoeFirstIdeal.nD Cert.MoeFirstIdeal.τ).loc Cert.MoeFirstIdeal.main_arg3)) (m ((c.tc : Thread Cert.MoeFirstIdeal.nD Cert.MoeFirstIdeal.τ).loc Cert.MoeFirstIdeal.main_arg4)) (m ((c.tc : Thread Cert.MoeFirstIdeal.nD Cert.MoeFirstIdeal.τ).loc Cert.MoeFirstIdeal.main_arg5))) = (fun _ => 1#1)

def Pre_MoeFirstRefIdeal [hPre_experts_in_range : Cert.Pre_experts_in_range.Facts] (m : (ℓ : Loc Cert.MoeFirstRefIdeal.nD Cert.MoeFirstRefIdeal.τ Cert.MoeFirstRefIdeal.sig) → Buf (Elt Ideal) ℓ) : Prop :=
  ∀ c : Dev Cert.MoeFirstRefIdeal.nD,
    (Cert.Pre_experts_in_range.fn (F := Ideal) (m ((c.tc : Thread Cert.MoeFirstRefIdeal.nD Cert.MoeFirstRefIdeal.τ).loc Cert.MoeFirstRefIdeal.main_arg0)) (m ((c.tc : Thread Cert.MoeFirstRefIdeal.nD Cert.MoeFirstRefIdeal.τ).loc Cert.MoeFirstRefIdeal.main_arg1)) (m ((c.tc : Thread Cert.MoeFirstRefIdeal.nD Cert.MoeFirstRefIdeal.τ).loc Cert.MoeFirstRefIdeal.main_arg2)) (m ((c.tc : Thread Cert.MoeFirstRefIdeal.nD Cert.MoeFirstRefIdeal.τ).loc Cert.MoeFirstRefIdeal.main_arg3)) (m ((c.tc : Thread Cert.MoeFirstRefIdeal.nD Cert.MoeFirstRefIdeal.τ).loc Cert.MoeFirstRefIdeal.main_arg4)) (m ((c.tc : Thread Cert.MoeFirstRefIdeal.nD Cert.MoeFirstRefIdeal.τ).loc Cert.MoeFirstRefIdeal.main_arg5))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ r.2.sem = fun _ => 0)

def quiescent_ResidualRefIdeal [hResidualRefIdeal : Cert.ResidualRefIdeal.Facts] : Prop :=
  ∀ (m : (ℓ : Loc Cert.ResidualRefIdeal.nD Cert.ResidualRefIdeal.τ Cert.ResidualRefIdeal.sig) → Buf (Elt Ideal) ℓ) (g : Dev Cert.ResidualRefIdeal.nD → PrngReg), Pre_ResidualRefIdeal m →
    θ_run (Cert.ResidualRefIdeal.defs (F := Ideal)) (onTc (τ := Cert.ResidualRefIdeal.τ) (Cert.ResidualRefIdeal.main (F := Ideal))) ⟨m, fun _ => 0, g⟩ (fun r => (∀ c : Dev Cert.ResidualRefIdeal.nD,
      r.2.mem ((c.tc : Thread Cert.ResidualRefIdeal.nD Cert.ResidualRefIdeal.τ).loc Cert.ResidualRefIdeal.main_arg0) = m ((c.tc : Thread Cert.ResidualRefIdeal.nD Cert.ResidualRefIdeal.τ).loc Cert.ResidualRefIdeal.main_arg0)
      ∧ r.2.mem ((c.tc : Thread Cert.ResidualRefIdeal.nD Cert.ResidualRefIdeal.τ).loc Cert.ResidualRefIdeal.main_arg1) = m ((c.tc : Thread Cert.ResidualRefIdeal.nD Cert.ResidualRefIdeal.τ).loc Cert.ResidualRefIdeal.main_arg1)
      ∧ r.2.mem ((c.tc : Thread Cert.ResidualRefIdeal.nD Cert.ResidualRefIdeal.τ).loc Cert.ResidualRefIdeal.main_arg2) = m ((c.tc : Thread Cert.ResidualRefIdeal.nD Cert.ResidualRefIdeal.τ).loc Cert.ResidualRefIdeal.main_arg2)
      ∧ r.2.mem ((c.tc : Thread Cert.ResidualRefIdeal.nD Cert.ResidualRefIdeal.τ).loc Cert.ResidualRefIdeal.main_arg3) = m ((c.tc : Thread Cert.ResidualRefIdeal.nD Cert.ResidualRefIdeal.τ).loc Cert.ResidualRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Moe [hMoe : Cert.Moe.Facts] [hPre_experts_in_range : Cert.Pre_experts_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] [hPre_experts_in_range : Cert.Pre_experts_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeFirst [hMoeFirst : Cert.MoeFirst.Facts] [hPre_experts_in_range : Cert.Pre_experts_in_range.Facts] : Prop :=
  ∀ (m : (ℓ : Loc Cert.MoeFirst.nD Cert.MoeFirst.τ Cert.MoeFirst.sig) → Buf (Elt Bits) ℓ) (g : Dev Cert.MoeFirst.nD → PrngReg), Pre_MoeFirst m →
    θ_run (Cert.MoeFirst.defs (F := Bits)) (onTc (τ := Cert.MoeFirst.τ) (Cert.MoeFirst.main (F := Bits))) ⟨m, fun _ => 0, g⟩ (fun r => (∀ c : Dev Cert.MoeFirst.nD,
      r.2.mem ((c.tc : Thread Cert.MoeFirst.nD Cert.MoeFirst.τ).loc Cert.MoeFirst.main_arg0) = m ((c.tc : Thread Cert.MoeFirst.nD Cert.MoeFirst.τ).loc Cert.MoeFirst.main_arg0)
      ∧ r.2.mem ((c.tc : Thread Cert.MoeFirst.nD Cert.MoeFirst.τ).loc Cert.MoeFirst.main_arg1) = m ((c.tc : Thread Cert.MoeFirst.nD Cert.MoeFirst.τ).loc Cert.MoeFirst.main_arg1)
      ∧ r.2.mem ((c.tc : Thread Cert.MoeFirst.nD Cert.MoeFirst.τ).loc Cert.MoeFirst.main_arg2) = m ((c.tc : Thread Cert.MoeFirst.nD Cert.MoeFirst.τ).loc Cert.MoeFirst.main_arg2)
      ∧ r.2.mem ((c.tc : Thread Cert.MoeFirst.nD Cert.MoeFirst.τ).loc Cert.MoeFirst.main_arg3) = m ((c.tc : Thread Cert.MoeFirst.nD Cert.MoeFirst.τ).loc Cert.MoeFirst.main_arg3)
      ∧ r.2.mem ((c.tc : Thread Cert.MoeFirst.nD Cert.MoeFirst.τ).loc Cert.MoeFirst.main_arg4) = m ((c.tc : Thread Cert.MoeFirst.nD Cert.MoeFirst.τ).loc Cert.MoeFirst.main_arg4)
      ∧ r.2.mem ((c.tc : Thread Cert.MoeFirst.nD Cert.MoeFirst.τ).loc Cert.MoeFirst.main_arg5) = m ((c.tc : Thread Cert.MoeFirst.nD Cert.MoeFirst.τ).loc Cert.MoeFirst.main_arg5))
      ∧ r.2.sem = fun _ => 0)

def quiescent_MoeFirstIdeal [hMoeFirstIdeal : Cert.MoeFirstIdeal.Facts] [hPre_experts_in_range : Cert.Pre_experts_in_range.Facts] : Prop :=
  ∀ (m : (ℓ : Loc Cert.MoeFirstIdeal.nD Cert.MoeFirstIdeal.τ Cert.MoeFirstIdeal.sig) → Buf (Elt Ideal) ℓ) (g : Dev Cert.MoeFirstIdeal.nD → PrngReg), Pre_MoeFirstIdeal m →
    θ_run (Cert.MoeFirstIdeal.defs (F := Ideal)) (onTc (τ := Cert.MoeFirstIdeal.τ) (Cert.MoeFirstIdeal.main (F := Ideal))) ⟨m, fun _ => 0, g⟩ (fun r => (∀ c : Dev Cert.MoeFirstIdeal.nD,
      r.2.mem ((c.tc : Thread Cert.MoeFirstIdeal.nD Cert.MoeFirstIdeal.τ).loc Cert.MoeFirstIdeal.main_arg0) = m ((c.tc : Thread Cert.MoeFirstIdeal.nD Cert.MoeFirstIdeal.τ).loc Cert.MoeFirstIdeal.main_arg0)
      ∧ r.2.mem ((c.tc : Thread Cert.MoeFirstIdeal.nD Cert.MoeFirstIdeal.τ).loc Cert.MoeFirstIdeal.main_arg1) = m ((c.tc : Thread Cert.MoeFirstIdeal.nD Cert.MoeFirstIdeal.τ).loc Cert.MoeFirstIdeal.main_arg1)
      ∧ r.2.mem ((c.tc : Thread Cert.MoeFirstIdeal.nD Cert.MoeFirstIdeal.τ).loc Cert.MoeFirstIdeal.main_arg2) = m ((c.tc : Thread Cert.MoeFirstIdeal.nD Cert.MoeFirstIdeal.τ).loc Cert.MoeFirstIdeal.main_arg2)
      ∧ r.2.mem ((c.tc : Thread Cert.MoeFirstIdeal.nD Cert.MoeFirstIdeal.τ).loc Cert.MoeFirstIdeal.main_arg3) = m ((c.tc : Thread Cert.MoeFirstIdeal.nD Cert.MoeFirstIdeal.τ).loc Cert.MoeFirstIdeal.main_arg3)
      ∧ r.2.mem ((c.tc : Thread Cert.MoeFirstIdeal.nD Cert.MoeFirstIdeal.τ).loc Cert.MoeFirstIdeal.main_arg4) = m ((c.tc : Thread Cert.MoeFirstIdeal.nD Cert.MoeFirstIdeal.τ).loc Cert.MoeFirstIdeal.main_arg4)
      ∧ r.2.mem ((c.tc : Thread Cert.MoeFirstIdeal.nD Cert.MoeFirstIdeal.τ).loc Cert.MoeFirstIdeal.main_arg5) = m ((c.tc : Thread Cert.MoeFirstIdeal.nD Cert.MoeFirstIdeal.τ).loc Cert.MoeFirstIdeal.main_arg5))
      ∧ r.2.sem = fun _ => 0)

def quiescent_MoeFirstRefIdeal [hMoeFirstRefIdeal : Cert.MoeFirstRefIdeal.Facts] [hPre_experts_in_range : Cert.Pre_experts_in_range.Facts] : Prop :=
  ∀ (m : (ℓ : Loc Cert.MoeFirstRefIdeal.nD Cert.MoeFirstRefIdeal.τ Cert.MoeFirstRefIdeal.sig) → Buf (Elt Ideal) ℓ) (g : Dev Cert.MoeFirstRefIdeal.nD → PrngReg), Pre_MoeFirstRefIdeal m →
    θ_run (Cert.MoeFirstRefIdeal.defs (F := Ideal)) (onTc (τ := Cert.MoeFirstRefIdeal.τ) (Cert.MoeFirstRefIdeal.main (F := Ideal))) ⟨m, fun _ => 0, g⟩ (fun r => (∀ c : Dev Cert.MoeFirstRefIdeal.nD,
      r.2.mem ((c.tc : Thread Cert.MoeFirstRefIdeal.nD Cert.MoeFirstRefIdeal.τ).loc Cert.MoeFirstRefIdeal.main_arg0) = m ((c.tc : Thread Cert.MoeFirstRefIdeal.nD Cert.MoeFirstRefIdeal.τ).loc Cert.MoeFirstRefIdeal.main_arg0)
      ∧ r.2.mem ((c.tc : Thread Cert.MoeFirstRefIdeal.nD Cert.MoeFirstRefIdeal.τ).loc Cert.MoeFirstRefIdeal.main_arg1) = m ((c.tc : Thread Cert.MoeFirstRefIdeal.nD Cert.MoeFirstRefIdeal.τ).loc Cert.MoeFirstRefIdeal.main_arg1)
      ∧ r.2.mem ((c.tc : Thread Cert.MoeFirstRefIdeal.nD Cert.MoeFirstRefIdeal.τ).loc Cert.MoeFirstRefIdeal.main_arg2) = m ((c.tc : Thread Cert.MoeFirstRefIdeal.nD Cert.MoeFirstRefIdeal.τ).loc Cert.MoeFirstRefIdeal.main_arg2)
      ∧ r.2.mem ((c.tc : Thread Cert.MoeFirstRefIdeal.nD Cert.MoeFirstRefIdeal.τ).loc Cert.MoeFirstRefIdeal.main_arg3) = m ((c.tc : Thread Cert.MoeFirstRefIdeal.nD Cert.MoeFirstRefIdeal.τ).loc Cert.MoeFirstRefIdeal.main_arg3)
      ∧ r.2.mem ((c.tc : Thread Cert.MoeFirstRefIdeal.nD Cert.MoeFirstRefIdeal.τ).loc Cert.MoeFirstRefIdeal.main_arg4) = m ((c.tc : Thread Cert.MoeFirstRefIdeal.nD Cert.MoeFirstRefIdeal.τ).loc Cert.MoeFirstRefIdeal.main_arg4)
      ∧ r.2.mem ((c.tc : Thread Cert.MoeFirstRefIdeal.nD Cert.MoeFirstRefIdeal.τ).loc Cert.MoeFirstRefIdeal.main_arg5) = m ((c.tc : Thread Cert.MoeFirstRefIdeal.nD Cert.MoeFirstRefIdeal.τ).loc Cert.MoeFirstRefIdeal.main_arg5))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v42) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Residual_ResidualIdeal : Prop :=
  True

def algebraic_ResidualIdeal_ResidualRefIdeal [hResidualIdeal : Cert.ResidualIdeal.Facts] [hResidualRefIdeal : Cert.ResidualRefIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualRefIdeal.nD Cert.ResidualRefIdeal.τ Cert.ResidualRefIdeal.sig) → Buf (Elt Ideal) ℓ) (g' : Dev Cert.ResidualRefIdeal.nD → PrngReg), Pre_ResidualIdeal m →
    (∀ c : Dev Cert.ResidualIdeal.nD,
      m' ((c.tc : Thread Cert.ResidualRefIdeal.nD Cert.ResidualRefIdeal.τ).loc Cert.ResidualRefIdeal.main_arg0) = m ((c.tc : Thread Cert.ResidualIdeal.nD Cert.ResidualIdeal.τ).loc Cert.ResidualIdeal.main_arg0)
      ∧ m' ((c.tc : Thread Cert.ResidualRefIdeal.nD Cert.ResidualRefIdeal.τ).loc Cert.ResidualRefIdeal.main_arg1) = m ((c.tc : Thread Cert.ResidualIdeal.nD Cert.ResidualIdeal.τ).loc Cert.ResidualIdeal.main_arg1)
      ∧ m' ((c.tc : Thread Cert.ResidualRefIdeal.nD Cert.ResidualRefIdeal.τ).loc Cert.ResidualRefIdeal.main_arg2) = m ((c.tc : Thread Cert.ResidualIdeal.nD Cert.ResidualIdeal.τ).loc Cert.ResidualIdeal.main_arg2)
      ∧ m' ((c.tc : Thread Cert.ResidualRefIdeal.nD Cert.ResidualRefIdeal.τ).loc Cert.ResidualRefIdeal.main_arg3) = m ((c.tc : Thread Cert.ResidualIdeal.nD Cert.ResidualIdeal.τ).loc Cert.ResidualIdeal.main_arg3)) →
    ∃ (v0 : (c : Dev Cert.ResidualIdeal.nD) → Buf (Elt Ideal) ((c.tc : Thread Cert.ResidualIdeal.nD Cert.ResidualIdeal.τ).loc Cert.ResidualIdeal.main_v0)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v0) = v0 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ θ_run (Cert.ResidualRefIdeal.defs (F := Ideal)) (onTc (τ := Cert.ResidualRefIdeal.τ) (Cert.ResidualRefIdeal.main (F := Ideal))) ⟨m', fun _ => 0, g'⟩ (fun r => ∀ c : Dev Cert.ResidualRefIdeal.nD,
          r.2.mem ((c.tc : Thread Cert.ResidualRefIdeal.nD Cert.ResidualRefIdeal.τ).loc Cert.ResidualRefIdeal.main_v8) = v0 c
          ∧ r.2.mem ((c.tc : Thread Cert.ResidualRefIdeal.nD Cert.ResidualRefIdeal.τ).loc Cert.ResidualRefIdeal.main_arg0) = m' ((c.tc : Thread Cert.ResidualRefIdeal.nD Cert.ResidualRefIdeal.τ).loc Cert.ResidualRefIdeal.main_arg0)
          ∧ r.2.mem ((c.tc : Thread Cert.ResidualRefIdeal.nD Cert.ResidualRefIdeal.τ).loc Cert.ResidualRefIdeal.main_arg1) = m' ((c.tc : Thread Cert.ResidualRefIdeal.nD Cert.ResidualRefIdeal.τ).loc Cert.ResidualRefIdeal.main_arg1)
          ∧ r.2.mem ((c.tc : Thread Cert.ResidualRefIdeal.nD Cert.ResidualRefIdeal.τ).loc Cert.ResidualRefIdeal.main_arg2) = m' ((c.tc : Thread Cert.ResidualRefIdeal.nD Cert.ResidualRefIdeal.τ).loc Cert.ResidualRefIdeal.main_arg2)
          ∧ r.2.mem ((c.tc : Thread Cert.ResidualRefIdeal.nD Cert.ResidualRefIdeal.τ).loc Cert.ResidualRefIdeal.main_arg3) = m' ((c.tc : Thread Cert.ResidualRefIdeal.nD Cert.ResidualRefIdeal.τ).loc Cert.ResidualRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)) (v1 : (c : Dev Cert.ProjIdeal.nD) → Buf (Elt Ideal) ((c.tc : Thread Cert.ProjIdeal.nD Cert.ProjIdeal.τ).loc Cert.ProjIdeal.main_v1)) (v2 : (c : Dev Cert.ProjIdeal.nD) → Buf (Elt Ideal) ((c.tc : Thread Cert.ProjIdeal.nD Cert.ProjIdeal.τ).loc Cert.ProjIdeal.main_v2)) (v3 : (c : Dev Cert.ProjIdeal.nD) → Buf (Elt Ideal) ((c.tc : Thread Cert.ProjIdeal.nD Cert.ProjIdeal.τ).loc Cert.ProjIdeal.main_v3)) (v4 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_v1) = v1 c
          ∧ r.2.mem ((c.tc : Thread Cert.ProjIdeal.nD Cert.ProjIdeal.τ).loc Cert.ProjIdeal.main_v2) = v2 c
          ∧ r.2.mem ((c.tc : Thread Cert.ProjIdeal.nD Cert.ProjIdeal.τ).loc Cert.ProjIdeal.main_v3) = v3 c
          ∧ r.2.mem ((c.tc : Thread Cert.ProjIdeal.nD Cert.ProjIdeal.τ).loc Cert.ProjIdeal.main_v4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_v4) = v1 c
          ∧ r.2.mem ((c.tc : Thread Cert.ProjRefIdeal.nD Cert.ProjRefIdeal.τ).loc Cert.ProjRefIdeal.main_v5) = v2 c
          ∧ r.2.mem ((c.tc : Thread Cert.ProjRefIdeal.nD Cert.ProjRefIdeal.τ).loc Cert.ProjRefIdeal.main_v7) = v3 c
          ∧ r.2.mem ((c.tc : Thread Cert.ProjRefIdeal.nD Cert.ProjRefIdeal.τ).loc Cert.ProjRefIdeal.main_v9) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Moe_MoeIdeal : Prop :=
  True

def algebraic_MoeIdeal_MoeRefIdeal [hMoeIdeal : Cert.MoeIdeal.Facts] [hMoeRefIdeal : Cert.MoeRefIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v44) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_MoeFirst_MoeFirstIdeal : Prop :=
  True

def algebraic_MoeFirstIdeal_MoeFirstRefIdeal [hMoeFirstIdeal : Cert.MoeFirstIdeal.Facts] [hMoeFirstRefIdeal : Cert.MoeFirstRefIdeal.Facts] [hPre_experts_in_range : Cert.Pre_experts_in_range.Facts] : Prop :=
  ∀ (m : (ℓ : Loc Cert.MoeFirstIdeal.nD Cert.MoeFirstIdeal.τ Cert.MoeFirstIdeal.sig) → Buf (Elt Ideal) ℓ) (g : Dev Cert.MoeFirstIdeal.nD → PrngReg)
    (m' : (ℓ : Loc Cert.MoeFirstRefIdeal.nD Cert.MoeFirstRefIdeal.τ Cert.MoeFirstRefIdeal.sig) → Buf (Elt Ideal) ℓ) (g' : Dev Cert.MoeFirstRefIdeal.nD → PrngReg), Pre_MoeFirstIdeal m →
    (∀ c : Dev Cert.MoeFirstIdeal.nD,
      m' ((c.tc : Thread Cert.MoeFirstRefIdeal.nD Cert.MoeFirstRefIdeal.τ).loc Cert.MoeFirstRefIdeal.main_arg0) = m ((c.tc : Thread Cert.MoeFirstIdeal.nD Cert.MoeFirstIdeal.τ).loc Cert.MoeFirstIdeal.main_arg0)
      ∧ m' ((c.tc : Thread Cert.MoeFirstRefIdeal.nD Cert.MoeFirstRefIdeal.τ).loc Cert.MoeFirstRefIdeal.main_arg1) = m ((c.tc : Thread Cert.MoeFirstIdeal.nD Cert.MoeFirstIdeal.τ).loc Cert.MoeFirstIdeal.main_arg1)
      ∧ m' ((c.tc : Thread Cert.MoeFirstRefIdeal.nD Cert.MoeFirstRefIdeal.τ).loc Cert.MoeFirstRefIdeal.main_arg2) = m ((c.tc : Thread Cert.MoeFirstIdeal.nD Cert.MoeFirstIdeal.τ).loc Cert.MoeFirstIdeal.main_arg2)
      ∧ m' ((c.tc : Thread Cert.MoeFirstRefIdeal.nD Cert.MoeFirstRefIdeal.τ).loc Cert.MoeFirstRefIdeal.main_arg3) = m ((c.tc : Thread Cert.MoeFirstIdeal.nD Cert.MoeFirstIdeal.τ).loc Cert.MoeFirstIdeal.main_arg3)
      ∧ m' ((c.tc : Thread Cert.MoeFirstRefIdeal.nD Cert.MoeFirstRefIdeal.τ).loc Cert.MoeFirstRefIdeal.main_arg4) = m ((c.tc : Thread Cert.MoeFirstIdeal.nD Cert.MoeFirstIdeal.τ).loc Cert.MoeFirstIdeal.main_arg4)
      ∧ m' ((c.tc : Thread Cert.MoeFirstRefIdeal.nD Cert.MoeFirstRefIdeal.τ).loc Cert.MoeFirstRefIdeal.main_arg5) = m ((c.tc : Thread Cert.MoeFirstIdeal.nD Cert.MoeFirstIdeal.τ).loc Cert.MoeFirstIdeal.main_arg5)) →
    ∃ (v0 : (c : Dev Cert.MoeFirstIdeal.nD) → Buf (Elt Ideal) ((c.tc : Thread Cert.MoeFirstIdeal.nD Cert.MoeFirstIdeal.τ).loc Cert.MoeFirstIdeal.main_v0)),
      θ_run (Cert.MoeFirstIdeal.defs (F := Ideal)) (onTc (τ := Cert.MoeFirstIdeal.τ) (Cert.MoeFirstIdeal.main (F := Ideal))) ⟨m, fun _ => 0, g⟩ (fun r => ∀ c : Dev Cert.MoeFirstIdeal.nD,
          r.2.mem ((c.tc : Thread Cert.MoeFirstIdeal.nD Cert.MoeFirstIdeal.τ).loc Cert.MoeFirstIdeal.main_v0) = v0 c
          ∧ r.2.mem ((c.tc : Thread Cert.MoeFirstIdeal.nD Cert.MoeFirstIdeal.τ).loc Cert.MoeFirstIdeal.main_arg0) = m ((c.tc : Thread Cert.MoeFirstIdeal.nD Cert.MoeFirstIdeal.τ).loc Cert.MoeFirstIdeal.main_arg0)
          ∧ r.2.mem ((c.tc : Thread Cert.MoeFirstIdeal.nD Cert.MoeFirstIdeal.τ).loc Cert.MoeFirstIdeal.main_arg1) = m ((c.tc : Thread Cert.MoeFirstIdeal.nD Cert.MoeFirstIdeal.τ).loc Cert.MoeFirstIdeal.main_arg1)
          ∧ r.2.mem ((c.tc : Thread Cert.MoeFirstIdeal.nD Cert.MoeFirstIdeal.τ).loc Cert.MoeFirstIdeal.main_arg2) = m ((c.tc : Thread Cert.MoeFirstIdeal.nD Cert.MoeFirstIdeal.τ).loc Cert.MoeFirstIdeal.main_arg2)
          ∧ r.2.mem ((c.tc : Thread Cert.MoeFirstIdeal.nD Cert.MoeFirstIdeal.τ).loc Cert.MoeFirstIdeal.main_arg3) = m ((c.tc : Thread Cert.MoeFirstIdeal.nD Cert.MoeFirstIdeal.τ).loc Cert.MoeFirstIdeal.main_arg3)
          ∧ r.2.mem ((c.tc : Thread Cert.MoeFirstIdeal.nD Cert.MoeFirstIdeal.τ).loc Cert.MoeFirstIdeal.main_arg4) = m ((c.tc : Thread Cert.MoeFirstIdeal.nD Cert.MoeFirstIdeal.τ).loc Cert.MoeFirstIdeal.main_arg4)
          ∧ r.2.mem ((c.tc : Thread Cert.MoeFirstIdeal.nD Cert.MoeFirstIdeal.τ).loc Cert.MoeFirstIdeal.main_arg5) = m ((c.tc : Thread Cert.MoeFirstIdeal.nD Cert.MoeFirstIdeal.τ).loc Cert.MoeFirstIdeal.main_arg5))
      ∧ θ_run (Cert.MoeFirstRefIdeal.defs (F := Ideal)) (onTc (τ := Cert.MoeFirstRefIdeal.τ) (Cert.MoeFirstRefIdeal.main (F := Ideal))) ⟨m', fun _ => 0, g'⟩ (fun r => ∀ c : Dev Cert.MoeFirstRefIdeal.nD,
          r.2.mem ((c.tc : Thread Cert.MoeFirstRefIdeal.nD Cert.MoeFirstRefIdeal.τ).loc Cert.MoeFirstRefIdeal.main_v44) = v0 c
          ∧ r.2.mem ((c.tc : Thread Cert.MoeFirstRefIdeal.nD Cert.MoeFirstRefIdeal.τ).loc Cert.MoeFirstRefIdeal.main_arg0) = m' ((c.tc : Thread Cert.MoeFirstRefIdeal.nD Cert.MoeFirstRefIdeal.τ).loc Cert.MoeFirstRefIdeal.main_arg0)
          ∧ r.2.mem ((c.tc : Thread Cert.MoeFirstRefIdeal.nD Cert.MoeFirstRefIdeal.τ).loc Cert.MoeFirstRefIdeal.main_arg1) = m' ((c.tc : Thread Cert.MoeFirstRefIdeal.nD Cert.MoeFirstRefIdeal.τ).loc Cert.MoeFirstRefIdeal.main_arg1)
          ∧ r.2.mem ((c.tc : Thread Cert.MoeFirstRefIdeal.nD Cert.MoeFirstRefIdeal.τ).loc Cert.MoeFirstRefIdeal.main_arg2) = m' ((c.tc : Thread Cert.MoeFirstRefIdeal.nD Cert.MoeFirstRefIdeal.τ).loc Cert.MoeFirstRefIdeal.main_arg2)
          ∧ r.2.mem ((c.tc : Thread Cert.MoeFirstRefIdeal.nD Cert.MoeFirstRefIdeal.τ).loc Cert.MoeFirstRefIdeal.main_arg3) = m' ((c.tc : Thread Cert.MoeFirstRefIdeal.nD Cert.MoeFirstRefIdeal.τ).loc Cert.MoeFirstRefIdeal.main_arg3)
          ∧ r.2.mem ((c.tc : Thread Cert.MoeFirstRefIdeal.nD Cert.MoeFirstRefIdeal.τ).loc Cert.MoeFirstRefIdeal.main_arg4) = m' ((c.tc : Thread Cert.MoeFirstRefIdeal.nD Cert.MoeFirstRefIdeal.τ).loc Cert.MoeFirstRefIdeal.main_arg4)
          ∧ r.2.mem ((c.tc : Thread Cert.MoeFirstRefIdeal.nD Cert.MoeFirstRefIdeal.τ).loc Cert.MoeFirstRefIdeal.main_arg5) = m' ((c.tc : Thread Cert.MoeFirstRefIdeal.nD Cert.MoeFirstRefIdeal.τ).loc Cert.MoeFirstRefIdeal.main_arg5))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)
      ∧ m' ((c.tc : Thread Cert.CombineRefIdeal.nD Cert.CombineRefIdeal.τ).loc Cert.CombineRefIdeal.main_arg7) = m ((c.tc : Thread Cert.CombineIdeal.nD Cert.CombineIdeal.τ).loc Cert.CombineIdeal.main_arg7)) →
    ∃ (v0 : (c : Dev Cert.CombineIdeal.nD) → Buf (Elt Ideal) ((c.tc : Thread Cert.CombineIdeal.nD Cert.CombineIdeal.τ).loc Cert.CombineIdeal.main_v5)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v5) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v23) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6)
          ∧ r.2.mem ((c.tc : Thread Cert.CombineRefIdeal.nD Cert.CombineRefIdeal.τ).loc Cert.CombineRefIdeal.main_arg7) = m' ((c.tc : Thread Cert.CombineRefIdeal.nD Cert.CombineRefIdeal.τ).loc Cert.CombineRefIdeal.main_arg7))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v22) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)) →
    ∃ (v0 : (c : Dev Cert.RouterIdeal.nD) → Buf (Elt Ideal) ((c.tc : Thread Cert.RouterIdeal.nD Cert.RouterIdeal.τ).loc Cert.RouterIdeal.main_v1_0)) (v1 : (c : Dev Cert.RouterIdeal.nD) → Buf (Elt Ideal) ((c.tc : Thread Cert.RouterIdeal.nD Cert.RouterIdeal.τ).loc Cert.RouterIdeal.main_v1_1)) (v2 : (c : Dev Cert.RouterIdeal.nD) → Buf (Elt Ideal) ((c.tc : Thread Cert.RouterIdeal.nD Cert.RouterIdeal.τ).loc Cert.RouterIdeal.main_v1_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v1_0) = v0 c
          ∧ r.2.mem ((c.tc : Thread Cert.RouterIdeal.nD Cert.RouterIdeal.τ).loc Cert.RouterIdeal.main_v1_1) = v1 c
          ∧ r.2.mem ((c.tc : Thread Cert.RouterIdeal.nD Cert.RouterIdeal.τ).loc Cert.RouterIdeal.main_v1_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v22) = v0 c
          ∧ r.2.mem ((c.tc : Thread Cert.RouterRefIdeal.nD Cert.RouterRefIdeal.τ).loc Cert.RouterRefIdeal.main_v24) = v1 c
          ∧ r.2.mem ((c.tc : Thread Cert.RouterRefIdeal.nD Cert.RouterRefIdeal.τ).loc Cert.RouterRefIdeal.main_v25) = v2 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hResidual : Cert.Residual.Facts) (hResidualIdeal : Cert.ResidualIdeal.Facts) (hResidualRefIdeal : Cert.ResidualRefIdeal.Facts) (hProj : Cert.Proj.Facts) (hProjIdeal : Cert.ProjIdeal.Facts) (hProjRefIdeal : Cert.ProjRefIdeal.Facts) (hMoe : Cert.Moe.Facts) (hMoeIdeal : Cert.MoeIdeal.Facts) (hMoeRefIdeal : Cert.MoeRefIdeal.Facts) (hMoeFirst : Cert.MoeFirst.Facts) (hMoeFirstIdeal : Cert.MoeFirstIdeal.Facts) (hMoeFirstRefIdeal : Cert.MoeFirstRefIdeal.Facts) (hCombine : Cert.Combine.Facts) (hCombineIdeal : Cert.CombineIdeal.Facts) (hCombineRefIdeal : Cert.CombineRefIdeal.Facts) (hNorm : Cert.Norm.Facts) (hNormIdeal : Cert.NormIdeal.Facts) (hNormRefIdeal : Cert.NormRefIdeal.Facts) (hRouter : Cert.Router.Facts) (hRouterIdeal : Cert.RouterIdeal.Facts) (hRouterRefIdeal : Cert.RouterRefIdeal.Facts) (hPre_experts_in_range : Cert.Pre_experts_in_range.Facts),
    quiescent_Kernel (hKernel := hKernel)
    ∧ quiescent_KernelIdeal (hKernelIdeal := hKernelIdeal)
    ∧ quiescent_ReferenceIdeal (hReferenceIdeal := hReferenceIdeal)
    ∧ quiescent_Merge (hMerge := hMerge)
    ∧ quiescent_MergeIdeal (hMergeIdeal := hMergeIdeal)
    ∧ quiescent_MergeRefIdeal (hMergeRefIdeal := hMergeRefIdeal)
    ∧ quiescent_Residual (hResidual := hResidual)
    ∧ quiescent_ResidualIdeal (hResidualIdeal := hResidualIdeal)
    ∧ quiescent_ResidualRefIdeal (hResidualRefIdeal := hResidualRefIdeal)
    ∧ quiescent_Proj (hProj := hProj)
    ∧ quiescent_ProjIdeal (hProjIdeal := hProjIdeal)
    ∧ quiescent_ProjRefIdeal (hProjRefIdeal := hProjRefIdeal)
    ∧ quiescent_Moe (hMoe := hMoe) (hPre_experts_in_range := hPre_experts_in_range)
    ∧ quiescent_MoeIdeal (hMoeIdeal := hMoeIdeal) (hPre_experts_in_range := hPre_experts_in_range)
    ∧ quiescent_MoeRefIdeal (hMoeRefIdeal := hMoeRefIdeal) (hPre_experts_in_range := hPre_experts_in_range)
    ∧ quiescent_MoeFirst (hMoeFirst := hMoeFirst) (hPre_experts_in_range := hPre_experts_in_range)
    ∧ quiescent_MoeFirstIdeal (hMoeFirstIdeal := hMoeFirstIdeal) (hPre_experts_in_range := hPre_experts_in_range)
    ∧ quiescent_MoeFirstRefIdeal (hMoeFirstRefIdeal := hMoeFirstRefIdeal) (hPre_experts_in_range := hPre_experts_in_range)
    ∧ quiescent_Combine (hCombine := hCombine)
    ∧ quiescent_CombineIdeal (hCombineIdeal := hCombineIdeal)
    ∧ quiescent_CombineRefIdeal (hCombineRefIdeal := hCombineRefIdeal)
    ∧ quiescent_Norm (hNorm := hNorm)
    ∧ quiescent_NormIdeal (hNormIdeal := hNormIdeal)
    ∧ quiescent_NormRefIdeal (hNormRefIdeal := hNormRefIdeal)
    ∧ quiescent_Router (hRouter := hRouter)
    ∧ quiescent_RouterIdeal (hRouterIdeal := hRouterIdeal)
    ∧ quiescent_RouterRefIdeal (hRouterRefIdeal := hRouterRefIdeal)
    ∧ preserves_Kernel_KernelIdeal
    ∧ algebraic_KernelIdeal_ReferenceIdeal (hKernelIdeal := hKernelIdeal) (hReferenceIdeal := hReferenceIdeal)
    ∧ preserves_Merge_MergeIdeal
    ∧ algebraic_MergeIdeal_MergeRefIdeal (hMergeIdeal := hMergeIdeal) (hMergeRefIdeal := hMergeRefIdeal)
    ∧ preserves_Residual_ResidualIdeal
    ∧ algebraic_ResidualIdeal_ResidualRefIdeal (hResidualIdeal := hResidualIdeal) (hResidualRefIdeal := hResidualRefIdeal)
    ∧ preserves_Proj_ProjIdeal
    ∧ algebraic_ProjIdeal_ProjRefIdeal (hProjIdeal := hProjIdeal) (hProjRefIdeal := hProjRefIdeal)
    ∧ preserves_Moe_MoeIdeal
    ∧ algebraic_MoeIdeal_MoeRefIdeal (hMoeIdeal := hMoeIdeal) (hMoeRefIdeal := hMoeRefIdeal) (hPre_experts_in_range := hPre_experts_in_range)
    ∧ preserves_MoeFirst_MoeFirstIdeal
    ∧ algebraic_MoeFirstIdeal_MoeFirstRefIdeal (hMoeFirstIdeal := hMoeFirstIdeal) (hMoeFirstRefIdeal := hMoeFirstRefIdeal) (hPre_experts_in_range := hPre_experts_in_range)
    ∧ preserves_Combine_CombineIdeal
    ∧ algebraic_CombineIdeal_CombineRefIdeal (hCombineIdeal := hCombineIdeal) (hCombineRefIdeal := hCombineRefIdeal)
    ∧ preserves_Norm_NormIdeal
    ∧ algebraic_NormIdeal_NormRefIdeal (hNormIdeal := hNormIdeal) (hNormRefIdeal := hNormRefIdeal)
    ∧ preserves_Router_RouterIdeal
    ∧ algebraic_RouterIdeal_RouterRefIdeal (hRouterIdeal := hRouterIdeal) (hRouterRefIdeal := hRouterRefIdeal)
-- ==== Pre_experts_in_range.lean ====
abbrev S163840x1024 : Shape := ⟨2, ![163840, 1024]⟩
abbrev S320 : Shape := ⟨1, ![320]⟩
abbrev S1 : Shape := ⟨1, ![1]⟩
abbrev S128x2048x512 : Shape := ⟨3, ![128, 2048, 512]⟩
abbrev S128x512x2048 : Shape := ⟨3, ![128, 512, 2048]⟩
abbrev S_ : Shape := ⟨0, ![]⟩

class Facts : Prop where
  bcast_S_S320 : S_.BroadcastsInDim S320 (![] : Fin 0 → Fin S320.rank)
  reducesTo_S320_S_d0 : S320.ReducesTo [0] S_
  h_S_ : 0 < S_.numel

variable [Facts]

def fn {F : FTy → Type} [FloatOps F] (main_arg0 : IVec S163840x1024 32) (main_arg1 : IVec S320 32) (main_arg2 : IVec S1 32) (main_arg3 : FVec F S128x2048x512 .f32) (main_arg4 : FVec F S128x2048x512 .f32) (main_arg5 : FVec F S128x512x2048 .f32) : IVec S_ 1 :=
  let main_c : IVec S_ 32 := constantI S_ 32 0#32
  let main_v0 : IVec S320 32 := broadcastInDim S320 ![] bcast_S_S320 main_c
  let main_v1 : IVec S320 1 := cmpi .sge main_arg1 main_v0
  let main_c_0 : IVec S_ 32 := constantI S_ 32 64#32
  let main_v2 : IVec S320 32 := broadcastInDim S320 ![] bcast_S_S320 main_c_0
  let main_v3 : IVec S320 1 := cmpi .slt main_arg1 main_v2
  let main_v4 : IVec S320 1 := andi main_v1 main_v3
  let main_c_1 : IVec S_ 1 := constantI S_ 1 1#1
  let main_v5 : IVec S_ 1 := (fun x v => Host.reduce IntOp.andi x v reducesTo_S320_S_d0 h_S_) main_v4 main_c_1
  main_v5
-- ==== Kernel.lean ====
abbrev S8x2048x8x64 : Shape := ⟨4, ![8, 2048, 8, 64]⟩
abbrev S1x8x2048x8x64 : Shape := ⟨5, ![1, 8, 2048, 8, 64]⟩
abbrev S5x8x2048x8x64 : Shape := ⟨5, ![5, 8, 2048, 8, 64]⟩
abbrev S2048x5x64x8x8 : Shape := ⟨5, ![2048, 5, 64, 8, 8]⟩
abbrev S2048x5x64x64 : Shape := ⟨4, ![2048, 5, 64, 64]⟩
abbrev S2048x5x64x128 : Shape := ⟨4, ![2048, 5, 64, 128]⟩
abbrev S2048x5x8x8x128 : Shape := ⟨5, ![2048, 5, 8, 8, 128]⟩
abbrev S8x2048x8x2x32 : Shape := ⟨5, ![8, 2048, 8, 2, 32]⟩
abbrev S2048x32x2x8x8 : Shape := ⟨5, ![2048, 32, 2, 8, 8]⟩
abbrev S2048x4x8x128 : Shape := ⟨4, ![2048, 4, 8, 128]⟩
abbrev S32x5x8x8x128 : Shape := ⟨5, ![32, 5, 8, 8, 128]⟩
abbrev S32x4x8x128 : Shape := ⟨4, ![32, 4, 8, 128]⟩
abbrev S32x8x8x128 : Shape := ⟨4, ![32, 8, 8, 128]⟩
abbrev S8x128 : Shape := ⟨2, ![8, 128]⟩
abbrev S1x1x8x8x128 : Shape := ⟨5, ![1, 1, 8, 8, 128]⟩
abbrev S8x8x128 : Shape := ⟨3, ![8, 8, 128]⟩
abbrev S1x8x8x128 : Shape := ⟨4, ![1, 8, 8, 128]⟩
abbrev S128 : Shape := ⟨1, ![128]⟩
abbrev S1x128 : Shape := ⟨2, ![1, 128]⟩
abbrev S1x1x1x128 : Shape := ⟨4, ![1, 1, 1, 128]⟩
abbrev S1x1x128 : Shape := ⟨3, ![1, 1, 128]⟩
abbrev S1x1x8x128 : Shape := ⟨4, ![1, 1, 8, 128]⟩

abbrev nBuf : Space → Nat
  | .hbm => 24
  | .vmem => 7
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x8x64, .f32⟩
  | .hbm, ⟨3, _⟩ => ⟨S8x2048x8x64, .f32⟩
  | .hbm, ⟨4, _⟩ => ⟨S8x2048x8x64, .f32⟩
  | .hbm, ⟨5, _⟩ => ⟨S8x2048x8x64, .f32⟩
  | .hbm, ⟨6, _⟩ => ⟨S8x2048x8x64, .f32⟩
  | .hbm, ⟨7, _⟩ => ⟨S1x8x2048x8x64, .f32⟩
  | .hbm, ⟨8, _⟩ => ⟨S1x8x2048x8x64, .f32⟩
  | .hbm, ⟨9, _⟩ => ⟨S1x8x2048x8x64, .f32⟩
  | .hbm, ⟨10, _⟩ => ⟨S1x8x2048x8x64, .f32⟩
  | .hbm, ⟨11, _⟩ => ⟨S1x8x2048x8x64, .f32⟩
  | .hbm, ⟨12, _⟩ => ⟨S5x8x2048x8x64, .f32⟩
  | .hbm, ⟨13, _⟩ => ⟨S2048x5x64x8x8, .f32⟩
  | .hbm, ⟨14, _⟩ => ⟨S2048x5x64x64, .f32⟩
  | .hbm, ⟨15, _⟩ => ⟨S2048x5x64x128, .f32⟩
  | .hbm, ⟨16, _⟩ => ⟨S2048x5x8x8x128, .f32⟩
  | .hbm, ⟨17, _⟩ => ⟨S8x2048x8x2x32, .f32⟩
  | .hbm, ⟨18, _⟩ => ⟨S2048x32x2x8x8, .f32⟩
  | .hbm, ⟨19, _⟩ => ⟨S2048x4x8x128, .f32⟩
  | .hbm, ⟨20, _⟩ => ⟨S2048x4x8x128, .f32⟩
  | .hbm, ⟨21, _⟩ => ⟨S2048x32x2x8x8, .f32⟩
  | .hbm, ⟨22, _⟩ => ⟨S8x2048x8x2x32, .f32⟩
  | .hbm, ⟨23, _⟩ => ⟨S8x2048x8x64, .f32⟩
  | .local _ .vmem, ⟨0, _⟩ => ⟨S32x5x8x8x128, .f32⟩
  | .local _ .vmem, ⟨1, _⟩ => ⟨S32x5x8x8x128, .f32⟩
  | .local _ .vmem, ⟨2, _⟩ => ⟨S32x4x8x128, .f32⟩
  | .local _ .vmem, ⟨3, _⟩ => ⟨S32x4x8x128, .f32⟩
  | .local _ .vmem, ⟨4, _⟩ => ⟨S32x4x8x128, .f32⟩
  | .local _ .vmem, ⟨5, _⟩ => ⟨S32x4x8x128, .f32⟩
  | .local _ .vmem, ⟨6, _⟩ => ⟨S32x8x8x128, .f32⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_1 : BitVec 32 := 0#32
  let c32_i32 : BitVec 32 := 32#32
  let v4 : BitVec 32 := Scalar.addi c0_i32_1 c32_i32
  let c1_i32 : BitVec 32 := 1#32
  ⟨c0_i32_1, v4, c1_i32⟩
def k0_off1 (k0_t1 : Fin k0_t1_loop.trips) : Fin 5 → Nat :=
  let c0_i32_1 : BitVec 32 := 0#32
  let c1_i32 : BitVec 32 := 1#32
  let arg5 : BitVec 32 := Scf.iv c0_i32_1 c1_i32 k0_t1
  let v5 : Index := Scalar.indexCast arg5
  let c0 : Index := 0#32
  let c0_3 : Index := 0#32
  let c0_4 : Index := 0#32
  let c0_5 : Index := 0#32
  ![v5.toNat, 0, 0, 0, 0]
def k0_off2 (k0_t1 : Fin k0_t1_loop.trips) : Fin 5 → Nat :=
  let c0_i32_1 : BitVec 32 := 0#32
  let c1_i32 : BitVec 32 := 1#32
  let arg5 : BitVec 32 := Scf.iv c0_i32_1 c1_i32 k0_t1
  let v8 : Index := Scalar.indexCast arg5
  let c1 : Index := 1#32
  let c0_6 : Index := 0#32
  let c0_7 : Index := 0#32
  let c0_8 : Index := 0#32
  ![v8.toNat, 1, 0, 0, 0]
def k0_off3 (k0_t1 : Fin k0_t1_loop.trips) : Fin 5 → Nat :=
  let c0_i32_1 : BitVec 32 := 0#32
  let c1_i32 : BitVec 32 := 1#32
  let arg5 : BitVec 32 := Scf.iv c0_i32_1 c1_i32 k0_t1
  let v11 : Index := Scalar.indexCast arg5
  let c2 : Index := 2#32
  let c0_9 : Index := 0#32
  let c0_10 : Index := 0#32
  let c0_11 : Index := 0#32
  ![v11.toNat, 2, 0, 0, 0]
def k0_off4 (k0_t1 : Fin k0_t1_loop.trips) : Fin 5 → Nat :=
  let c0_i32_1 : BitVec 32 := 0#32
  let c1_i32 : BitVec 32 := 1#32
  let arg5 : BitVec 32 := Scf.iv c0_i32_1 c1_i32 k0_t1
  let v14 : Index := Scalar.indexCast arg5
  let c3 : Index := 3#32
  let c0_12 : Index := 0#32
  let c0_13 : Index := 0#32
  let c0_14 : Index := 0#32
  ![v14.toNat, 3, 0, 0, 0]
def k0_off5 (k0_t1 : Fin k0_t1_loop.trips) : Fin 5 → Nat :=
  let c0_i32_1 : BitVec 32 := 0#32
  let c1_i32 : BitVec 32 := 1#32
  let arg5 : BitVec 32 := Scf.iv c0_i32_1 c1_i32 k0_t1
  let v17 : Index := Scalar.indexCast arg5
  let c4 : Index := 4#32
  let c0_15 : Index := 0#32
  let c0_16 : Index := 0#32
  let c0_17 : Index := 0#32
  ![v17.toNat, 4, 0, 0, 0]
def k0_off6 (c0_i32_18 : BitVec 32) (c0_i32_19 : BitVec 32) : Fin 4 → Nat :=
  let c8_i32 : BitVec 32 := 8#32
  let v21 : BitVec 32 := Scalar.muli c0_i32_18 c8_i32
  let v22 : BitVec 32 := Scalar.addi v21 c0_i32_19
  let v23 : Index := Scalar.indexCast v22
  let c0_20 : Index := 0#32
  let c0_21 : Index := 0#32
  let c0_22 : Index := 0#32
  ![v23.toNat, 0, 0, 0]
def k0_off7 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v30 : Index := Scalar.indexCast arg5
  let c0_i32_18 : BitVec 32 := 0#32
  let v31 : Index := Scalar.indexCast c0_i32_18
  let c0_25 : Index := 0#32
  let c0_26 : Index := 0#32
  ![v30.toNat, 0, 0, 0]
def k0_off8 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v65 : Index := Scalar.indexCast arg5
  let c0_i32_18 : BitVec 32 := 0#32
  let v66 : Index := Scalar.indexCast c0_i32_18
  let c1_40 : Index := 1#32
  let c0_41 : Index := 0#32
  ![v65.toNat, 0, 1, 0]
def k0_off9 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v100 : Index := Scalar.indexCast arg5
  let c0_i32_18 : BitVec 32 := 0#32
  let v101 : Index := Scalar.indexCast c0_i32_18
  let c2_54 : Index := 2#32
  let c0_55 : Index := 0#32
  ![v100.toNat, 0, 2, 0]
def k0_off10 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v135 : Index := Scalar.indexCast arg5
  let c0_i32_18 : BitVec 32 := 0#32
  let v136 : Index := Scalar.indexCast c0_i32_18
  let c3_68 : Index := 3#32
  let c0_69 : Index := 0#32
  ![v135.toNat, 0, 3, 0]
def k0_off11 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v170 : Index := Scalar.indexCast arg5
  let c0_i32_18 : BitVec 32 := 0#32
  let v171 : Index := Scalar.indexCast c0_i32_18
  let c4_82 : Index := 4#32
  let c0_83 : Index := 0#32
  ![v170.toNat, 0, 4, 0]
def k0_off12 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v205 : Index := Scalar.indexCast arg5
  let c0_i32_18 : BitVec 32 := 0#32
  let v206 : Index := Scalar.indexCast c0_i32_18
  let c5 : Index := 5#32
  let c0_96 : Index := 0#32
  ![v205.toNat, 0, 5, 0]
def k0_off13 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v240 : Index := Scalar.indexCast arg5
  let c0_i32_18 : BitVec 32 := 0#32
  let v241 : Index := Scalar.indexCast c0_i32_18
  let c6 : Index := 6#32
  let c0_109 : Index := 0#32
  ![v240.toNat, 0, 6, 0]
def k0_off14 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v275 : Index := Scalar.indexCast arg5
  let c0_i32_18 : BitVec 32 := 0#32
  let v276 : Index := Scalar.indexCast c0_i32_18
  let c7 : Index := 7#32
  let c0_122 : Index := 0#32
  ![v275.toNat, 0, 7, 0]
def k0_off15 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v301 : Index := Scalar.indexCast arg5
  let c0_i32_18 : BitVec 32 := 0#32
  let v302 : Index := Scalar.indexCast c0_i32_18
  let c0_129 : Index := 0#32
  let c0_130 : Index := 0#32
  ![v301.toNat, 0, 0, 0]
def k0_off16 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v316 : Index := Scalar.indexCast arg5
  let c1_i32_131 : BitVec 32 := 1#32
  let v317 : Index := Scalar.indexCast c1_i32_131
  let c0_140 : Index := 0#32
  let c0_141 : Index := 0#32
  ![v316.toNat, 1, 0, 0]
def k0_off17 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v351 : Index := Scalar.indexCast arg5
  let c1_i32_131 : BitVec 32 := 1#32
  let v352 : Index := Scalar.indexCast c1_i32_131
  let c1_155 : Index := 1#32
  let c0_156 : Index := 0#32
  ![v351.toNat, 1, 1, 0]
def k0_off18 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v386 : Index := Scalar.indexCast arg5
  let c1_i32_131 : BitVec 32 := 1#32
  let v387 : Index := Scalar.indexCast c1_i32_131
  let c2_170 : Index := 2#32
  let c0_171 : Index := 0#32
  ![v386.toNat, 1, 2, 0]
def k0_off19 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v421 : Index := Scalar.indexCast arg5
  let c1_i32_131 : BitVec 32 := 1#32
  let v422 : Index := Scalar.indexCast c1_i32_131
  let c3_185 : Index := 3#32
  let c0_186 : Index := 0#32
  ![v421.toNat, 1, 3, 0]
def k0_off20 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v456 : Index := Scalar.indexCast arg5
  let c1_i32_131 : BitVec 32 := 1#32
  let v457 : Index := Scalar.indexCast c1_i32_131
  let c4_200 : Index := 4#32
  let c0_201 : Index := 0#32
  ![v456.toNat, 1, 4, 0]
def k0_off21 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v491 : Index := Scalar.indexCast arg5
  let c1_i32_131 : BitVec 32 := 1#32
  let v492 : Index := Scalar.indexCast c1_i32_131
  let c5_215 : Index := 5#32
  let c0_216 : Index := 0#32
  ![v491.toNat, 1, 5, 0]
def k0_off22 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v526 : Index := Scalar.indexCast arg5
  let c1_i32_131 : BitVec 32 := 1#32
  let v527 : Index := Scalar.indexCast c1_i32_131
  let c6_230 : Index := 6#32
  let c0_231 : Index := 0#32
  ![v526.toNat, 1, 6, 0]
def k0_off23 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v561 : Index := Scalar.indexCast arg5
  let c1_i32_131 : BitVec 32 := 1#32
  let v562 : Index := Scalar.indexCast c1_i32_131
  let c7_245 : Index := 7#32
  let c0_246 : Index := 0#32
  ![v561.toNat, 1, 7, 0]
def k0_off24 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v587 : Index := Scalar.indexCast arg5
  let c1_i32_131 : BitVec 32 := 1#32
  let v588 : Index := Scalar.indexCast c1_i32_131
  let c0_253 : Index := 0#32
  let c0_254 : Index := 0#32
  ![v587.toNat, 1, 0, 0]
def k0_off25 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v602 : Index := Scalar.indexCast arg5
  let c2_i32_255 : BitVec 32 := 2#32
  let v603 : Index := Scalar.indexCast c2_i32_255
  let c0_264 : Index := 0#32
  let c0_265 : Index := 0#32
  ![v602.toNat, 2, 0, 0]
def k0_off26 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v637 : Index := Scalar.indexCast arg5
  let c2_i32_255 : BitVec 32 := 2#32
  let v638 : Index := Scalar.indexCast c2_i32_255
  let c1_279 : Index := 1#32
  let c0_280 : Index := 0#32
  ![v637.toNat, 2, 1, 0]
def k0_off27 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v672 : Index := Scalar.indexCast arg5
  let c2_i32_255 : BitVec 32 := 2#32
  let v673 : Index := Scalar.indexCast c2_i32_255
  let c2_294 : Index := 2#32
  let c0_295 : Index := 0#32
  ![v672.toNat, 2, 2, 0]
def k0_off28 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v707 : Index := Scalar.indexCast arg5
  let c2_i32_255 : BitVec 32 := 2#32
  let v708 : Index := Scalar.indexCast c2_i32_255
  let c3_309 : Index := 3#32
  let c0_310 : Index := 0#32
  ![v707.toNat, 2, 3, 0]
def k0_off29 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v742 : Index := Scalar.indexCast arg5
  let c2_i32_255 : BitVec 32 := 2#32
  let v743 : Index := Scalar.indexCast c2_i32_255
  let c4_324 : Index := 4#32
  let c0_325 : Index := 0#32
  ![v742.toNat, 2, 4, 0]
def k0_off30 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v777 : Index := Scalar.indexCast arg5
  let c2_i32_255 : BitVec 32 := 2#32
  let v778 : Index := Scalar.indexCast c2_i32_255
  let c5_339 : Index := 5#32
  let c0_340 : Index := 0#32
  ![v777.toNat, 2, 5, 0]
def k0_off31 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v812 : Index := Scalar.indexCast arg5
  let c2_i32_255 : BitVec 32 := 2#32
  let v813 : Index := Scalar.indexCast c2_i32_255
  let c6_354 : Index := 6#32
  let c0_355 : Index := 0#32
  ![v812.toNat, 2, 6, 0]
def k0_off32 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v847 : Index := Scalar.indexCast arg5
  let c2_i32_255 : BitVec 32 := 2#32
  let v848 : Index := Scalar.indexCast c2_i32_255
  let c7_369 : Index := 7#32
  let c0_370 : Index := 0#32
  ![v847.toNat, 2, 7, 0]
def k0_off33 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v873 : Index := Scalar.indexCast arg5
  let c2_i32_255 : BitVec 32 := 2#32
  let v874 : Index := Scalar.indexCast c2_i32_255
  let c0_377 : Index := 0#32
  let c0_378 : Index := 0#32
  ![v873.toNat, 2, 0, 0]
def k0_off34 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v888 : Index := Scalar.indexCast arg5
  let c3_i32_379 : BitVec 32 := 3#32
  let v889 : Index := Scalar.indexCast c3_i32_379
  let c0_388 : Index := 0#32
  let c0_389 : Index := 0#32
  ![v888.toNat, 3, 0, 0]
def k0_off35 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v923 : Index := Scalar.indexCast arg5
  let c3_i32_379 : BitVec 32 := 3#32
  let v924 : Index := Scalar.indexCast c3_i32_379
  let c1_403 : Index := 1#32
  let c0_404 : Index := 0#32
  ![v923.toNat, 3, 1, 0]
def k0_off36 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v958 : Index := Scalar.indexCast arg5
  let c3_i32_379 : BitVec 32 := 3#32
  let v959 : Index := Scalar.indexCast c3_i32_379
  let c2_418 : Index := 2#32
  let c0_419 : Index := 0#32
  ![v958.toNat, 3, 2, 0]
def k0_off37 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v993 : Index := Scalar.indexCast arg5
  let c3_i32_379 : BitVec 32 := 3#32
  let v994 : Index := Scalar.indexCast c3_i32_379
  let c3_433 : Index := 3#32
  let c0_434 : Index := 0#32
  ![v993.toNat, 3, 3, 0]
def k0_off38 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v1028 : Index := Scalar.indexCast arg5
  let c3_i32_379 : BitVec 32 := 3#32
  let v1029 : Index := Scalar.indexCast c3_i32_379
  let c4_448 : Index := 4#32
  let c0_449 : Index := 0#32
  ![v1028.toNat, 3, 4, 0]
def k0_off39 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v1063 : Index := Scalar.indexCast arg5
  let c3_i32_379 : BitVec 32 := 3#32
  let v1064 : Index := Scalar.indexCast c3_i32_379
  let c5_463 : Index := 5#32
  let c0_464 : Index := 0#32
  ![v1063.toNat, 3, 5, 0]
def k0_off40 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v1098 : Index := Scalar.indexCast arg5
  let c3_i32_379 : BitVec 32 := 3#32
  let v1099 : Index := Scalar.indexCast c3_i32_379
  let c6_478 : Index := 6#32
  let c0_479 : Index := 0#32
  ![v1098.toNat, 3, 6, 0]
def k0_off41 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v1133 : Index := Scalar.indexCast arg5
  let c3_i32_379 : BitVec 32 := 3#32
  let v1134 : Index := Scalar.indexCast c3_i32_379
  let c7_493 : Index := 7#32
  let c0_494 : Index := 0#32
  ![v1133.toNat, 3, 7, 0]
def k0_off42 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v1159 : Index := Scalar.indexCast arg5
  let c3_i32_379 : BitVec 32 := 3#32
  let v1160 : Index := Scalar.indexCast c3_i32_379
  let c0_501 : Index := 0#32
  let c0_502 : Index := 0#32
  ![v1159.toNat, 3, 0, 0]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x5x8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x2048x8x64 : Shape := ⟨4, ![8, 2048, 8, 64]⟩
abbrev S2048x8x8x64 : Shape := ⟨4, ![2048, 8, 8, 64]⟩
abbrev S_ : Shape := ⟨0, ![]⟩
abbrev S8x8x64x64 : Shape := ⟨4, ![8, 8, 64, 64]⟩
abbrev S1x8x8x64 : Shape := ⟨4, ![1, 8, 8, 64]⟩
abbrev S8x8x64 : Shape := ⟨3, ![8, 8, 64]⟩
abbrev S8x8x1x64 : Shape := ⟨4, ![8, 8, 1, 64]⟩
abbrev S8x8x64x1 : Shape := ⟨4, ![8, 8, 64, 1]⟩

abbrev nBuf : Space → Nat
  | .hbm => 84
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x8x64, .f32⟩
  | .hbm, ⟨3, _⟩ => ⟨S8x2048x8x64, .f32⟩
  | .hbm, ⟨4, _⟩ => ⟨S8x2048x8x64, .f32⟩
  | .hbm, ⟨5, _⟩ => ⟨S8x2048x8x64, .f32⟩
  | .hbm, ⟨6, _⟩ => ⟨S2048x8x8x64, .f32⟩
  | .hbm, ⟨7, _⟩ => ⟨S2048x8x8x64, .f32⟩
  | .hbm, ⟨8, _⟩ => ⟨S2048x8x8x64, .f32⟩
  | .hbm, ⟨9, _⟩ => ⟨S2048x8x8x64, .f32⟩
  | .hbm, ⟨10, _⟩ => ⟨S2048x8x8x64, .f32⟩
  | .hbm, ⟨11, _⟩ => ⟨S2048x8x8x64, .f32⟩
  | .hbm, ⟨12, _⟩ => ⟨S_, .f32⟩
  | .hbm, ⟨13, _⟩ => ⟨S8x8x64x64, .f32⟩
  | .hbm, ⟨14, _⟩ => ⟨S_, .f32⟩
  | .hbm, ⟨15, _⟩ => ⟨S2048x8x8x64, .f32⟩
  | .hbm, ⟨16, _⟩ => ⟨S_, .i32⟩
  | .hbm, ⟨17, _⟩ => ⟨S2048x8x8x64, .f32⟩
  | .hbm, ⟨18, _⟩ => ⟨S2048x8x8x64, .f32⟩
  | .hbm, ⟨19, _⟩ => ⟨S2048x8x8x64, .f32⟩
  | .hbm, ⟨20, _⟩ => ⟨S2048x8x8x64, .f32⟩
  | .hbm, ⟨21, _⟩ => ⟨S2048x8x8x64, .f32⟩
  | .hbm, ⟨22, _⟩ => ⟨S2048x8x8x64, .f32⟩
  | .hbm, ⟨23, _⟩ => ⟨S_, .i32⟩
  | .hbm, ⟨24, _⟩ => ⟨S8x8x64x64, .f32⟩
  | .hbm, ⟨25, _⟩ => ⟨S2048x8x8x64, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x8x8x64, .f32⟩
  | .hbm, ⟨32, _⟩ => ⟨S8x8x64, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x8x8x64, .f32⟩
  | .hbm, ⟨37, _⟩ => ⟨S8x8x64, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x8x8x64, .f32⟩
  | .hbm, ⟨42, _⟩ => ⟨S8x8x64, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x8x8x64, .f32⟩
  | .hbm, ⟨47, _⟩ => ⟨S8x8x64, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x8x8x64, .f32⟩
  | .hbm, ⟨52, _⟩ => ⟨S8x8x64, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x8x8x64, .f32⟩
  | .hbm, ⟨57, _⟩ => ⟨S8x8x64, .f32⟩
  | .hbm, ⟨58, _⟩ => ⟨S8x8x64, .f32⟩
  | .hbm, ⟨59, _⟩ => ⟨S8x8x1x64, .f32⟩
  | .hbm, ⟨60, _⟩ => ⟨S8x8x64x64, .f32⟩
  | .hbm, ⟨61, _⟩ => ⟨S8x8x64x64, .f32⟩
  | .hbm, ⟨62, _⟩ => ⟨S8x8x64x1, .f32⟩
  | .hbm, ⟨63, _⟩ => ⟨S8x8x64, .f32⟩
  | .hbm, ⟨64, _⟩ => ⟨S8x8x1x64, .f32⟩
  | .hbm, ⟨65, _⟩ => ⟨S8x8x64x64, .f32⟩
  | .hbm, ⟨66, _⟩ => ⟨S8x8x64x64, .f32⟩
  | .hbm, ⟨67, _⟩ => ⟨S8x8x64x64, .f32⟩
  | .hbm, ⟨68, _⟩ => ⟨S8x8x64x64, .f32⟩
  | .hbm, ⟨69, _⟩ => ⟨S8x8x64x1, .f32⟩
  | .hbm, ⟨70, _⟩ => ⟨S8x8x1x64, .f32⟩
  | .hbm, ⟨71, _⟩ => ⟨S8x8x64x64, .f32⟩
  | .hbm, ⟨72, _⟩ => ⟨S8x8x64x64, .f32⟩
  | .hbm, ⟨73, _⟩ => ⟨S8x8x64x64, .f32⟩
  | .hbm, ⟨74, _⟩ => ⟨S8x8x64x64, .f32⟩
  | .hbm, ⟨75, _⟩ => ⟨S8x8x64, .f32⟩
  | .hbm, ⟨76, _⟩ => ⟨S1x8x8x64, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S2048x8x8x64, .f32⟩
  | .hbm, ⟨81, _⟩ => ⟨S_, .i32⟩
  | .hbm, ⟨82, _⟩ => ⟨S_, .i32⟩
  | .hbm, ⟨83, _⟩ => ⟨S8x2048x8x64, .f32⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_c : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev main_v8_7 : Ref sig .tc := ⟨.hbm, 24, rfl⟩
abbrev main_v8_8 : Ref sig .tc := ⟨.hbm, 25, rfl⟩
abbrev main_while0c_c_9 : Ref sig .tc := ⟨.hbm, 26, rfl⟩
abbrev main_while0c_v10 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_c_1 : Ref sig .tc := ⟨.hbm, 30, rfl⟩
abbrev main_while0b_call0_v0 : Ref sig .tc := ⟨.hbm, 31, rfl⟩
abbrev main_while0b_v10 : Ref sig .tc := ⟨.hbm, 32, rfl⟩
abbrev main_while0b_call1_c : Ref sig .tc := ⟨.hbm, 33, rfl⟩
abbrev main_while0b_call1_c_0 : Ref sig .tc := ⟨.hbm, 34, rfl⟩
abbrev main_while0b_call1_c_1 : Ref sig .tc := ⟨.hbm, 35, rfl⟩
abbrev main_while0b_call1_v0 : Ref sig .tc := ⟨.hbm, 36, rfl⟩
abbrev main_while0b_v11 : Ref sig .tc := ⟨.hbm, 37, rfl⟩
abbrev main_while0b_call2_c : Ref sig .tc := ⟨.hbm, 38, rfl⟩
abbrev main_while0b_call2_c_0 : Ref sig .tc := ⟨.hbm, 39, rfl⟩
abbrev main_while0b_call2_c_1 : Ref sig .tc := ⟨.hbm, 40, rfl⟩
abbrev main_while0b_call2_v0 : Ref sig .tc := ⟨.hbm, 41, rfl⟩
abbrev main_while0b_v12 : Ref sig .tc := ⟨.hbm, 42, rfl⟩
abbrev main_while0b_call3_c : Ref sig .tc := ⟨.hbm, 43, rfl⟩
abbrev main_while0b_call3_c_0 : Ref sig .tc := ⟨.hbm, 44, rfl⟩
abbrev main_while0b_call3_c_1 : Ref sig .tc := ⟨.hbm, 45, rfl⟩
abbrev main_while0b_call3_v0 : Ref sig .tc := ⟨.hbm, 46, rfl⟩
abbrev main_while0b_v13 : Ref sig .tc := ⟨.hbm, 47, rfl⟩
abbrev main_while0b_call4_c : Ref sig .tc := ⟨.hbm, 48, rfl⟩
abbrev main_while0b_call4_c_0 : Ref sig .tc := ⟨.hbm, 49, rfl⟩
abbrev main_while0b_call4_c_1 : Ref sig .tc := ⟨.hbm, 50, rfl⟩
abbrev main_while0b_call4_v0 : Ref sig .tc := ⟨.hbm, 51, rfl⟩
abbrev main_while0b_v14 : Ref sig .tc := ⟨.hbm, 52, rfl⟩
abbrev main_while0b_call5_c : Ref sig .tc := ⟨.hbm, 53, rfl⟩
abbrev main_while0b_call5_c_0 : Ref sig .tc := ⟨.hbm, 54, rfl⟩
abbrev main_while0b_call5_c_1 : Ref sig .tc := ⟨.hbm, 55, rfl⟩
abbrev main_while0b_call5_v0 : Ref sig .tc := ⟨.hbm, 56, rfl⟩
abbrev main_while0b_v15 : Ref sig .tc := ⟨.hbm, 57, rfl⟩
abbrev main_while0b_v16 : Ref sig .tc := ⟨.hbm, 58, rfl⟩
abbrev main_while0b_v17 : Ref sig .tc := ⟨.hbm, 59, rfl⟩
abbrev main_while0b_v18 : Ref sig .tc := ⟨.hbm, 60, rfl⟩
abbrev main_while0b_v19 : Ref sig .tc := ⟨.hbm, 61, rfl⟩
abbrev main_while0b_v20 : Ref sig .tc := ⟨.hbm, 62, rfl⟩
abbrev main_while0b_v21 : Ref sig .tc := ⟨.hbm, 63, rfl⟩
abbrev main_while0b_v22 : Ref sig .tc := ⟨.hbm, 64, rfl⟩
abbrev main_while0b_v23 : Ref sig .tc := ⟨.hbm, 65, rfl⟩
abbrev main_while0b_v24 : Ref sig .tc := ⟨.hbm, 66, rfl⟩
abbrev main_while0b_v25 : Ref sig .tc := ⟨.hbm, 67, rfl⟩
abbrev main_while0b_v26 : Ref sig .tc := ⟨.hbm, 68, rfl⟩
abbrev main_while0b_v27 : Ref sig .tc := ⟨.hbm, 69, rfl⟩
abbrev main_while0b_v28 : Ref sig .tc := ⟨.hbm, 70, rfl⟩
abbrev main_while0b_v29 : Ref sig .tc := ⟨.hbm, 71, rfl⟩
abbrev main_while0b_v30 : Ref sig .tc := ⟨.hbm, 72, rfl⟩
abbrev main_while0b_v31 : Ref sig .tc := ⟨.hbm, 73, rfl⟩
abbrev main_while0b_v32 : Ref sig .tc := ⟨.hbm, 74, rfl⟩
abbrev main_while0b_v33 : Ref sig .tc := ⟨.hbm, 75, rfl⟩
abbrev main_while0b_call6_v0 : Ref sig .tc := ⟨.hbm, 76, rfl⟩
abbrev main_while0b_call6_c : Ref sig .tc := ⟨.hbm, 77, rfl⟩
abbrev main_while0b_call6_c_0 : Ref sig .tc := ⟨.hbm, 78, rfl⟩
abbrev main_while0b_call6_c_1 : Ref sig .tc := ⟨.hbm, 79, rfl⟩
abbrev main_while0b_v34 : Ref sig .tc := ⟨.hbm, 80, rfl⟩
abbrev main_while0b_c_9 : Ref sig .tc := ⟨.hbm, 81, rfl⟩
abbrev main_while0b_v35 : Ref sig .tc := ⟨.hbm, 82, rfl⟩
abbrev main_v9 : Ref sig .tc := ⟨.hbm, 83, rfl⟩

abbrev nD : Nat := 1
abbrev τ : Topo := Topo.v7x

variable {F : FTy → Type} [FloatOps F]

abbrev main_while0_count : Scf.Loop 32 := ⟨0#32, 2048#32, 1#32⟩
-- ==== Merge.lean ====
abbrev S16384x2048 : Shape := ⟨2, ![16384, 2048]⟩
abbrev S2048x8192 : Shape := ⟨2, ![2048, 8192]⟩
abbrev S16384x512 : Shape := ⟨2, ![16384, 512]⟩
abbrev S4x512x2048 : Shape := ⟨3, ![4, 512, 2048]⟩
abbrev S1024x2048 : Shape := ⟨2, ![1024, 2048]⟩
abbrev S2048x512 : Shape := ⟨2, ![2048, 512]⟩
abbrev S1024x512 : Shape := ⟨2, ![1024, 512]⟩
abbrev S4x512x512 : Shape := ⟨3, ![4, 512, 512]⟩
abbrev S1x512x512 : Shape := ⟨3, ![1, 512, 512]⟩
abbrev S512x512 : Shape := ⟨2, ![512, 512]⟩

abbrev nBuf : Space → Nat
  | .hbm => 8
  | .vmem => 22
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x512, .bf16⟩
  | .hbm, ⟨6, _⟩ => ⟨S4x512x2048, .bf16⟩
  | .hbm, ⟨7, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S4x512x512, .bf16⟩
  | .local _ .vmem, ⟨19, _⟩ => ⟨S4x512x512, .bf16⟩
  | .local _ .vmem, ⟨20, _⟩ => ⟨S1024x512, .bf16⟩
  | .local _ .vmem, ⟨21, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S16384x2048 : Shape := ⟨2, ![16384, 2048]⟩
abbrev S2048x8192 : Shape := ⟨2, ![2048, 8192]⟩
abbrev S16384x512 : Shape := ⟨2, ![16384, 512]⟩
abbrev S4x512x2048 : Shape := ⟨3, ![4, 512, 2048]⟩
abbrev S16384x8192 : Shape := ⟨2, ![16384, 8192]⟩
abbrev S16384x4x2048 : Shape := ⟨3, ![16384, 4, 2048]⟩
abbrev S_ : Shape := ⟨0, ![]⟩
abbrev S16384x1x2048 : Shape := ⟨3, ![16384, 1, 2048]⟩
abbrev S1x512x2048 : Shape := ⟨3, ![1, 512, 2048]⟩
abbrev S512x2048 : Shape := ⟨2, ![512, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x512, .bf16⟩
  | .hbm, ⟨6, _⟩ => ⟨S4x512x2048, .bf16⟩
  | .hbm, ⟨7, _⟩ => ⟨S16384x2048, .f32⟩
  | .hbm, ⟨8, _⟩ => ⟨S2048x8192, .f32⟩
  | .hbm, ⟨9, _⟩ => ⟨S4x512x2048, .f32⟩
  | .hbm, ⟨10, _⟩ => ⟨S16384x8192, .f32⟩
  | .hbm, ⟨11, _⟩ => ⟨S16384x4x2048, .f32⟩
  | .hbm, ⟨12, _⟩ => ⟨S16384x4x2048, .f32⟩
  | .hbm, ⟨13, _⟩ => ⟨S16384x4x2048, .f32⟩
  | .hbm, ⟨14, _⟩ => ⟨S_, .f32⟩
  | .hbm, ⟨15, _⟩ => ⟨S16384x4x2048, .f32⟩
  | .hbm, ⟨16, _⟩ => ⟨S16384x4x2048, .f32⟩
  | .hbm, ⟨17, _⟩ => ⟨S_, .f32⟩
  | .hbm, ⟨18, _⟩ => ⟨S16384x4x2048, .f32⟩
  | .hbm, ⟨19, _⟩ => ⟨S16384x4x2048, .f32⟩
  | .hbm, ⟨20, _⟩ => ⟨S16384x1x2048, .f32⟩
  | .hbm, ⟨21, _⟩ => ⟨S16384x2048, .f32⟩
  | .hbm, ⟨22, _⟩ => ⟨S16384x512, .f32⟩
  | .hbm, ⟨23, _⟩ => ⟨S1x512x2048, .f32⟩
  | .hbm, ⟨24, _⟩ => ⟨S512x2048, .f32⟩
  | .hbm, ⟨25, _⟩ => ⟨S16384x2048, .f32⟩
  | .hbm, ⟨26, _⟩ => ⟨S16384x2048, .f32⟩
  | .hbm, ⟨27, _⟩ => ⟨S16384x1x2048, .f32⟩
  | .hbm, ⟨28, _⟩ => ⟨S16384x2048, .f32⟩
  | .hbm, ⟨29, _⟩ => ⟨S16384x512, .f32⟩
  | .hbm, ⟨30, _⟩ => ⟨S1x512x2048, .f32⟩
  | .hbm, ⟨31, _⟩ => ⟨S512x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x1x2048, .f32⟩
  | .hbm, ⟨36, _⟩ => ⟨S16384x2048, .f32⟩
  | .hbm, ⟨37, _⟩ => ⟨S16384x512, .f32⟩
  | .hbm, ⟨38, _⟩ => ⟨S1x512x2048, .f32⟩
  | .hbm, ⟨39, _⟩ => ⟨S512x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x1x2048, .f32⟩
  | .hbm, ⟨44, _⟩ => ⟨S16384x2048, .f32⟩
  | .hbm, ⟨45, _⟩ => ⟨S16384x512, .f32⟩
  | .hbm, ⟨46, _⟩ => ⟨S1x512x2048, .f32⟩
  | .hbm, ⟨47, _⟩ => ⟨S512x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Residual.lean ====
abbrev S16384x2048 : Shape := ⟨2, ![16384, 2048]⟩
abbrev S2048x2048 : Shape := ⟨2, ![2048, 2048]⟩
abbrev S8x1x2048 : Shape := ⟨3, ![8, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S8x1x2048, .f32⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ResidualRefIdeal.lean ====
abbrev S16384x2048 : Shape := ⟨2, ![16384, 2048]⟩
abbrev S2048x2048 : Shape := ⟨2, ![2048, 2048]⟩
abbrev S8x1x2048 : Shape := ⟨3, ![8, 1, 2048]⟩
abbrev S8x2048x2048 : Shape := ⟨3, ![8, 2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S8x1x2048, .f32⟩
  | .hbm, ⟨4, _⟩ => ⟨S16384x2048, .f32⟩
  | .hbm, ⟨5, _⟩ => ⟨S2048x2048, .f32⟩
  | .hbm, ⟨6, _⟩ => ⟨S16384x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proj.lean ====
abbrev S16384x2048 : Shape := ⟨2, ![16384, 2048]⟩
abbrev S2048x7168 : Shape := ⟨2, ![2048, 7168]⟩
abbrev S16384x256 : Shape := ⟨2, ![16384, 256]⟩
abbrev S1024x2048 : Shape := ⟨2, ![1024, 2048]⟩
abbrev S2048x256 : Shape := ⟨2, ![2048, 256]⟩
abbrev S1024x256 : Shape := ⟨2, ![1024, 256]⟩
abbrev S2048x1024 : Shape := ⟨2, ![2048, 1024]⟩
abbrev S1024x1024 : Shape := ⟨2, ![1024, 1024]⟩
abbrev S16384x1536 : Shape := ⟨2, ![16384, 1536]⟩
abbrev S2048x512 : Shape := ⟨2, ![2048, 512]⟩
abbrev S1024x512 : Shape := ⟨2, ![1024, 512]⟩
abbrev S16384x1280 : Shape := ⟨2, ![16384, 1280]⟩

abbrev nBuf : Space → Nat
  | .hbm => 7
  | .vmem => 29
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .bf16⟩
  | .hbm, ⟨2, _⟩ => ⟨S16384x256, .f32⟩
  | .hbm, ⟨3, _⟩ => ⟨S16384x2048, .f32⟩
  | .hbm, ⟨4, _⟩ => ⟨S16384x2048, .f32⟩
  | .hbm, ⟨5, _⟩ => ⟨S16384x1536, .bf16⟩
  | .hbm, ⟨6, _⟩ => ⟨S16384x1280, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x256, .f32⟩
  | .local _ .vmem, ⟨4, _⟩ => ⟨S1024x256, .f32⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | .local _ .vmem, ⟨12, _⟩ => ⟨S1024x2048, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x2048, .bf16⟩
  | .local _ .vmem, ⟨18, _⟩ => ⟨S1024x2048, .bf16⟩
  | .local _ .vmem, ⟨19, _⟩ => ⟨S2048x512, .bf16⟩
  | .local _ .vmem, ⟨20, _⟩ => ⟨S2048x512, .bf16⟩
  | .local _ .vmem, ⟨21, _⟩ => ⟨S1024x512, .bf16⟩
  | .local _ .vmem, ⟨22, _⟩ => ⟨S1024x512, .bf16⟩
  | .local _ .vmem, ⟨23, _⟩ => ⟨S1024x2048, .bf16⟩
  | .local _ .vmem, ⟨24, _⟩ => ⟨S1024x2048, .bf16⟩
  | .local _ .vmem, ⟨25, _⟩ => ⟨S2048x256, .bf16⟩
  | .local _ .vmem, ⟨26, _⟩ => ⟨S2048x256, .bf16⟩
  | .local _ .vmem, ⟨27, _⟩ => ⟨S1024x256, .bf16⟩
  | .local _ .vmem, ⟨28, _⟩ => ⟨S1024x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c27_i32 : BitVec 32 := 27#32
  let v0 : BitVec 32 := Scalar.addi c27_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![3, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![5, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== ProjRefIdeal.lean ====
abbrev S16384x2048 : Shape := ⟨2, ![16384, 2048]⟩
abbrev S2048x7168 : Shape := ⟨2, ![2048, 7168]⟩
abbrev S16384x7168 : Shape := ⟨2, ![16384, 7168]⟩
abbrev S16384x256 : Shape := ⟨2, ![16384, 256]⟩
abbrev S16384x1536 : Shape := ⟨2, ![16384, 1536]⟩
abbrev S16384x1280 : Shape := ⟨2, ![16384, 1280]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x7168, .bf16⟩
  | .hbm, ⟨2, _⟩ => ⟨S16384x2048, .f32⟩
  | .hbm, ⟨3, _⟩ => ⟨S2048x7168, .f32⟩
  | .hbm, ⟨4, _⟩ => ⟨S16384x7168, .f32⟩
  | .hbm, ⟨5, _⟩ => ⟨S16384x256, .f32⟩
  | .hbm, ⟨6, _⟩ => ⟨S16384x2048, .f32⟩
  | .hbm, ⟨7, _⟩ => ⟨S16384x2048, .f32⟩
  | .hbm, ⟨8, _⟩ => ⟨S16384x1536, .f32⟩
  | .hbm, ⟨9, _⟩ => ⟨S16384x1536, .bf16⟩
  | .hbm, ⟨10, _⟩ => ⟨S16384x1280, .f32⟩
  | .hbm, ⟨11, _⟩ => ⟨S16384x1280, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Moe.lean ====
abbrev S163840x1024 : Shape := ⟨2, ![163840, 1024]⟩
abbrev S320 : Shape := ⟨1, ![320]⟩
abbrev S1 : Shape := ⟨1, ![1]⟩
abbrev S128x2048x512 : Shape := ⟨3, ![128, 2048, 512]⟩
abbrev S128x512x2048 : Shape := ⟨3, ![128, 512, 2048]⟩
abbrev S163840x2048 : Shape := ⟨2, ![163840, 2048]⟩
abbrev S512x1024 : Shape := ⟨2, ![512, 1024]⟩
abbrev S1x2048x512 : Shape := ⟨3, ![1, 2048, 512]⟩
abbrev S1x512x2048 : Shape := ⟨3, ![1, 512, 2048]⟩
abbrev S512x2048 : Shape := ⟨2, ![512, 2048]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S163840x1024, .i32⟩
  | .hbm, ⟨1, _⟩ => ⟨S128x2048x512, .f32⟩
  | .hbm, ⟨2, _⟩ => ⟨S128x2048x512, .f32⟩
  | .hbm, ⟨3, _⟩ => ⟨S128x512x2048, .f32⟩
  | .hbm, ⟨4, _⟩ => ⟨S163840x2048, .bf16⟩
  | .local _ .vmem, ⟨0, _⟩ => ⟨S512x1024, .i32⟩
  | .local _ .vmem, ⟨1, _⟩ => ⟨S512x1024, .i32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S320, .i32⟩
  | .local _ .smem, ⟨1, _⟩ => ⟨S1, .i32⟩
  | _, _ => ⟨S163840x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c64_i32 : BitVec 32 := 64#32
  let v2 : BitVec 32 := Scalar.addi c64_i32 v1
  let c0_i32 : BitVec 32 := 0#32
  let c0_i32_0 : BitVec 32 := 0#32
  let c0_i32_1 : BitVec 32 := 0#32
  ![v2.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c64_i32 : BitVec 32 := 64#32
  let v2 : BitVec 32 := Scalar.addi c64_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c64_i32 : BitVec 32 := 64#32
  let v2 : BitVec 32 := Scalar.addi c64_i32 v1
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeRefIdeal.lean ====
abbrev S163840x1024 : Shape := ⟨2, ![163840, 1024]⟩
abbrev S320 : Shape := ⟨1, ![320]⟩
abbrev S1 : Shape := ⟨1, ![1]⟩
abbrev S128x2048x512 : Shape := ⟨3, ![128, 2048, 512]⟩
abbrev S128x512x2048 : Shape := ⟨3, ![128, 512, 2048]⟩
abbrev S_ : Shape := ⟨0, ![]⟩
abbrev S163840x2048 : Shape := ⟨2, ![163840, 2048]⟩
abbrev S320x512x2048 : Shape := ⟨3, ![320, 512, 2048]⟩
abbrev S64x2048x512 : Shape := ⟨3, ![64, 2048, 512]⟩
abbrev S320x1 : Shape := ⟨2, ![320, 1]⟩
abbrev S320x2048x512 : Shape := ⟨3, ![320, 2048, 512]⟩
abbrev S64x512x2048 : Shape := ⟨3, ![64, 512, 2048]⟩
abbrev S320x512x512 : Shape := ⟨3, ![320, 512, 512]⟩
abbrev S320x1x1 : Shape := ⟨3, ![320, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S163840x1024, .i32⟩
  | .hbm, ⟨1, _⟩ => ⟨S320, .i32⟩
  | .hbm, ⟨2, _⟩ => ⟨S1, .i32⟩
  | .hbm, ⟨3, _⟩ => ⟨S128x2048x512, .f32⟩
  | .hbm, ⟨4, _⟩ => ⟨S128x2048x512, .f32⟩
  | .hbm, ⟨5, _⟩ => ⟨S128x512x2048, .f32⟩
  | .hbm, ⟨6, _⟩ => ⟨S_, .i32⟩
  | .hbm, ⟨7, _⟩ => ⟨S163840x1024, .i32⟩
  | .hbm, ⟨8, _⟩ => ⟨S163840x1024, .i32⟩
  | .hbm, ⟨9, _⟩ => ⟨S163840x1024, .f32⟩
  | .hbm, ⟨10, _⟩ => ⟨S_, .i32⟩
  | .hbm, ⟨11, _⟩ => ⟨S163840x1024, .i32⟩
  | .hbm, ⟨12, _⟩ => ⟨S163840x1024, .i32⟩
  | .hbm, ⟨13, _⟩ => ⟨S163840x1024, .f32⟩
  | .hbm, ⟨14, _⟩ => ⟨S163840x2048, .f32⟩
  | .hbm, ⟨15, _⟩ => ⟨S320x512x2048, .f32⟩
  | .hbm, ⟨16, _⟩ => ⟨S64x2048x512, .f32⟩
  | .hbm, ⟨17, _⟩ => ⟨S_, .i32⟩
  | .hbm, ⟨18, _⟩ => ⟨S320, .i32⟩
  | .hbm, ⟨19, _⟩ => ⟨S320, .i1⟩
  | .hbm, ⟨20, _⟩ => ⟨S_, .i32⟩
  | .hbm, ⟨21, _⟩ => ⟨S320, .i32⟩
  | .hbm, ⟨22, _⟩ => ⟨S320, .i32⟩
  | .hbm, ⟨23, _⟩ => ⟨S320, .i32⟩
  | .hbm, ⟨24, _⟩ => ⟨S320x1, .i32⟩
  | .hbm, ⟨25, _⟩ => ⟨S320x2048x512, .f32⟩
  | .hbm, ⟨26, _⟩ => ⟨S64x2048x512, .f32⟩
  | .hbm, ⟨27, _⟩ => ⟨S_, .i32⟩
  | .hbm, ⟨28, _⟩ => ⟨S320, .i32⟩
  | .hbm, ⟨29, _⟩ => ⟨S320, .i1⟩
  | .hbm, ⟨30, _⟩ => ⟨S_, .i32⟩
  | .hbm, ⟨31, _⟩ => ⟨S320, .i32⟩
  | .hbm, ⟨32, _⟩ => ⟨S320, .i32⟩
  | .hbm, ⟨33, _⟩ => ⟨S320, .i32⟩
  | .hbm, ⟨34, _⟩ => ⟨S320x1, .i32⟩
  | .hbm, ⟨35, _⟩ => ⟨S320x2048x512, .f32⟩
  | .hbm, ⟨36, _⟩ => ⟨S64x512x2048, .f32⟩
  | .hbm, ⟨37, _⟩ => ⟨S_, .i32⟩
  | .hbm, ⟨38, _⟩ => ⟨S320, .i32⟩
  | .hbm, ⟨39, _⟩ => ⟨S320, .i1⟩
  | .hbm, ⟨40, _⟩ => ⟨S_, .i32⟩
  | .hbm, ⟨41, _⟩ => ⟨S320, .i32⟩
  | .hbm, ⟨42, _⟩ => ⟨S320, .i32⟩
  | .hbm, ⟨43, _⟩ => ⟨S320, .i32⟩
  | .hbm, ⟨44, _⟩ => ⟨S320x1, .i32⟩
  | .hbm, ⟨45, _⟩ => ⟨S320x512x2048, .f32⟩
  | .hbm, ⟨46, _⟩ => ⟨S320x512x512, .f32⟩
  | .hbm, ⟨47, _⟩ => ⟨S320x512x512, .f32⟩
  | .hbm, ⟨48, _⟩ => ⟨S320x512x512, .f32⟩
  | .hbm, ⟨49, _⟩ => ⟨S_, .f32⟩
  | .hbm, ⟨50, _⟩ => ⟨S320x512x512, .f32⟩
  | .hbm, ⟨51, _⟩ => ⟨S320x512x512, .f32⟩
  | .hbm, ⟨52, _⟩ => ⟨S_, .f32⟩
  | .hbm, ⟨53, _⟩ => ⟨S320x512x512, .f32⟩
  | .hbm, ⟨54, _⟩ => ⟨S320x512x512, .f32⟩
  | .hbm, ⟨55, _⟩ => ⟨S320x512x512, .f32⟩
  | .hbm, ⟨56, _⟩ => ⟨S320x512x512, .f32⟩
  | .hbm, ⟨57, _⟩ => ⟨S320x512x512, .f32⟩
  | .hbm, ⟨58, _⟩ => ⟨S320x512x2048, .f32⟩
  | .hbm, ⟨59, _⟩ => ⟨S320, .i32⟩
  | .hbm, ⟨60, _⟩ => ⟨S320x1x1, .i32⟩
  | .hbm, ⟨61, _⟩ => ⟨S_, .i32⟩
  | .hbm, ⟨62, _⟩ => ⟨S320x1x1, .i32⟩
  | .hbm, ⟨63, _⟩ => ⟨S320x1x1, .i1⟩
  | .hbm, ⟨64, _⟩ => ⟨S_, .f32⟩
  | .hbm, ⟨65, _⟩ => ⟨S_, .f32⟩
  | .hbm, ⟨66, _⟩ => ⟨S320x512x2048, .i1⟩
  | .hbm, ⟨67, _⟩ => ⟨S320x512x2048, .f32⟩
  | .hbm, ⟨68, _⟩ => ⟨S320x512x2048, .f32⟩
  | .hbm, ⟨69, _⟩ => ⟨S163840x2048, .f32⟩
  | .hbm, ⟨70, _⟩ => ⟨S163840x2048, .bf16⟩
  | _, _ => ⟨S163840x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== MoeFirst.lean ====
abbrev S163840x1024 : Shape := ⟨2, ![163840, 1024]⟩
abbrev S320 : Shape := ⟨1, ![320]⟩
abbrev S1 : Shape := ⟨1, ![1]⟩
abbrev S128x2048x512 : Shape := ⟨3, ![128, 2048, 512]⟩
abbrev S128x512x2048 : Shape := ⟨3, ![128, 512, 2048]⟩
abbrev S163840x2048 : Shape := ⟨2, ![163840, 2048]⟩
abbrev S512x1024 : Shape := ⟨2, ![512, 1024]⟩
abbrev S1x2048x512 : Shape := ⟨3, ![1, 2048, 512]⟩
abbrev S1x512x2048 : Shape := ⟨3, ![1, 512, 2048]⟩
abbrev S512x2048 : Shape := ⟨2, ![512, 2048]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S163840x1024, .i32⟩
  | .hbm, ⟨1, _⟩ => ⟨S128x2048x512, .f32⟩
  | .hbm, ⟨2, _⟩ => ⟨S128x2048x512, .f32⟩
  | .hbm, ⟨3, _⟩ => ⟨S128x512x2048, .f32⟩
  | .hbm, ⟨4, _⟩ => ⟨S163840x2048, .bf16⟩
  | .local _ .vmem, ⟨0, _⟩ => ⟨S512x1024, .i32⟩
  | .local _ .vmem, ⟨1, _⟩ => ⟨S512x1024, .i32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S320, .i32⟩
  | .local _ .smem, ⟨1, _⟩ => ⟨S1, .i32⟩
  | _, _ => ⟨S163840x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeFirstRefIdeal.lean ====
abbrev S163840x1024 : Shape := ⟨2, ![163840, 1024]⟩
abbrev S320 : Shape := ⟨1, ![320]⟩
abbrev S1 : Shape := ⟨1, ![1]⟩
abbrev S128x2048x512 : Shape := ⟨3, ![128, 2048, 512]⟩
abbrev S128x512x2048 : Shape := ⟨3, ![128, 512, 2048]⟩
abbrev S_ : Shape := ⟨0, ![]⟩
abbrev S163840x2048 : Shape := ⟨2, ![163840, 2048]⟩
abbrev S320x512x2048 : Shape := ⟨3, ![320, 512, 2048]⟩
abbrev S64x2048x512 : Shape := ⟨3, ![64, 2048, 512]⟩
abbrev S320x1 : Shape := ⟨2, ![320, 1]⟩
abbrev S320x2048x512 : Shape := ⟨3, ![320, 2048, 512]⟩
abbrev S64x512x2048 : Shape := ⟨3, ![64, 512, 2048]⟩
abbrev S320x512x512 : Shape := ⟨3, ![320, 512, 512]⟩
abbrev S320x1x1 : Shape := ⟨3, ![320, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S163840x1024, .i32⟩
  | .hbm, ⟨1, _⟩ => ⟨S320, .i32⟩
  | .hbm, ⟨2, _⟩ => ⟨S1, .i32⟩
  | .hbm, ⟨3, _⟩ => ⟨S128x2048x512, .f32⟩
  | .hbm, ⟨4, _⟩ => ⟨S128x2048x512, .f32⟩
  | .hbm, ⟨5, _⟩ => ⟨S128x512x2048, .f32⟩
  | .hbm, ⟨6, _⟩ => ⟨S_, .i32⟩
  | .hbm, ⟨7, _⟩ => ⟨S163840x1024, .i32⟩
  | .hbm, ⟨8, _⟩ => ⟨S163840x1024, .i32⟩
  | .hbm, ⟨9, _⟩ => ⟨S163840x1024, .f32⟩
  | .hbm, ⟨10, _⟩ => ⟨S_, .i32⟩
  | .hbm, ⟨11, _⟩ => ⟨S163840x1024, .i32⟩
  | .hbm, ⟨12, _⟩ => ⟨S163840x1024, .i32⟩
  | .hbm, ⟨13, _⟩ => ⟨S163840x1024, .f32⟩
  | .hbm, ⟨14, _⟩ => ⟨S163840x2048, .f32⟩
  | .hbm, ⟨15, _⟩ => ⟨S320x512x2048, .f32⟩
  | .hbm, ⟨16, _⟩ => ⟨S64x2048x512, .f32⟩
  | .hbm, ⟨17, _⟩ => ⟨S_, .i32⟩
  | .hbm, ⟨18, _⟩ => ⟨S320, .i32⟩
  | .hbm, ⟨19, _⟩ => ⟨S320, .i1⟩
  | .hbm, ⟨20, _⟩ => ⟨S_, .i32⟩
  | .hbm, ⟨21, _⟩ => ⟨S320, .i32⟩
  | .hbm, ⟨22, _⟩ => ⟨S320, .i32⟩
  | .hbm, ⟨23, _⟩ => ⟨S320, .i32⟩
  | .hbm, ⟨24, _⟩ => ⟨S320x1, .i32⟩
  | .hbm, ⟨25, _⟩ => ⟨S320x2048x512, .f32⟩
  | .hbm, ⟨26, _⟩ => ⟨S64x2048x512, .f32⟩
  | .hbm, ⟨27, _⟩ => ⟨S_, .i32⟩
  | .hbm, ⟨28, _⟩ => ⟨S320, .i32⟩
  | .hbm, ⟨29, _⟩ => ⟨S320, .i1⟩
  | .hbm, ⟨30, _⟩ => ⟨S_, .i32⟩
  | .hbm, ⟨31, _⟩ => ⟨S320, .i32⟩
  | .hbm, ⟨32, _⟩ => ⟨S320, .i32⟩
  | .hbm, ⟨33, _⟩ => ⟨S320, .i32⟩
  | .hbm, ⟨34, _⟩ => ⟨S320x1, .i32⟩
  | .hbm, ⟨35, _⟩ => ⟨S320x2048x512, .f32⟩
  | .hbm, ⟨36, _⟩ => ⟨S64x512x2048, .f32⟩
  | .hbm, ⟨37, _⟩ => ⟨S_, .i32⟩
  | .hbm, ⟨38, _⟩ => ⟨S320, .i32⟩
  | .hbm, ⟨39, _⟩ => ⟨S320, .i1⟩
  | .hbm, ⟨40, _⟩ => ⟨S_, .i32⟩
  | .hbm, ⟨41, _⟩ => ⟨S320, .i32⟩
  | .hbm, ⟨42, _⟩ => ⟨S320, .i32⟩
  | .hbm, ⟨43, _⟩ => ⟨S320, .i32⟩
  | .hbm, ⟨44, _⟩ => ⟨S320x1, .i32⟩
  | .hbm, ⟨45, _⟩ => ⟨S320x512x2048, .f32⟩
  | .hbm, ⟨46, _⟩ => ⟨S320x512x512, .f32⟩
  | .hbm, ⟨47, _⟩ => ⟨S320x512x512, .f32⟩
  | .hbm, ⟨48, _⟩ => ⟨S320x512x512, .f32⟩
  | .hbm, ⟨49, _⟩ => ⟨S_, .f32⟩
  | .hbm, ⟨50, _⟩ => ⟨S320x512x512, .f32⟩
  | .hbm, ⟨51, _⟩ => ⟨S320x512x512, .f32⟩
  | .hbm, ⟨52, _⟩ => ⟨S_, .f32⟩
  | .hbm, ⟨53, _⟩ => ⟨S320x512x512, .f32⟩
  | .hbm, ⟨54, _⟩ => ⟨S320x512x512, .f32⟩
  | .hbm, ⟨55, _⟩ => ⟨S320x512x512, .f32⟩
  | .hbm, ⟨56, _⟩ => ⟨S320x512x512, .f32⟩
  | .hbm, ⟨57, _⟩ => ⟨S320x512x512, .f32⟩
  | .hbm, ⟨58, _⟩ => ⟨S320x512x2048, .f32⟩
  | .hbm, ⟨59, _⟩ => ⟨S320, .i32⟩
  | .hbm, ⟨60, _⟩ => ⟨S320x1x1, .i32⟩
  | .hbm, ⟨61, _⟩ => ⟨S_, .i32⟩
  | .hbm, ⟨62, _⟩ => ⟨S320x1x1, .i32⟩
  | .hbm, ⟨63, _⟩ => ⟨S320x1x1, .i1⟩
  | .hbm, ⟨64, _⟩ => ⟨S_, .f32⟩
  | .hbm, ⟨65, _⟩ => ⟨S_, .f32⟩
  | .hbm, ⟨66, _⟩ => ⟨S320x512x2048, .i1⟩
  | .hbm, ⟨67, _⟩ => ⟨S320x512x2048, .f32⟩
  | .hbm, ⟨68, _⟩ => ⟨S320x512x2048, .f32⟩
  | .hbm, ⟨69, _⟩ => ⟨S163840x2048, .f32⟩
  | .hbm, ⟨70, _⟩ => ⟨S163840x2048, .bf16⟩
  | _, _ => ⟨S163840x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== Combine.lean ====
abbrev S16384x2048 : Shape := ⟨2, ![16384, 2048]⟩
abbrev S2048x512 : Shape := ⟨2, ![2048, 512]⟩
abbrev S512x2048 : Shape := ⟨2, ![512, 2048]⟩
abbrev S8x1x2048 : Shape := ⟨3, ![8, 1, 2048]⟩
abbrev S8x16384x1024 : Shape := ⟨3, ![8, 16384, 1024]⟩
abbrev S8x16384 : Shape := ⟨2, ![8, 16384]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩
abbrev S16384x8 : Shape := ⟨2, ![16384, 8]⟩
abbrev S256x1024 : Shape := ⟨2, ![256, 1024]⟩
abbrev S256x2048 : Shape := ⟨2, ![256, 2048]⟩
abbrev S1x1x2048 : Shape := ⟨3, ![1, 1, 2048]⟩
abbrev S8x256x1024 : Shape := ⟨3, ![8, 256, 1024]⟩
abbrev S256x8 : Shape := ⟨2, ![256, 8]⟩
abbrev S256x512 : Shape := ⟨2, ![256, 512]⟩
abbrev S1x256x1024 : Shape := ⟨3, ![1, 256, 1024]⟩
abbrev S256x1 : Shape := ⟨2, ![256, 1]⟩
abbrev S1x2048 : Shape := ⟨2, ![1, 2048]⟩
abbrev S1x1024 : Shape := ⟨2, ![1, 1024]⟩

abbrev nBuf : Space → Nat
  | .hbm => 14
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S2048x512, .f32⟩
  | .hbm, ⟨2, _⟩ => ⟨S2048x512, .f32⟩
  | .hbm, ⟨3, _⟩ => ⟨S512x2048, .f32⟩
  | .hbm, ⟨4, _⟩ => ⟨S16384x2048, .f32⟩
  | .hbm, ⟨5, _⟩ => ⟨S8x1x2048, .f32⟩
  | .hbm, ⟨6, _⟩ => ⟨S8x16384x1024, .i32⟩
  | .hbm, ⟨7, _⟩ => ⟨S8x16384, .f32⟩
  | .hbm, ⟨8, _⟩ => ⟨S2048x1024, .f32⟩
  | .hbm, ⟨9, _⟩ => ⟨S2048x1024, .bf16⟩
  | .hbm, ⟨10, _⟩ => ⟨S16384x1024, .f32⟩
  | .hbm, ⟨11, _⟩ => ⟨S512x2048, .bf16⟩
  | .hbm, ⟨12, _⟩ => ⟨S16384x8, .f32⟩
  | .hbm, ⟨13, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S256x1024, .f32⟩
  | .local _ .vmem, ⟨6, _⟩ => ⟨S256x1024, .f32⟩
  | .local _ .vmem, ⟨7, _⟩ => ⟨S512x2048, .bf16⟩
  | .local _ .vmem, ⟨8, _⟩ => ⟨S256x2048, .f32⟩
  | .local _ .vmem, ⟨9, _⟩ => ⟨S256x2048, .f32⟩
  | .local _ .vmem, ⟨10, _⟩ => ⟨S1x1x2048, .f32⟩
  | .local _ .vmem, ⟨11, _⟩ => ⟨S1x1x2048, .f32⟩
  | .local _ .vmem, ⟨12, _⟩ => ⟨S8x256x1024, .i32⟩
  | .local _ .vmem, ⟨13, _⟩ => ⟨S8x256x1024, .i32⟩
  | .local _ .vmem, ⟨14, _⟩ => ⟨S256x8, .f32⟩
  | .local _ .vmem, ⟨15, _⟩ => ⟨S256x8, .f32⟩
  | .local _ .vmem, ⟨16, _⟩ => ⟨S256x2048, .f32⟩
  | .local _ .vmem, ⟨17, _⟩ => ⟨S256x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x256x1024 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== CombineRefIdeal.lean ====
abbrev S16384x2048 : Shape := ⟨2, ![16384, 2048]⟩
abbrev S2048x512 : Shape := ⟨2, ![2048, 512]⟩
abbrev S512x2048 : Shape := ⟨2, ![512, 2048]⟩
abbrev S8x1x2048 : Shape := ⟨3, ![8, 1, 2048]⟩
abbrev S8x16384x1024 : Shape := ⟨3, ![8, 16384, 1024]⟩
abbrev S8x16384 : Shape := ⟨2, ![8, 16384]⟩
abbrev S16384x512 : Shape := ⟨2, ![16384, 512]⟩
abbrev S_ : Shape := ⟨0, ![]⟩
abbrev S8x16384x2048 : Shape := ⟨3, ![8, 16384, 2048]⟩
abbrev S8x16384x1 : Shape := ⟨3, ![8, 16384, 1]⟩
abbrev S8x2048x2048 : Shape := ⟨3, ![8, 2048, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x512, .f32⟩
  | .hbm, ⟨2, _⟩ => ⟨S2048x512, .f32⟩
  | .hbm, ⟨3, _⟩ => ⟨S512x2048, .f32⟩
  | .hbm, ⟨4, _⟩ => ⟨S16384x2048, .f32⟩
  | .hbm, ⟨5, _⟩ => ⟨S8x1x2048, .f32⟩
  | .hbm, ⟨6, _⟩ => ⟨S8x16384x1024, .i32⟩
  | .hbm, ⟨7, _⟩ => ⟨S8x16384, .f32⟩
  | .hbm, ⟨8, _⟩ => ⟨S16384x2048, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S_, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x2048, .f32⟩
  | .hbm, ⟨22, _⟩ => ⟨S_, .i32⟩
  | .hbm, ⟨23, _⟩ => ⟨S8x16384x1024, .i32⟩
  | .hbm, ⟨24, _⟩ => ⟨S8x16384x1024, .i32⟩
  | .hbm, ⟨25, _⟩ => ⟨S8x16384x1024, .f32⟩
  | .hbm, ⟨26, _⟩ => ⟨S_, .i32⟩
  | .hbm, ⟨27, _⟩ => ⟨S8x16384x1024, .i32⟩
  | .hbm, ⟨28, _⟩ => ⟨S8x16384x1024, .i32⟩
  | .hbm, ⟨29, _⟩ => ⟨S8x16384x1024, .f32⟩
  | .hbm, ⟨30, _⟩ => ⟨S8x16384x2048, .f32⟩
  | .hbm, ⟨31, _⟩ => ⟨S8x16384x1, .f32⟩
  | .hbm, ⟨32, _⟩ => ⟨S8x16384x2048, .f32⟩
  | .hbm, ⟨33, _⟩ => ⟨S8x16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Norm.lean ====
abbrev S16384x2048 : Shape := ⟨2, ![16384, 2048]⟩
abbrev S1x2048 : Shape := ⟨2, ![1, 2048]⟩
abbrev S8x1x2048 : Shape := ⟨3, ![8, 1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S8x1x2048, .f32⟩
  | .hbm, ⟨3, _⟩ => ⟨S8x1x2048, .f32⟩
  | .hbm, ⟨4, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S16384x2048 : Shape := ⟨2, ![16384, 2048]⟩
abbrev S1x2048 : Shape := ⟨2, ![1, 2048]⟩
abbrev S8x1x2048 : Shape := ⟨3, ![8, 1, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S1x1x2048 : Shape := ⟨3, ![1, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S8x1x2048, .f32⟩
  | .hbm, ⟨3, _⟩ => ⟨S8x1x2048, .f32⟩
  | .hbm, ⟨4, _⟩ => ⟨S8x2048x2048, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S16384x2048, .f32⟩
  | .hbm, ⟨30, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Router.lean ====
abbrev S16384x2048 : Shape := ⟨2, ![16384, 2048]⟩
abbrev S1x2048 : Shape := ⟨2, ![1, 2048]⟩
abbrev S8x1x2048 : Shape := ⟨3, ![8, 1, 2048]⟩
abbrev S2048x64 : Shape := ⟨2, ![2048, 64]⟩
abbrev S64x2048 : Shape := ⟨2, ![64, 2048]⟩
abbrev S64x16384 : Shape := ⟨2, ![64, 16384]⟩
abbrev S512x2048 : Shape := ⟨2, ![512, 2048]⟩
abbrev S1x1x2048 : Shape := ⟨3, ![1, 1, 2048]⟩
abbrev S64x512 : Shape := ⟨2, ![64, 512]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S8x1x2048, .f32⟩
  | .hbm, ⟨3, _⟩ => ⟨S8x1x2048, .f32⟩
  | .hbm, ⟨4, _⟩ => ⟨S2048x64, .f32⟩
  | .hbm, ⟨5, _⟩ => ⟨S64x2048, .f32⟩
  | .hbm, ⟨6, _⟩ => ⟨S16384x2048, .bf16⟩
  | .hbm, ⟨7, _⟩ => ⟨S64x16384, .f32⟩
  | .hbm, ⟨8, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S64x2048, .f32⟩
  | .local _ .vmem, ⟨8, _⟩ => ⟨S512x2048, .bf16⟩
  | .local _ .vmem, ⟨9, _⟩ => ⟨S512x2048, .bf16⟩
  | .local _ .vmem, ⟨10, _⟩ => ⟨S64x512, .f32⟩
  | .local _ .vmem, ⟨11, _⟩ => ⟨S64x512, .f32⟩
  | .local _ .vmem, ⟨12, _⟩ => ⟨S512x2048, .bf16⟩
  | .local _ .vmem, ⟨13, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RouterRefIdeal.lean ====
abbrev S16384x2048 : Shape := ⟨2, ![16384, 2048]⟩
abbrev S1x2048 : Shape := ⟨2, ![1, 2048]⟩
abbrev S8x1x2048 : Shape := ⟨3, ![8, 1, 2048]⟩
abbrev S2048x64 : Shape := ⟨2, ![2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S1x1x2048 : Shape := ⟨3, ![1, 1, 2048]⟩
abbrev S16384x64 : Shape := ⟨2, ![16384, 64]⟩
abbrev S64x16384 : Shape := ⟨2, ![64, 16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S8x1x2048, .f32⟩
  | .hbm, ⟨3, _⟩ => ⟨S8x1x2048, .f32⟩
  | .hbm, ⟨4, _⟩ => ⟨S2048x64, .f32⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S16384x2048, .f32⟩
  | .hbm, ⟨31, _⟩ => ⟨S16384x2048, .bf16⟩
  | .hbm, ⟨32, _⟩ => ⟨S16384x64, .f32⟩
  | .hbm, ⟨33, _⟩ => ⟨S64x16384, .f32⟩
  | .hbm, ⟨34, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.Rwkv.Pieces.lean ====
module

public import proofs.«01_k».proof.Proof.Gen.KernelIdeal.Loops

/-! # One time step of the recurrence, as the kernel stores it

The kernel's loop body is written out row by row: 32 stores of a state row and 4 stores of a tile of eight outputs. Here each
of those stores is recognised as one and the same function of its row number. -/

@[expose] public section

set_option maxRecDepth 16384

noncomputable section

namespace Cert.KernelIdeal.Hand

open Idealize.ShloMosaic Idealize.ShloMosaic.TcCoe
open Cert.KernelIdeal.Gen

variable {F : FTy → Type} [FloatOps F]

/-- The sum of a state row over its 64 keys (8 tiles of 8 sublanes), one number a lane. -/
def rowSum (z : FVec F S8x8x128 .f32) : FVec F S1x128 .f32 :=
  shapeCast S1x128 (multiReduction .add [0] S128
    (multiReduction .add [0] S8x128 z 0x00000000#32 reduces_S8x8x128_S8x128 (.inl rfl) rfl : FVec F S8x128 .f32)
    0x00000000#32 reduces_S8x128_S128 (.inl rfl) rfl : FVec F S128 .f32) shapeCasts_S128_S1x128

/-- The next state row from the present one: decayed, less what the removal key finds, plus the value times its key. -/
def rowNext (w k kk bb s : FVec F S8x8x128 .f32) (v : Vec F S1x1x1x128 .f32) : FVec F S8x8x128 .f32 :=
  addf (subf (mulf s w)
      (mulf (broadcastTo S8x8x128 (shapeCast S1x1x128 (rowSum (mulf s kk)) shapeCasts_S1x128_S1x1x128)
        broadcasts_S1x1x128_S8x8x128) bb))
    (mulf (broadcastTo S8x8x128 (shapeCast S1x1x128 (shapeCast S1x128 v shapeCasts_S1x1x1x128_S1x128)
      shapeCasts_S1x128_S1x1x128) broadcasts_S1x1x128_S8x8x128) k)

/-- One sublane of an output tile: the row's product with the receptance where the sublane is `ii`, the tile before elsewhere. -/
def tileStep (v3 : IVec S8x128 32) (ii : ℕ) (z : FVec F S8x8x128 .f32) (prev : FVec F S8x128 .f32) : FVec F S8x128 .f32 :=
  select (cmpi .eq v3 (broadcast S8x128 (BitVec.ofNat 32 ii)))
    (broadcastTo S8x128 (shapeCast S1x128 (rowSum z) shapeCasts_S1x128_S1x128) broadcasts_S1x128_S8x128) prev

variable (arg1 : Memref sig .tc .vmem S32x5x8x8x128 .f32) (arg2 : Memref sig .tc .vmem S32x4x8x128 .f32)
  (arg4 : Memref sig .tc .vmem S32x8x8x128 .f32)
  (X1 : BufTy.Contents (Elt F) arg1.view.ty) (X2 : BufTy.Contents (Elt F) arg2.view.ty)
  (k : Fin k0_t1_loop.trips) (f4 : BufTy.Contents (Elt F) arg4.view.ty) (v3 : IVec S8x128 32)

/-- The time step a trip works on, as the kernel computes it. -/
def tk : ℕ := (Scalar.indexCast (Scf.iv 0#32 1#32 k : BitVec 32)).toNat

theorem tk_lt : tk k < 32 := by
  revert k; unfold tk; decide +kernel

theorem inbKey (j : Fin 5) (a : Fin 5) : (![tk k, j.val, 0, 0, 0] : Fin 5 → ℕ) a + S1x1x8x8x128.size a ≤ S32x5x8x8x128.size a := by
  have := tk_lt k; have := j.isLt
  fin_cases a <;> simp <;> omega

theorem inbVal (i : Fin 32) (a : Fin 4) :
    (![tk k, i.val / 8, i.val % 8, 0] : Fin 4 → ℕ) a + S1x1x1x128.size a ≤ S32x4x8x128.size a := by
  have := tk_lt k; have := i.isLt
  fin_cases a <;> simp <;> omega

theorem inbOut (g : Fin 4) (a : Fin 4) : (![tk k, g.val, 0, 0] : Fin 4 → ℕ) a + S1x1x8x128.size a ≤ S32x4x8x128.size a := by
  have := tk_lt k; have := g.isLt
  fin_cases a <;> simp <;> omega

theorem inbRow (i : Fin 32) (a : Fin 4) : (![i.val, 0, 0, 0] : Fin 4 → ℕ) a + S1x8x8x128.size a ≤ S32x8x8x128.size a := by
  have := i.isLt
  fin_cases a <;> simp <;> omega

/-- The `j`-th of the step's key vectors (receptance, decay, key, removal key, its weighted copy). -/
def keyAt (j : Fin 5) : FVec F S8x8x128 .f32 :=
  shapeCast S8x8x128 (View.readAt (Elt F) arg1.view (Rect.unit (s := S32x5x8x8x128) ![tk k, j.val, 0, 0, 0] S1x1x8x8x128.size (inbKey k j)).toLoadRect X1)
    shapeCasts_S1x1x8x8x128_S8x8x128

/-- The step's values of row `i`. -/
def valAt (i : Fin 32) : Vec F S1x1x1x128 .f32 :=
  View.readAt (Elt F) arg2.view (Rect.unit (s := S32x4x8x128) ![tk k, i.val / 8, i.val % 8, 0] S1x1x1x128.size (inbVal k i)).toLoadRect X2

/-- Row `i` of the state as the step finds it. -/
def rowAt (i : Fin 32) : FVec F S8x8x128 .f32 :=
  shapeCast S8x8x128 (View.readAt (Elt F) arg4.view (Rect.unit (s := S32x8x8x128) ![i.val, 0, 0, 0] S1x8x8x128.size (inbRow i)).toLoadRect f4)
    shapeCasts_S1x8x8x128_S8x8x128

/-- Row `i` of the state as the step leaves it. -/
def newRow (i : Fin 32) : FVec F S8x8x128 .f32 :=
  rowNext (keyAt arg1 X1 k 1) (keyAt arg1 X1 k 2) (keyAt arg1 X1 k 3) (keyAt arg1 X1 k 4) (rowAt arg4 f4 i) (valAt arg2 X2 k i)

/-- The store of row `i`. -/
def stPiece (i : Fin 32) : View.Piece (Elt F) S32x8x8x128 .f32 :=
  ⟨Rect.unit (s := S32x8x8x128) ![i.val, 0, 0, 0] S1x8x8x128.size (inbRow i),
    shapeCast S1x8x8x128 (newRow arg1 arg2 arg4 X1 X2 k f4 i) shapeCasts_S8x8x128_S1x8x8x128⟩

/-- The state row whose output stands in sublane `ii` of tile `g`. -/
def rowOf (g : Fin 4) (ii : Fin 8) : Fin 32 := ⟨8 * g.val + ii.val, by omega⟩

/-- Sublane `ii` of output tile `g` put in. -/
def tilePut (g : Fin 4) (ii : Fin 8) (prev : FVec F S8x128 .f32) : FVec F S8x128 .f32 :=
  tileStep v3 ii.val (mulf (newRow arg1 arg2 arg4 X1 X2 k f4 (rowOf g ii)) (keyAt arg1 X1 k 0)) prev

/-- The output tile of group `g`. -/
def outTile (g : Fin 4) : FVec F S8x128 .f32 :=
  ([7, 6, 5, 4, 3, 2, 1, 0] : List (Fin 8)).foldr (fun ii => tilePut arg1 arg2 arg4 X1 X2 k f4 v3 g ii)
    (broadcast S8x128 (Scalar.ofBits .f32 0x00000000#32 : F .f32))

/-- The store of the output tile of group `g`. -/
def outPiece (g : Fin 4) : View.Piece (Elt F) S32x4x8x128 .f32 :=
  ⟨Rect.unit (s := S32x4x8x128) ![tk k, g.val, 0, 0] S1x1x8x128.size (inbOut k g),
    shapeCast S1x1x8x128 (outTile arg1 arg2 arg4 X1 X2 k f4 v3 g) shapeCasts_S8x128_S1x1x8x128⟩

/-- The rows in the order of the list of stores (last first). -/
def rowsDown : List (Fin 32) :=
  [31, 30, 29, 28, 27, 26, 25, 24, 23, 22, 21, 20, 19, 18, 17, 16, 15, 14, 13, 12, 11, 10, 9, 8, 7, 6, 5, 4, 3, 2, 1, 0]

/-- What a time step stores: the 32 state rows, each the same function of its number, and the four output tiles. -/
theorem trip_pieces (𝒱 : Variants) (c : Dev nD) (bd : Option 𝒱.V) (i : grid0.Coords) (harg1 : arg1.IsWhole) (harg2 : arg2.IsWhole)
    (arg3 : Memref sig .tc .vmem S32x4x8x128 .f32) (harg3 : arg3.IsWhole) (harg4 : arg4.IsWhole)
    (f3 : BufTy.Contents (Elt F) arg3.view.ty) :
    tripL_k0_t1 (F := F) 𝒱 c bd i arg1 harg1 arg2 harg2 arg3 harg3 arg4 harg4 v3 X1 X2 k f3 f4
      = (([3, 2, 1, 0] : List (Fin 4)).map (outPiece arg1 arg2 arg4 X1 X2 k f4 v3), rowsDown.map (stPiece arg1 arg2 arg4 X1 X2 k f4)) := by
  unfold tripL_k0_t1 trip_k0_t1
  rfl

end Cert.KernelIdeal.Hand
-- ==== Proof.Rwkv.Trip.lean ====
module

public import proofs.«01_k».proof.Proof.Rwkv.Pieces
public import Idealize.ShloMosaic.Lib.Pointwise
public import Idealize.ShloMosaic.Lib.VecWindow

/-! # One time step of the recurrence over the extended reals

The stores of one time step, read at an index: the state and the outputs as plain sums and products of what the step finds. -/

@[expose] public section

set_option maxRecDepth 16384

noncomputable section

namespace Cert.KernelIdeal.Hand

open Idealize.ShloMosaic Idealize.ShloMosaic.TcCoe
open Cert.KernelIdeal.Gen

/-- A sum over the 64 keys of a row: 8 sublanes of 8 tiles each. -/
def keySum (f : Fin 8 → Fin 8 → EReal) : EReal := ∑ b : Fin 8, ∑ a : Fin 8, f a b

/-- The state after time step `t` of a chunk, from the chunk's keys `K`, its values `V` and the state `S` before. -/
def stepState (K : Vec Ideal S32x5x8x8x128 .f32) (V : Vec Ideal S32x4x8x128 .f32) (t : Fin 32) (S : Vec Ideal S32x8x8x128 .f32) :
    Vec Ideal S32x8x8x128 .f32 := fun j =>
  (S (ix4 (j 0) (j 1) (j 2) (j 3)) * K (ix5 t 1 (j 1) (j 2) (j 3))
    - keySum (fun a b => S (ix4 (j 0) a b (j 3)) * K (ix5 t 3 a b (j 3))) * K (ix5 t 4 (j 1) (j 2) (j 3)))
    + V (ix4 t ⟨(j 0).val / 8, by have := (j 0).isLt; change (j 0).val < 32 at this; omega⟩ ⟨(j 0).val % 8, by omega⟩ (j 3)) * K (ix5 t 2 (j 1) (j 2) (j 3))

/-- The outputs of time step `t`, from the state after it. -/
def stepOut (K : Vec Ideal S32x5x8x8x128 .f32) (t : Fin 32) (S : Vec Ideal S32x8x8x128 .f32) (i : Fin 32) (l : Fin 128) : EReal :=
  keySum (fun a b => S (ix4 i a b l) * K (ix5 t 0 a b l))

/-- The same outputs as a block of tiles (the time coordinate not looked at). -/
def planeOut (K : Vec Ideal S32x5x8x8x128 .f32) (t : Fin 32) (S : Vec Ideal S32x8x8x128 .f32) : Vec Ideal S32x4x8x128 .f32 :=
  fun y => stepOut K t S (rowOf (y 1) (y 2)) (y 3)

/-- The sum of a row over its keys. -/
theorem rowSum_apply (z : FVec Ideal S8x8x128 .f32) (l : Fin 128) :
    rowSum z (ix2 0 l) = keySum fun a b => z (ix3 a b l) := by
  unfold keySum
  pointwise [rowSum]

/-- The next row at an index. -/
theorem rowNext_apply (w k kk bb s : FVec Ideal S8x8x128 .f32) (v : Vec Ideal S1x1x1x128 .f32) (a b : Fin 8) (l : Fin 128) :
    rowNext w k kk bb s v (ix3 a b l)
      = (s (ix3 a b l) * w (ix3 a b l) - (keySum fun a b => s (ix3 a b l) * kk (ix3 a b l)) * bb (ix3 a b l))
        + v (ix4 0 0 0 l) * k (ix3 a b l) := by
  pointwise [rowNext, rowSum_apply]

variable (arg1 : Memref sig .tc .vmem S32x5x8x8x128 .f32) (arg2 : Memref sig .tc .vmem S32x4x8x128 .f32)
  (arg4 : Memref sig .tc .vmem S32x8x8x128 .f32)
  (X1 : BufTy.Contents (Elt Ideal) arg1.view.ty) (X2 : BufTy.Contents (Elt Ideal) arg2.view.ty)
  (k : Fin k0_t1_loop.trips) (f4 : BufTy.Contents (Elt Ideal) arg4.view.ty)

/-- A trip's time step as a step of the chunk. -/
def step (k : Fin k0_t1_loop.trips) : Fin 32 := ⟨tk k, tk_lt k⟩

theorem cast_key (w : Vec Ideal S1x1x8x8x128 .f32) (a b : Fin 8) (l : Fin 128) :
    shapeCast S8x8x128 w shapeCasts_S1x1x8x8x128_S8x8x128 (ix3 a b l) = w (ix5 0 0 a b l) := by
  pointwise

theorem cast_row (w : Vec Ideal S1x8x8x128 .f32) (a b : Fin 8) (l : Fin 128) :
    shapeCast S8x8x128 w shapeCasts_S1x8x8x128_S8x8x128 (ix3 a b l) = w (ix4 0 a b l) := by
  pointwise

theorem cast_rowUp (w : Vec Ideal S8x8x128 .f32) (o : Fin 1) (a b : Fin 8) (l : Fin 128) :
    shapeCast S1x8x8x128 w shapeCasts_S8x8x128_S1x8x8x128 (ix4 o a b l) = w (ix3 a b l) := by
  pointwise

theorem keyAt_apply (j : Fin 5) (a b : Fin 8) (l : Fin 128) :
    keyAt arg1 X1 k j (ix3 a b l) = arg1.view.read (Elt Ideal) X1 (ix5 (step k) j a b l) := by
  unfold keyAt
  rw [cast_key, View.readAt_eq_ld]
  unfold View.ld
  refine congrArg _ (funext fun i => ?_)
  fin_cases i <;> exact Fin.ext (by simp [LoadRect.idx, Rect.unit, step])

theorem valAt_apply (i : Fin 32) (l : Fin 128) :
    valAt arg2 X2 k i (ix4 0 0 0 l) = arg2.view.read (Elt Ideal) X2 (ix4 (step k) ⟨i.val / 8, by omega⟩ ⟨i.val % 8, by omega⟩ l) := by
  unfold valAt
  rw [View.readAt_eq_ld]
  pointwise
  rfl

theorem rowAt_apply (i : Fin 32) (a b : Fin 8) (l : Fin 128) :
    rowAt arg4 f4 i (ix3 a b l) = arg4.view.read (Elt Ideal) f4 (ix4 i a b l) := by
  unfold rowAt
  rw [cast_row, View.readAt_eq_ld]
  pointwise

/-- Row `i` after the step, at an index. -/
theorem newRow_apply (i : Fin 32) (a b : Fin 8) (l : Fin 128) :
    newRow arg1 arg2 arg4 X1 X2 k f4 i (ix3 a b l)
      = stepState (arg1.view.read (Elt Ideal) X1) (arg2.view.read (Elt Ideal) X2) (step k) (arg4.view.read (Elt Ideal) f4) (ix4 i a b l) := by
  unfold newRow
  rw [rowNext_apply]
  simp only [keyAt_apply, valAt_apply, rowAt_apply]
  rfl

theorem rowsDown_all : ∀ i : Fin 32, i ∈ rowsDown := by decide

/-- Where the store of row `i` puts an element. -/
theorem emb_row (i : Fin 32) (o : Fin 1) (a b : Fin 8) (l : Fin 128) :
    (Rect.unit (s := S32x8x8x128) ![i.val, 0, 0, 0] S1x8x8x128.size (inbRow i)).emb (ix4 o a b l) = ix4 i a b l := by
  have ho := o.isLt
  funext q
  refine Fin.ext ?_
  change (![i.val, 0, 0, 0] : Fin 4 → ℕ) q + 1 * ((ix4 o a b l : S1x8x8x128.Idx) q).val = _
  fin_cases q <;> simp

/-- The state after the step, whatever way the buffer is viewed. -/
theorem read_state :
    arg4.view.read (Elt Ideal) (arg4.view.writes (Elt Ideal) f4 (rowsDown.map (stPiece arg1 arg2 arg4 X1 X2 k f4)))
      = stepState (arg1.view.read (Elt Ideal) X1) (arg2.view.read (Elt Ideal) X2) (step k) (arg4.view.read (Elt Ideal) f4) := by
  funext y
  refine View.read_writes_apply_of_pieces _ _ _ _ ?_ y ?_
  · intro p hp x
    obtain ⟨i, -, rfl⟩ := List.mem_map.mp hp
    change S1x8x8x128.Idx at x
    obtain ⟨o, a, b, l, rfl⟩ : ∃ (o : Fin 1) (a b : Fin 8) (l : Fin 128), x = ix4 o a b l := ⟨x 0, x 1, x 2, x 3, eq_ix4 x⟩
    refine (cast_rowUp _ o a b l).trans ((newRow_apply arg1 arg2 arg4 X1 X2 k f4 i a b l).trans (congrArg _ (emb_row i o a b l).symm))
  · obtain ⟨i, a, b, l, rfl⟩ : ∃ (i : Fin 32) (a b : Fin 8) (l : Fin 128), y = ix4 i a b l := ⟨y 0, y 1, y 2, y 3, eq_ix4 y⟩
    refine ⟨stPiece arg1 arg2 arg4 X1 X2 k f4 i, List.mem_map_of_mem (rowsDown_all i), ?_⟩
    refine (Rect.mem_set_unit (inb := inbRow i)).mpr fun q => ?_
    have h1 := a.isLt; have h2 := b.isLt; have h3 := l.isLt
    fin_cases q <;> simp

/-- The kernel's count of sublanes. -/
abbrev subl : IVec S8x128 32 := iota .tc S8x128 32 [0] iota_S8x128_d0_w32

/-- One sublane put into a tile, at an index. -/
theorem tileStep_apply (ii : Fin 8) (z : FVec Ideal S8x8x128 .f32) (prev : FVec Ideal S8x128 .f32) (s : Fin 8) (l : Fin 128) :
    tileStep subl ii.val z prev (ix2 s l) = if s = ii then keySum (fun a b => z (ix3 a b l)) else prev (ix2 s l) := by
  pointwise [tileStep, rowSum_apply]
  have h : IntOp.cmpi .eq (BitVec.ofNat 32 s.val) (BitVec.ofNat 32 ii.val) = if s = ii then 1#1 else 0#1 := by
    revert s ii; decide
  rw [h]
  split <;> rfl

/-- The output tile of a group, at an index: sublane `s` is the output of row `8 g + s`. -/
theorem outTile_apply (g : Fin 4) (s : Fin 8) (l : Fin 128) :
    outTile arg1 arg2 arg4 X1 X2 k f4 subl g (ix2 s l)
      = stepOut (arg1.view.read (Elt Ideal) X1) (step k)
          (stepState (arg1.view.read (Elt Ideal) X1) (arg2.view.read (Elt Ideal) X2) (step k) (arg4.view.read (Elt Ideal) f4))
          (rowOf g s) l := by
  unfold outTile tilePut
  simp only [List.foldr, tileStep_apply]
  have h : ∀ ii : Fin 8, keySum (fun a b => mulf (newRow arg1 arg2 arg4 X1 X2 k f4 (rowOf g ii)) (keyAt arg1 X1 k 0) (ix3 a b l))
      = stepOut (arg1.view.read (Elt Ideal) X1) (step k)
          (stepState (arg1.view.read (Elt Ideal) X1) (arg2.view.read (Elt Ideal) X2) (step k) (arg4.view.read (Elt Ideal) f4))
          (rowOf g ii) l := by
    intro ii
    unfold stepOut
    simp only [← newRow_apply, ← keyAt_apply]
    rfl
  simp only [h]
  fin_cases s <;> simp

/-- Where the store of tile `g` puts an element. -/
theorem emb_out (g : Fin 4) (o o' : Fin 1) (s : Fin 8) (l : Fin 128) :
    (Rect.unit (s := S32x4x8x128) ![tk k, g.val, 0, 0] S1x1x8x128.size (inbOut k g)).emb (ix4 o o' s l) = ix4 (step k) g s l := by
  have ho := o.isLt
  have ho' := o'.isLt
  funext q
  refine Fin.ext ?_
  change (![tk k, g.val, 0, 0] : Fin 4 → ℕ) q + 1 * ((ix4 o o' s l : S1x1x8x128.Idx) q).val = _
  fin_cases q <;> simp [step]

theorem cast_outUp (w : Vec Ideal S8x128 .f32) (o o' : Fin 1) (b : Fin 8) (l : Fin 128) :
    shapeCast S1x1x8x128 w shapeCasts_S8x128_S1x1x8x128 (ix4 o o' b l) = w (ix2 b l) := by
  pointwise

/-- The output block after the step: the step's own plane replaced, every other as it was. -/
theorem read_out (arg3 : Memref sig .tc .vmem S32x4x8x128 .f32) (f3 : BufTy.Contents (Elt Ideal) arg3.view.ty)
    (t : Fin 32) (g : Fin 4) (s : Fin 8) (l : Fin 128) :
    arg3.view.read (Elt Ideal) (arg3.view.writes (Elt Ideal) f3
        (([3, 2, 1, 0] : List (Fin 4)).map (outPiece arg1 arg2 arg4 X1 X2 k f4 subl))) (ix4 t g s l)
      = if t = step k then stepOut (arg1.view.read (Elt Ideal) X1) (step k)
          (stepState (arg1.view.read (Elt Ideal) X1) (arg2.view.read (Elt Ideal) X2) (step k) (arg4.view.read (Elt Ideal) f4))
          (rowOf g s) l
        else arg3.view.read (Elt Ideal) f3 (ix4 t g s l) := by
  split
  case isTrue h =>
    subst h
    refine View.read_writes_apply_of_pieces _ _ (planeOut (arg1.view.read (Elt Ideal) X1) (step k)
          (stepState (arg1.view.read (Elt Ideal) X1) (arg2.view.read (Elt Ideal) X2) (step k) (arg4.view.read (Elt Ideal) f4))) _ ?_ _ ?_
    · intro p hp x
      obtain ⟨g, -, rfl⟩ := List.mem_map.mp hp
      change S1x1x8x128.Idx at x
      obtain ⟨o, o', b, l, rfl⟩ : ∃ (o o' : Fin 1) (b : Fin 8) (l : Fin 128), x = ix4 o o' b l := ⟨x 0, x 1, x 2, x 3, eq_ix4 x⟩
      have e := (cast_outUp (outTile arg1 arg2 arg4 X1 X2 k f4 subl g) o o' b l).trans (outTile_apply arg1 arg2 arg4 X1 X2 k f4 g b l)
      have he := emb_out k g o o' b l
      generalize stepState (arg1.view.read (Elt Ideal) X1) (arg2.view.read (Elt Ideal) X2) (step k) (arg4.view.read (Elt Ideal) f4) = S at e ⊢
      generalize arg1.view.read (Elt Ideal) X1 = K at e ⊢
      exact e.trans (congrArg (planeOut K (step k) S) he).symm
    · refine ⟨outPiece arg1 arg2 arg4 X1 X2 k f4 subl g, List.mem_map_of_mem (by revert g; decide), ?_⟩
      refine (Rect.mem_set_unit (inb := inbOut k g)).mpr fun a => ?_
      have h1 := s.isLt; have h2 := l.isLt
      fin_cases a <;> simp [step] <;> omega
  case isFalse h =>
    refine View.read_writes_apply_of_forall_not_mem _ _ _ _ fun p hp hm => h ?_
    obtain ⟨g, -, rfl⟩ := List.mem_map.mp hp
    have := (Rect.mem_set_unit (inb := inbOut k g)).mp hm 0
    exact Fin.ext (by simp [step] at this ⊢; omega)

/-! ## The steps of a chunk, one after the other -/

theorem tk_eq : ∀ k : Fin k0_t1_loop.trips, tk k = k.val := by
  unfold tk; decide +kernel

/-- The state after the first `n` time steps of a chunk. -/
def stateAfter (K : Vec Ideal S32x5x8x8x128 .f32) (V : Vec Ideal S32x4x8x128 .f32) (S : Vec Ideal S32x8x8x128 .f32) : ℕ → Vec Ideal S32x8x8x128 .f32
  | 0 => S
  | n + 1 => if h : n < 32 then stepState K V ⟨n, h⟩ (stateAfter K V S n) else stateAfter K V S n

/-- The outputs of a chunk. -/
def chunkOut (K : Vec Ideal S32x5x8x8x128 .f32) (V : Vec Ideal S32x4x8x128 .f32) (S : Vec Ideal S32x8x8x128 .f32) : Vec Ideal S32x4x8x128 .f32 :=
  fun y => stepOut K (y 0) (stateAfter K V S ((y 0 : Fin 32).val + 1))
    (rowOf (y 1) (y 2)) (y 3)

/-- The buffers after the first `n` trips of the loop. -/
theorem read_loop (𝒱 : Variants) (c : Dev nD) (bd : Option 𝒱.V) (i : grid0.Coords) (harg1 : arg1.IsWhole) (harg2 : arg2.IsWhole)
    (arg3 : Memref sig .tc .vmem S32x4x8x128 .f32) (harg3 : arg3.IsWhole) (harg4 : arg4.IsWhole)
    (f3 : BufTy.Contents (Elt Ideal) arg3.view.ty) (n : ℕ) (hn : n ≤ 32) :
    arg4.view.read (Elt Ideal) (arg4.view.writes (Elt Ideal) f4
        (pb_k0_t1 (F := Ideal) 𝒱 c bd i arg1 harg1 arg2 harg2 arg3 harg3 arg4 harg4 subl X1 X2 f3 f4 n).2)
      = stateAfter (arg1.view.read (Elt Ideal) X1) (arg2.view.read (Elt Ideal) X2) (arg4.view.read (Elt Ideal) f4) n
    ∧ ∀ (t : Fin 32) (g : Fin 4) (s : Fin 8) (l : Fin 128), t.val < n →
      arg3.view.read (Elt Ideal) (arg3.view.writes (Elt Ideal) f3
        (pb_k0_t1 (F := Ideal) 𝒱 c bd i arg1 harg1 arg2 harg2 arg3 harg3 arg4 harg4 subl X1 X2 f3 f4 n).1) (ix4 t g s l)
      = chunkOut (arg1.view.read (Elt Ideal) X1) (arg2.view.read (Elt Ideal) X2) (arg4.view.read (Elt Ideal) f4) (ix4 t g s l) := by
  induction n with
  | zero => exact ⟨rfl, fun t _ _ _ h => absurd h (Nat.not_lt_zero _)⟩
  | succ n ih =>
    obtain ⟨ih4, ih3⟩ := ih (by omega)
    have htr : n < k0_t1_loop.trips := lt_of_lt_of_eq (show n < 32 by omega) (by decide)
    have hs : step ⟨n, htr⟩ = ⟨n, by omega⟩ := Fin.ext (tk_eq ⟨n, htr⟩)
    have hst : ∀ K V S, stateAfter K V S (n + 1) = stepState K V ⟨n, by omega⟩ (stateAfter K V S n) := fun K V S => dif_pos _
    rw [pb_k0_t1_succ (F := Ideal) 𝒱 c bd i arg1 harg1 arg2 harg2 arg3 harg3 arg4 harg4 subl X1 X2 f3 f4 ⟨n, htr⟩, trip_pieces]
    dsimp only
    rw [View.writes_append, View.writes_append]
    refine ⟨?_, fun t g s l ht => ?_⟩
    · rw [read_state, ih4, hs, hst]
    · rw [read_out, ih4, hs, ← hst]
      split
      case isTrue h => subst h; rfl
      case isFalse h => exact ih3 t g s l (by have := fun e => h (Fin.ext e); simp at this; omega)

end Cert.KernelIdeal.Hand
-- ==== Proof.Rwkv.Body.lean ====
module

public import proofs.«01_k».proof.Proof.Rwkv.Trip
public import proofs.«01_k».proof.Proof.Gen.KernelIdeal.Frame

/-! # The kernel body on one chunk

The body run on whole staging memrefs: the output block ends at the chunk's outputs and the carried scratch at the state
after the chunk's last time step. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

local notation "𝕄" => MT nD τ sig Unit (Elt Ideal) ℕ (UR sig nD τ) ℕ

/-- The zero-fill's condition: the grid point is the first. -/
abbrev isFirst (i : grid0.Coords) : Prop :=
  (Scalar.cmpi .ne (Scalar.extui (Scalar.cmpi .eq (BitVec.ofNat 32 (i 0).val) 0#32)) 0#32) = 1#1

theorem isFirst_iff (t : Fin cfg0.N) : isFirst (grid0.coords t) ↔ t.val = 0 :=
  (fun t => by
    have ht : t.val < 64 := Nat.lt_of_lt_of_eq t.isLt N_0
    have e0 : (grid0.coords t 0).val = t.val / 1 % 64 := Pipeline.Grid.coords_val t 0 (by decide) rfl
    simp only [isFirst, e0]
    word_cmp
   : ∀ t : Fin grid0.N, isFirst (grid0.coords t) ↔ t.val = 0) t

/-- The state before the first time step. -/
def noState : Vec Ideal S32x8x8x128 .f32 := fun _ => 0

variable (c : Dev nD) (i : grid0.Coords) (arg1 : Memref sig .tc .vmem S32x5x8x8x128 .f32) (harg1 : arg1.IsWhole)
  (arg2 : Memref sig .tc .vmem S32x4x8x128 .f32) (harg2 : arg2.IsWhole) (arg3 : Memref sig .tc .vmem S32x4x8x128 .f32) (harg3 : arg3.IsWhole)
  (arg4 : Memref sig .tc .vmem S32x8x8x128 .f32) (harg4 : arg4.IsWhole)
  (K : Vec Ideal S32x5x8x8x128 .f32) (V : Vec Ideal S32x4x8x128 .f32)

/-- What the loop leaves in the output block. -/
theorem read_out_all (X1 : BufTy.Contents (Elt Ideal) arg1.view.ty) (X2 : BufTy.Contents (Elt Ideal) arg2.view.ty)
    (f3 : BufTy.Contents (Elt Ideal) arg3.view.ty) (f4 : BufTy.Contents (Elt Ideal) arg4.view.ty) :
    arg3.view.read (Elt Ideal) (arg3.view.writes (Elt Ideal) f3
        (pb_k0_t1 (F := Ideal) Variants.none c none i arg1 harg1 arg2 harg2 arg3 harg3 arg4 harg4 subl X1 X2 f3 f4 k0_t1_loop.trips).1)
      = chunkOut (arg1.view.read (Elt Ideal) X1) (arg2.view.read (Elt Ideal) X2) (arg4.view.read (Elt Ideal) f4) := by
  rw [show k0_t1_loop.trips = 32 by decide]
  funext y
  obtain ⟨t, g, s, l, rfl⟩ : ∃ (t : Fin 32) (g : Fin 4) (s : Fin 8) (l : Fin 128), y = ix4 t g s l := ⟨y 0, y 1, y 2, y 3, eq_ix4 y⟩
  exact (read_loop arg1 arg2 arg4 X1 X2 f4 Variants.none c none i harg1 harg2 arg3 harg3 harg4 f3 32 le_rfl).2 t g s l t.isLt

/-- What the loop leaves in the carried scratch. -/
theorem read_state_all (X1 : BufTy.Contents (Elt Ideal) arg1.view.ty) (X2 : BufTy.Contents (Elt Ideal) arg2.view.ty)
    (f3 : BufTy.Contents (Elt Ideal) arg3.view.ty) (f4 : BufTy.Contents (Elt Ideal) arg4.view.ty) :
    arg4.view.read (Elt Ideal) (arg4.view.writes (Elt Ideal) f4
        (pb_k0_t1 (F := Ideal) Variants.none c none i arg1 harg1 arg2 harg2 arg3 harg3 arg4 harg4 subl X1 X2 f3 f4 k0_t1_loop.trips).2)
      = stateAfter (arg1.view.read (Elt Ideal) X1) (arg2.view.read (Elt Ideal) X2) (arg4.view.read (Elt Ideal) f4) 32 := by
  rw [show k0_t1_loop.trips = 32 by decide]
  exact (read_loop arg1 arg2 arg4 X1 X2 f4 Variants.none c none i harg1 harg2 arg3 harg3 harg4 f3 32 le_rfl).1

/-- The body at a later chunk, the scratch at the state `S` the chunk before left. -/
theorem body_later (hc : ¬ isFirst i) (S : Vec Ideal S32x8x8x128 .f32) (E : Set ℕ) (Q : PUnit → sProp 𝕄) :
    iprop(owns (c : Thread nD τ) arg1 fullShare K ∗ owns (c : Thread nD τ) arg2 fullShare V ∗ (∃ d, owns (c : Thread nD τ) arg3 fullShare d)
        ∗ owns (c : Thread nD τ) arg4 fullShare S
        ∗ (iprop(owns (c : Thread nD τ) arg1 fullShare K ∗ owns (c : Thread nD τ) arg2 fullShare V
            ∗ owns (c : Thread nD τ) arg3 fullShare (chunkOut K V S) ∗ owns (c : Thread nD τ) arg4 fullShare (stateAfter K V S 32)) -∗ Q ⟨⟩))
      ⊢ wp frame (wpE (defs₀ (F := Ideal)) Variants.none c none) E (cc0_rwkv7_scan i arg1 harg1 arg2 harg2 arg3 harg3 arg4 harg4) Q := by
  simp only [cc0_rwkv7_scan_eq_skeleton]; unfold cc0_rwkv7_scan_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; swap; · iexact H2
    ipureintro; exact read_out_all c i arg1 harg1 arg2 harg2 arg3 harg3 arg4 harg4 f0 f1 f2 f3
  iexists _; isplitr; swap; · iexact H3
  ipureintro; exact read_state_all c i arg1 harg1 arg2 harg2 arg3 harg3 arg4 harg4 f0 f1 f2 f3

/-- The zero-fill, as the store it is. -/
def fill : View.Piece (Elt Ideal) S32x8x8x128 .f32 :=
  ⟨Rect.unit (s := S32x8x8x128) ![0, 0, 0, 0] S32x8x8x128.size inb_S32x8x8x128_S32x8x8x128_0_0_0_0, k0_pay1 (F := Ideal)⟩

theorem fill_apply (x : S32x8x8x128.Idx) : k0_pay1 (F := Ideal) x = 0 := by
  obtain ⟨a, b, d, e, rfl⟩ : ∃ (a : Fin 32) (b d : Fin 8) (e : Fin 128), x = ix4 a b d e := ⟨x 0, x 1, x 2, x 3, eq_ix4 x⟩
  pointwise [k0_pay1]

/-- The zero-fill leaves no state. -/
theorem read_fill (f4 : BufTy.Contents (Elt Ideal) arg4.view.ty) :
    arg4.view.read (Elt Ideal) (arg4.view.writes (Elt Ideal) f4 [fill]) = noState := by
  funext y
  obtain ⟨a, b, d, e, rfl⟩ : ∃ (a : Fin 32) (b d : Fin 8) (e : Fin 128), y = ix4 a b d e := ⟨y 0, y 1, y 2, y 3, eq_ix4 y⟩
  refine View.read_writes_apply_of_pieces _ _ noState _ ?_ _ ?_
  · intro p hp x
    obtain rfl := List.mem_singleton.mp hp
    change S32x8x8x128.Idx at x
    exact fill_apply x
  · refine ⟨fill, List.mem_singleton_self _, ?_⟩
    refine (Rect.mem_set_unit (inb := inb_S32x8x8x128_S32x8x8x128_0_0_0_0)).mpr fun q => ?_
    have := a.isLt; have := b.isLt; have := d.isLt; have := e.isLt
    fin_cases q <;> simp

/-- The body at the first chunk, which starts from no state. -/
theorem body_first (hc : isFirst i) (E : Set ℕ) (Q : PUnit → sProp 𝕄) :
    iprop(owns (c : Thread nD τ) arg1 fullShare K ∗ owns (c : Thread nD τ) arg2 fullShare V ∗ (∃ d, owns (c : Thread nD τ) arg3 fullShare d)
        ∗ (∃ d, owns (c : Thread nD τ) arg4 fullShare d)
        ∗ (iprop(owns (c : Thread nD τ) arg1 fullShare K ∗ owns (c : Thread nD τ) arg2 fullShare V
            ∗ owns (c : Thread nD τ) arg3 fullShare (chunkOut K V noState) ∗ owns (c : Thread nD τ) arg4 fullShare (stateAfter K V noState 32)) -∗ Q ⟨⟩))
      ⊢ wp frame (wpE (defs₀ (F := Ideal)) Variants.none c none) E (cc0_rwkv7_scan i arg1 harg1 arg2 harg2 arg3 harg3 arg4 harg4) Q := by
  simp only [cc0_rwkv7_scan_eq_skeleton]; unfold cc0_rwkv7_scan_skel
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; swap; · iexact H2
    ipureintro
    refine (read_out_all c i arg1 harg1 arg2 harg2 arg3 harg3 arg4 harg4 f0 f1 f2 (arg4.view.writes (Elt Ideal) arg4.view.junk [fill])).trans ?_
    rw [read_fill]
  iexists _; isplitr; swap; · iexact H3
  ipureintro
  rw [View.writes_append]
  refine (read_state_all c i arg1 harg1 arg2 harg2 arg3 harg3 arg4 harg4 f0 f1 f2 (arg4.view.writes (Elt Ideal) arg4.view.junk [fill])).trans ?_
  rw [read_fill]

end Cert.KernelIdeal.Hand
-- ==== Proof.Rwkv.Run.lean ====
module

public import proofs.«01_k».proof.Proof.Rwkv.Body
public import Idealize.ShloMosaic.Lib.Claim

/-! # The run of the idealized kernel

The carried scratch holds, before chunk `n`, the state after the first `n` chunks; each chunk's output block is what
`chunkOut` says. From these facts the whole program's run follows, and with it the frame. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The keys and the values of chunk `t`. -/
abbrev keysOf (c : Dev nD) (t : Fin cfg0.N) : Vec Ideal S32x5x8x8x128 .f32 := iblk m c 0 t
abbrev valsOf (c : Dev nD) (t : Fin cfg0.N) : Vec Ideal S32x4x8x128 .f32 := iblk m c 1 t

/-- The state after the first `n` chunks. -/
def chunkState (c : Dev nD) : ℕ → Vec Ideal S32x8x8x128 .f32
  | 0 => noState
  | n + 1 => if h : n < cfg0.N then stateAfter (keysOf m c ⟨n, h⟩) (valsOf m c ⟨n, h⟩) (chunkState c n) 32 else chunkState c n

theorem chunkState_succ (c : Dev nD) (t : Fin cfg0.N) :
    chunkState m c (t.val + 1) = stateAfter (keysOf m c t) (valsOf m c t) (chunkState m c t.val) 32 := dif_pos t.isLt

/-- The scratch between two chunks: at anything before the first, then at the state so far. -/
def between (c : Dev nD) : ℕ → sProp 𝕄
  | 0 => Pipeline.ΦA spec0 c
  | n + 1 => iprop(owns (c : Thread nD τ) (Memref.whole cc0_scratch0) fullShare (chunkState m c (n + 1)) ∗ (∃ r, prngReg c r))

/-- The scratch at anything, as the region hands it over. -/
theorem anyScratch_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The pipeline's proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => chunkOut (keysOf m c t) (valsOf m c t) (chunkState m c t.val)
  Φ t := between m c t.val
  q _ := fullShare
  owed _ := 0

theorem A_eq (c : Dev nD) (w : Fin cfg0.W) : (dats m 0 c).A w = V m c (Pipeline.arrRef spec0 w) := by
  dsimp only [dats]

theorem after_keys (c : Dev nD) (t : Fin cfg0.N) : (dats m 0 c).after 0 t = iblk m c 0 t := by dsimp only [dats]
theorem after_vals (c : Dev nD) (t : Fin cfg0.N) : (dats m 0 c).after 1 t = iblk m c 1 t := by dsimp only [dats]
theorem after_out (c : Dev nD) (t : Fin cfg0.N) :
    (dats m 0 c).after 2 t = chunkOut (keysOf m c t) (valsOf m c t) (chunkState m c t.val) := by dsimp only [dats]
theorem before_keys (c : Dev nD) (t : Fin cfg0.N) (d) : (dats m 0 c).before 0 t d = iblk m c 0 t :=
  before0_0_of m (dats m 0 c) (A_eq m c 0) (after_keys m c) t d
theorem before_vals (c : Dev nD) (t : Fin cfg0.N) (d) : (dats m 0 c).before 1 t d = iblk m c 1 t :=
  before0_1_of m (dats m 0 c) (A_eq m c 1) (after_vals m c) t d

/-- What the body is called with at chunk `t`, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 1600000 in
/-- The body at any chunk. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_keys, before_vals]
  rw [show (dats m 0 c).owesAt () t.succ = (dats m 0 c).owesAt () t.castSucc from rfl, after_keys, after_vals, after_out,
    show (dats m 0 c).Φ t.succ = between m c (t.val + 1) from rfl,
    show (dats m 0 c).Φ t.castSucc = between m c t.val from rfl,
    show between m c (t.val + 1) = iprop(owns (c : Thread nD τ) (Memref.whole cc0_scratch0) fullShare (chunkState m c (t.val + 1)) ∗ (∃ r, prngReg c r)) from rfl,
    chunkState_succ]
  by_cases h : t.val = 0
  · rw [show between m c t.val = Pipeline.ΦA spec0 c by rw [h]; rfl, anyScratch_eq,
      show chunkState m c t.val = noState by rw [h]; rfl]
    iintro ⟨⟨HS, Hg⟩, Ho, ⟨%d0, H0⟩, ⟨%d1, H1⟩, ⟨%d2, H2⟩⟩
    iapply (body_first c (grid0.coords t) _ _ _ _ _ _ _ _ (keysOf m c t) (valsOf m c t) ((isFirst_iff t).mpr h) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · rw [show between m c t.val = iprop(owns (c : Thread nD τ) (Memref.whole cc0_scratch0) fullShare (chunkState m c t.val) ∗ (∃ r, prngReg c r)) by
      obtain ⟨n, hn⟩ := Nat.exists_eq_succ_of_ne_zero h; rw [hn]; rfl]
    iintro ⟨⟨HS, Hg⟩, Ho, ⟨%d0, H0⟩, ⟨%d1, H1⟩, ⟨%d2, H2⟩⟩
    iapply (body_later c (grid0.coords t) _ _ _ _ _ _ _ _ (keysOf m c t) (valsOf m c t) (fun hf => h ((isFirst_iff t).mp hf)) (chunkState m c t.val) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2

theorem defs₀_row (t : Fin cfg0.N) :
    defs₀ (F := Ideal) .tc cfg0.body (cfg0.bodyArgs t (cfg0.slots t)) = bodyAt0 t := by
  unfold defs₀; rw [Defs.onTc_tc]

/-- The body obligation, at every chunk. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = between m c 64 by
      rw [show (dats m 0 c).Φ (Fin.last cfg0.N) = between m c cfg0.N from rfl, show cfg0.N = 64 from N_0],
    show between m c 64 = iprop(owns (c : Thread nD τ) (Memref.whole cc0_scratch0) fullShare (chunkState m c 64) ∗ (∃ r, prngReg c r)) from rfl,
    anyScratch_eq]
  iintro ⟨HS, Hg⟩
  isplitl [HS]
  · iexists _; iexact HS
  iexact Hg

set_option backward.isDefEq.respectTransparency.types false in
set_option maxHeartbeats 800000 in
/-- The run, with every counter at zero at the end. -/
theorem run_counters : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)
    (Q' := fun r => Pipeline.FramePost cfgs (dats m) 0 (Pipeline.afterTail₀ cfgs (dats m) 0 (V0 m) [hostOps1]) r ∧ r.2.sem = fun _ => 0)
    (hQ' := fun _ h => h)

/-- The run. -/
theorem run : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_counters m ρ)

/-- The frame of the idealized kernel. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_counters m ρ))

end Cert.KernelIdeal.Hand
-- ==== Proof.Rwkv.Spec.lean ====
module

public import Idealize.ShloMosaic.Lib.Pointwise

/-! # The recurrence, in plain sums and products

For each batch entry and head a 64×64 state `S` (value row, key column) starts at zero and at time `n` becomes
`S·diag(w) − (S·kk) ⊗ (kk·a) + v ⊗ k`; the output is the new state times `r`. Everything over the extended reals. -/

@[expose] public section

noncomputable section

namespace Rwkv

open Idealize.ShloMosaic

/-- An input of the recurrence: batch, time, head, channel. -/
abbrev Input : Type := (⟨4, ![8, 2048, 8, 64]⟩ : Shape).Idx → EReal

/-- The six inputs. -/
structure Inputs where
  r : Input
  w : Input
  k : Input
  v : Input
  kk : Input
  a : Input

/-- The states of all batch entries and heads: batch, head, value row, key column. -/
abbrev State : Type := Fin 8 → Fin 8 → Fin 64 → Fin 64 → EReal

/-- The state after time `n` from the state before it. -/
def next (x : Inputs) (n : Fin 2048) (S : State) : State := fun b h i j =>
  (S b h i j * x.w (ix4 b n h j) - (∑ j' : Fin 64, S b h i j' * x.kk (ix4 b n h j')) * (x.kk (ix4 b n h j) * x.a (ix4 b n h j)))
    + x.v (ix4 b n h i) * x.k (ix4 b n h j)

/-- The state after the first `n` times. -/
def state (x : Inputs) : ℕ → State
  | 0 => fun _ _ _ _ => 0
  | n + 1 => if h : n < 2048 then next x ⟨n, h⟩ (state x n) else state x n

theorem state_succ (x : Inputs) (n : Fin 2048) : state x (n.val + 1) = next x n (state x n.val) := dif_pos n.isLt

/-- The output at time `n`. -/
def out (x : Inputs) (n : Fin 2048) (b h : Fin 8) (i : Fin 64) : EReal :=
  ∑ j : Fin 64, state x (n.val + 1) b h i j * x.r (ix4 b n h j)

end Rwkv

end
-- ==== Proof.Rwkv.Value.lean ====
module

public import proofs.«01_k».proof.Proof.Rwkv.Run
public import proofs.«01_k».proof.Proof.Rwkv.Spec
public import Idealize.ShloMosaic.Lib.Pipeline.ValueKit
public import Idealize.ShloMosaic.Lib.StableHlo.RunRead

/-! # The idealized kernel computes the recurrence

The kernel keeps the states of all batch entries and heads in the 128 lanes of its scratch, half of the 64 value rows in each
half of the lanes, and the 64 keys in 8 tiles of 8 sublanes. Read through that layout its chunks are the recurrence. -/

@[expose] public section

set_option maxRecDepth 16384

noncomputable section

namespace Cert.KernelIdeal.Hand

open Idealize.ShloMosaic Idealize.ShloMosaic.TcCoe Idealize.ShloMosaic.Tactic Idealize.ShloMosaic.StableHlo
open Idealize.ShloMosaic.Pipeline (Dat)
open Cert.KernelIdeal.Gen

variable (m : (ℓ : Loc nD τ sig) → Buf (Elt Ideal) ℓ)

/-- The recurrence's inputs as the program's arguments hold them. -/
def inputs (c : Dev nD) : Rwkv.Inputs where
  r := m ((c.tc : Thread nD τ).loc main_arg0)
  w := m ((c.tc : Thread nD τ).loc main_arg1)
  k := m ((c.tc : Thread nD τ).loc main_arg2)
  v := m ((c.tc : Thread nD τ).loc main_arg3)
  kk := m ((c.tc : Thread nD τ).loc main_arg4)
  a := m ((c.tc : Thread nD τ).loc main_arg5)

/-- Which batch entry, head and half of the value rows a lane holds. -/
def batOf (l : Fin 128) : Fin 8 := ⟨l.val % 64 / 8, by omega⟩
def headOf (l : Fin 128) : Fin 8 := ⟨l.val % 8, by omega⟩
/-- The value row a scratch row holds in a lane. -/
def valueOf (i : Fin 32) (l : Fin 128) : Fin 64 := ⟨l.val / 64 * 32 + i.val, by omega⟩
/-- The key a tile's sublane holds. -/
def keyOf (a b : Fin 8) : Fin 64 := ⟨a.val * 8 + b.val, by omega⟩

/-- The five key vectors of a time step: `r`, `w`, `k`, `kk`, `kk·a`. -/
def keyInput (x : Rwkv.Inputs) (q : Fin 5) : Rwkv.Input := fun p =>
  match q with
  | 0 => x.r p
  | 1 => x.w p
  | 2 => x.k p
  | 3 => x.kk p
  | 4 => x.kk p * x.a p

/-- The five key vectors stacked, time in front. -/
theorem keyStack_apply (Z0 Z1 Z2 Z3 Z4 : Vec Ideal S1x8x2048x8x64 .f32) (t : Fin 2048) (q : Fin 5) (j : Fin 64) (b h : Fin 8) :
    transpose S2048x5x64x8x8 [2, 0, 4, 1, 3]
      (concatenate S5x8x2048x8x64 0
        [⟨S1x8x2048x8x64, Z0⟩, ⟨S1x8x2048x8x64, Z1⟩, ⟨S1x8x2048x8x64, Z2⟩, ⟨S1x8x2048x8x64, Z3⟩, ⟨S1x8x2048x8x64, Z4⟩]
        concatenates_S1x8x2048x8x64_S1x8x2048x8x64_S1x8x2048x8x64_S1x8x2048x8x64_S1x8x2048x8x64_S5x8x2048x8x64_d0)
      transposes_S5x8x2048x8x64_S2048x5x64x8x8_2_0_4_1_3 (ix5 t q j b h) = (![Z0, Z1, Z2, Z3, Z4] : Fin 5 → Vec Ideal S1x8x2048x8x64 .f32) q (ix5 0 b t h j) := by
  fin_cases q
  · pointwise
  · pointwise
  · pointwise
  · pointwise
  · pointwise

/-- One key vector, as the host part puts it into the stack. -/
theorem keyPart_apply (X : Vec Ideal S8x2048x8x64 .f32) (t : Fin 2048) (j : Fin 64) (b h : Fin 8) :
    broadcastInDim S1x8x2048x8x64 ![1, 2, 3, 4] bcast_S8x2048x8x64_S1x8x2048x8x64_1_2_3_4 X (ix5 0 b t h j) = X (ix4 b t h j) := by
  pointwise

theorem chains_apply (Z : Vec Ideal S2048x5x64x8x8 .f32) (t : Fin 2048) (q : Fin 5) (j : Fin 64) (n : Fin 64) :
    shapeCast S2048x5x64x64 Z shapeCasts_S2048x5x64x8x8_S2048x5x64x64 (ix4 t q j n)
      = Z (ix5 t q j ⟨n.val / 8, by omega⟩ ⟨n.val % 8, by omega⟩) := by
  pointwise

theorem halves_apply (Z : Vec Ideal S2048x5x64x64 .f32) (t : Fin 2048) (q : Fin 5) (j : Fin 64) (l : Fin 128) :
    concatenate S2048x5x64x128 3 [⟨S2048x5x64x64, Z⟩, ⟨S2048x5x64x64, Z⟩] concatenates_S2048x5x64x64_S2048x5x64x64_S2048x5x64x128_d3 (ix4 t q j l)
      = Z (ix4 t q j ⟨l.val % 64, by omega⟩) := by
  pointwise
  split
  · exact congrArg _ (congrArg _ (Fin.ext (by simp only; omega)))
  · exact congrArg _ (congrArg _ (Fin.ext (by simp only; omega)))

theorem tiles_apply (Z : Vec Ideal S2048x5x64x128 .f32) (t : Fin 2048) (q : Fin 5) (a b : Fin 8) (l : Fin 128) :
    shapeCast S2048x5x8x8x128 Z shapeCasts_S2048x5x64x128_S2048x5x8x8x128 (ix5 t q a b l) = Z (ix4 t q (keyOf a b) l) := by
  unfold keyOf
  pointwise

/-- The array of keys the kernel is given. -/
theorem keys_entry (c : Dev nD) (t : Fin 2048) (q : Fin 5) (a b : Fin 8) (l : Fin 128) :
    (V m c main_v10 : Vec Ideal S2048x5x8x8x128 .f32) (ix5 t q a b l)
      = keyInput (inputs m c) q (ix4 (batOf l) t (headOf l) (keyOf a b)) := by
  show StableHlo.after hostOps0 _ _ _ = _
  unfold hostOps0
  after_reads_simp
  refine (tiles_apply _ t q a b l).trans ?_
  refine (halves_apply _ t q _ l).trans ?_
  after_reads_simp
  refine (chains_apply _ t q _ _).trans ?_
  refine (keyStack_apply _ _ _ _ _ t q _ _ _).trans ?_
  have hh : (⟨(⟨l.val % 64, by omega⟩ : Fin 64).val % 8, by omega⟩ : Fin 8) = headOf l := Fin.ext (show l.val % 64 % 8 = l.val % 8 by omega)
  rw [hh]
  fin_cases q
  · show StableHlo.upto _ _ _ (Proc.devRef .tc main_v1) _ = _
    after_reads_simp
    exact keyPart_apply _ t _ _ _
  · show StableHlo.upto _ _ _ (Proc.devRef .tc main_v2) _ = _
    after_reads_simp
    exact keyPart_apply _ t _ _ _
  · show StableHlo.upto _ _ _ (Proc.devRef .tc main_v3) _ = _
    after_reads_simp
    exact keyPart_apply _ t _ _ _
  · show StableHlo.upto _ _ _ (Proc.devRef .tc main_v4) _ = _
    after_reads_simp
    exact keyPart_apply _ t _ _ _
  · show StableHlo.upto _ _ _ (Proc.devRef .tc main_v5) _ = _
    after_reads_simp
    exact keyPart_apply _ t _ _ _

/-- The values the kernel is given, from the value input. -/
theorem valLayout_apply (X : Vec Ideal S8x2048x8x64 .f32) (t : Fin 2048) (g : Fin 4) (s : Fin 8) (l : Fin 128) :
    shapeCast S2048x4x8x128
      (transpose S2048x32x2x8x8 [1, 4, 3, 0, 2]
        (shapeCast S8x2048x8x2x32 X shapeCasts_S8x2048x8x64_S8x2048x8x2x32) transposes_S8x2048x8x2x32_S2048x32x2x8x8_1_4_3_0_2)
      shapeCasts_S2048x32x2x8x8_S2048x4x8x128 (ix4 t g s l)
    = X (ix4 (batOf l) t (headOf l) (valueOf (rowOf g s) l)) := by
  unfold batOf headOf valueOf rowOf
  pointwise
  have e1 : l.val / 8 % 8 = l.val % 64 / 8 := by omega
  have e2 : g.val * 8 + s.val = 8 * g.val + s.val := by omega
  simp only [e1, e2]

theorem vals_entry (c : Dev nD) (t : Fin 2048) (g : Fin 4) (s : Fin 8) (l : Fin 128) :
    (V m c main_v13 : Vec Ideal S2048x4x8x128 .f32) (ix4 t g s l)
      = (inputs m c).v (ix4 (batOf l) t (headOf l) (valueOf (rowOf g s) l)) := by
  show StableHlo.after hostOps0 _ _ _ = _
  unfold hostOps0
  after_reads_simp
  exact valLayout_apply _ t g s l

theorem points : cfg0.N = 64 := by decide

/-- Step `s` of chunk `t`, as a time. -/
def timeOf (t : Fin cfg0.N) (s : Fin 32) : Fin 2048 := ⟨t.val * 32 + s.val, by have := t.isLt; have := points; omega⟩

/-- Where the windows' blocks lie: chunk `t` of each array. -/
theorem idx : ∀ t : Fin cfg0.N, win0_0.index t = ![t.val, 0, 0, 0, 0] ∧ win0_1.index t = ![t.val, 0, 0, 0] ∧ win0_2.index t = ![t.val, 0, 0, 0] :=
  (by decide +kernel : ∀ t : Fin grid0.N, _)

theorem keysOf_apply (c : Dev nD) (t : Fin cfg0.N) (s : Fin 32) (q : Fin 5) (a b : Fin 8) (l : Fin 128) :
    keysOf m c t (ix5 s q a b l) = keyInput (inputs m c) q (ix4 (batOf l) (timeOf t s) (headOf l) (keyOf a b)) := by
  refine Eq.trans ?_ (keys_entry m c (timeOf t s) q a b l)
  unfold keysOf timeOf
  blk_ext [iblk, idx t]

theorem valsOf_apply (c : Dev nD) (t : Fin cfg0.N) (s : Fin 32) (g : Fin 4) (r : Fin 8) (l : Fin 128) :
    valsOf m c t (ix4 s g r l) = (inputs m c).v (ix4 (batOf l) (timeOf t s) (headOf l) (valueOf (rowOf g r) l)) := by
  refine Eq.trans ?_ (vals_entry m c (timeOf t s) g r l)
  unfold valsOf timeOf
  blk_ext [iblk, idx t]

/-- The sum over tiles and sublanes is the sum over the 64 keys. -/
theorem keySum_keyOf (f : Fin 64 → EReal) : (keySum fun a b => f (keyOf a b)) = ∑ j : Fin 64, f j := by
  unfold keySum
  rw [Finset.sum_comm, ← Fintype.sum_prod_type']
  refine Fintype.sum_equiv (finProdFinEquiv : Fin 8 × Fin 8 ≃ Fin (8 * 8)) _ (fun j : Fin (8 * 8) => f j) fun p => ?_
  refine congrArg f (Fin.ext ?_)
  show p.1.val * 8 + p.2.val = p.2.val + 8 * p.1.val
  omega

/-- A scratch that holds the recurrence's states after `n` times. -/
def HoldsState (x : Rwkv.Inputs) (n : ℕ) (S : Vec Ideal S32x8x8x128 .f32) : Prop :=
  ∀ (i : Fin 32) (a b : Fin 8) (l : Fin 128), S (ix4 i a b l) = Rwkv.state x n (batOf l) (headOf l) (valueOf i l) (keyOf a b)

theorem rowOf_div (i : Fin 32) : rowOf ⟨i.val / 8, by omega⟩ ⟨i.val % 8, by omega⟩ = i :=
  Fin.ext (show 8 * (i.val / 8) + i.val % 8 = i.val by omega)

theorem step_holds (c : Dev nD) (t : Fin cfg0.N) (s : Fin 32) (S : Vec Ideal S32x8x8x128 .f32)
    (hS : HoldsState (inputs m c) (t.val * 32 + s.val) S) :
    HoldsState (inputs m c) (t.val * 32 + s.val + 1) (stepState (keysOf m c t) (valsOf m c t) s S) := by
  intro i a b l
  have hn := Rwkv.state_succ (inputs m c) (timeOf t s)
  refine Eq.trans ?_ (congrFun (congrFun (congrFun (congrFun hn (batOf l)) (headOf l)) (valueOf i l)) (keyOf a b)).symm
  unfold stepState Rwkv.next
  simp only [ix4_0, ix4_1, ix4_2, ix4_3]
  rw [keysOf_apply, keysOf_apply, keysOf_apply, valsOf_apply, rowOf_div, hS i a b l]
  have hsum : (keySum fun a b => S (ix4 i a b l) * keysOf m c t (ix5 s 3 a b l))
      = ∑ j : Fin 64, Rwkv.state (inputs m c) (t.val * 32 + s.val) (batOf l) (headOf l) (valueOf i l) j
          * (inputs m c).kk (ix4 (batOf l) (timeOf t s) (headOf l) j) := by
    rw [← keySum_keyOf]
    refine congrArg keySum (funext fun a => funext fun b => ?_)
    rw [hS i a b l, keysOf_apply]
    rfl
  rw [hsum]
  rfl

theorem states_hold (c : Dev nD) (t : Fin cfg0.N) (S : Vec Ideal S32x8x8x128 .f32)
    (hS : HoldsState (inputs m c) (t.val * 32) S) :
    ∀ n : ℕ, n ≤ 32 → HoldsState (inputs m c) (t.val * 32 + n) (stateAfter (keysOf m c t) (valsOf m c t) S n)
  | 0, _ => hS
  | n + 1, h => by
    rw [show stateAfter (keysOf m c t) (valsOf m c t) S (n + 1)
      = stepState (keysOf m c t) (valsOf m c t) ⟨n, h⟩ (stateAfter (keysOf m c t) (valsOf m c t) S n) from dif_pos h]
    exact step_holds m c t ⟨n, h⟩ _ (states_hold c t S hS n (by omega))

theorem chunks_hold (c : Dev nD) : ∀ n : ℕ, n ≤ cfg0.N → HoldsState (inputs m c) (n * 32) (chunkState m c n)
  | 0, _ => fun _ _ _ _ => rfl
  | n + 1, h => by
    rw [chunkState_succ m c ⟨n, h⟩, Nat.succ_mul]
    exact states_hold m c ⟨n, h⟩ _ (chunks_hold c n (by omega)) 32 le_rfl

/-- What a chunk puts out. -/
theorem chunkOut_apply (c : Dev nD) (t : Fin cfg0.N) (s : Fin 32) (g : Fin 4) (r : Fin 8) (l : Fin 128) :
    chunkOut (keysOf m c t) (valsOf m c t) (chunkState m c t.val) (ix4 s g r l)
      = Rwkv.out (inputs m c) (timeOf t s) (batOf l) (headOf l) (valueOf (rowOf g r) l) := by
  have h := states_hold m c t _ (chunks_hold m c t.val t.isLt.le) (s.val + 1) s.isLt
  unfold chunkOut stepOut Rwkv.out
  simp only [ix4_0, ix4_1, ix4_2, ix4_3]
  rw [← keySum_keyOf]
  refine congrArg keySum (funext fun a => funext fun b => ?_)
  rw [h (rowOf g r) a b l, keysOf_apply]
  rfl

/-- The output array as the region leaves it. -/
def outArray (x : Rwkv.Inputs) : Vec Ideal S2048x4x8x128 .f32 := fun y =>
  Rwkv.out x (y 0) (batOf (y 3)) (headOf (y 3)) (valueOf (rowOf (y 1) (y 2)) (y 3))

theorem out_final (c : Dev nD) : (dats m 0 c).arrAt 2 (cfgs 0).N = outArray (inputs m c) := by
  refine (dats m 0 c).arrAt_eq_of_covers 2 _ (by decide +kernel) fun t _ y => ?_
  blk_simp
  rw [after_out]
  have he : (win0_2.blk t).view.emb y = ix4 (timeOf t (y 0)) (y 1) (y 2) (y 3) := by
    unfold timeOf
    blk_ext [idx t]
  rw [he]
  refine Eq.trans ?_ (chunkOut_apply m c t (y 0) (y 1) (y 2) (y 3))
  exact congrArg _ (eq_ix4 (y : S32x4x8x128.Idx))

/-- The host part after the region: the output in the shape of the inputs. -/
theorem outLayout_apply (Y : Vec Ideal S2048x4x8x128 .f32) (b h : Fin 8) (t : Fin 2048) (i : Fin 64) :
    shapeCast S8x2048x8x64 (transpose S8x2048x8x2x32 [3, 0, 4, 2, 1]
      (shapeCast S2048x32x2x8x8 Y shapeCasts_S2048x4x8x128_S2048x32x2x8x8) transposes_S2048x32x2x8x8_S8x2048x8x2x32_3_0_4_2_1)
      shapeCasts_S8x2048x8x2x32_S8x2048x8x64 (ix4 b t h i)
    = Y (ix4 t ⟨i.val % 32 / 8, by omega⟩ ⟨i.val % 8, by omega⟩ ⟨i.val / 32 * 64 + b.val * 8 + h.val, by omega⟩) := by
  pointwise
  have e : i.val % 32 % 8 = i.val % 8 := by omega
  simp only [e]

/-- The result: the recurrence's outputs. -/
def result (x : Rwkv.Inputs) : Vec Ideal S8x2048x8x64 .f32 := fun q => Rwkv.out x (q 1) (q 0) (q 2) (q 3)

theorem outLayout_result (x : Rwkv.Inputs) : shapeCast S8x2048x8x64 (transpose S8x2048x8x2x32 [3, 0, 4, 2, 1]
      (shapeCast S2048x32x2x8x8 (outArray x) shapeCasts_S2048x4x8x128_S2048x32x2x8x8) transposes_S2048x32x2x8x8_S8x2048x8x2x32_3_0_4_2_1)
      shapeCasts_S8x2048x8x2x32_S8x2048x8x64 = result x := by
  have key : ∀ (b : Fin 8) (t : Fin 2048) (h : Fin 8) (i : Fin 64), shapeCast S8x2048x8x64 (transpose S8x2048x8x2x32 [3, 0, 4, 2, 1]
      (shapeCast S2048x32x2x8x8 (outArray x) shapeCasts_S2048x4x8x128_S2048x32x2x8x8) transposes_S2048x32x2x8x8_S8x2048x8x2x32_3_0_4_2_1)
      shapeCasts_S8x2048x8x2x32_S8x2048x8x64 (ix4 b t h i) = Rwkv.out x t b h i := by
    intro b t h i
    refine (outLayout_apply _ b h t i).trans ?_
    generalize hl : (⟨i.val / 32 * 64 + b.val * 8 + h.val, by omega⟩ : Fin 128) = l
    have hl' : l.val = i.val / 32 * 64 + b.val * 8 + h.val := congrArg Fin.val hl.symm
    have hb : batOf l = b := Fin.ext (show l.val % 64 / 8 = b.val by omega)
    have hh : headOf l = h := Fin.ext (show l.val % 8 = h.val by omega)
    have hv : valueOf (rowOf ⟨i.val % 32 / 8, by omega⟩ ⟨i.val % 8, by omega⟩) l = i :=
      Fin.ext (show l.val / 64 * 32 + (8 * (i.val % 32 / 8) + i.val % 8) = i.val by omega)
    show Rwkv.out x t (batOf l) (headOf l) (valueOf (rowOf ⟨i.val % 32 / 8, _⟩ ⟨i.val % 8, _⟩) l) = _
    rw [hb, hh, hv]
  funext q
  rw [eq_ix4 q]
  exact key _ _ _ _

/-- Every run of the idealized kernel ends with the recurrence's outputs in its result. -/
theorem run_value (ρ : Dev nD → PrngReg) : θ_run defs (onTc (τ := τ) (main (F := Ideal))) ⟨m, fun _ => 0, ρ⟩ (fun r => ∀ c : Dev nD,
      r.2.mem ((c.tc : Thread nD τ).loc main_v17) = result (inputs m c)) := by
  refine (θ_run defs _ _).mono (fun r h c => ?_) (run m ρ)
  have h17 := (h c).2 main_v17 (Pipeline.mem_restRefs_of main_v17 (by decide) (by decide))
  refine h17.trans ?_
  unfold Pipeline.afterTail₀
  show StableHlo.after hostOps1 _ _ = _
  unfold hostOps1
  after_reads_simp
  have e : Pipeline.withArrays (cfgs 0).spec c (V0 m c) (fun w => (dats m 0 c).arrAt w (cfgs 0).N) (Proc.devRef .tc main_v14)
      = outArray (inputs m c) :=
    (Pipeline.withArrays_arr (cfgs 0).spec (by decide) c (V0 m c) (fun w => (dats m 0 c).arrAt w (cfgs 0).N) 2).trans (out_final m c)
  refine Eq.trans ?_ (outLayout_result (inputs m c))
  rw [← e]
  rfl

end Cert.KernelIdeal.Hand

end
-- ==== Proof.Rwkv.Ref.lean ====
module

public import proofs.«01_k».proof.Proof.Gen.ReferenceIdeal.Run
public import proofs.«01_k».proof.Proof.Rwkv.Spec
public import Idealize.ShloMosaic.Lib.WordCmp
public import Idealize.ShloMosaic.Lib.Quiescent

/-! # The reference computes the recurrence

The reference's loop is followed trip by trip: after `k` trips it carries the state after the first `k` times and the outputs
of those times. -/

@[expose] public section

set_option maxRecDepth 16384

noncomputable section

namespace Cert.ReferenceIdeal.Hand

open Idealize.ShloMosaic Idealize.ShloMosaic.TcCoe Idealize.ShloMosaic.StableHlo Idealize.SL.Sem
open Idealize.ShloMosaic.WordCmp
open Cert.ReferenceIdeal.Gen Cert.ReferenceIdeal.Value

/-- The time steps of an input, one of which the body reads. -/
abbrev Series : Type := Vec Ideal S2048x8x8x64 .f32

/-- The start of the body's slice at counter `n`. -/
abbrev startAt (ctr : (⟨S_, .i32⟩ : BufTy).Contents (Elt Ideal)) : Fin 4 → Int := fun k =>
  (((![ctr, constantI S_ 32 0#32, constantI S_ 32 0#32, constantI S_ 32 0#32] : Fin 4 → (⟨S_, .i32⟩ : BufTy).Contents (Elt Ideal))) k (Shape.Idx.first h_S_)).toInt

/-- The counter at trip `n`. -/
abbrev counter (n : ℕ) : (⟨S_, .i32⟩ : BufTy).Contents (Elt Ideal) := fun _ => BitVec.ofNat 32 n

theorem startAt_counter (n : Fin 2048) (k : Fin 4) : startAt (counter n.val) k = ((![n.val, 0, 0, 0] : Fin 4 → ℕ) k : Int) := by
  have h : (BitVec.ofNat 32 n.val).toInt = (n.val : Int) := toInt_ofNat_of_lt (by have := n.isLt; omega)
  fin_cases k
  · exact h
  · rfl
  · rfl
  · rfl

/-- What the body reads of a series at counter `ctr`. -/
def atTime (X : Series) (ctr : (⟨S_, .i32⟩ : BufTy).Contents (Elt Ideal)) : Vec Ideal S8x8x64 .f32 :=
  shapeCast S8x8x64 (Host.dynamicSlice S1x8x8x64 X (startAt ctr) sliceFits_S2048x8x8x64_S1x8x8x64) shapeCasts_S1x8x8x64_S8x8x64

theorem atTime_apply (X : Series) (n : Fin 2048) (b h : Fin 8) (j : Fin 64) :
    atTime X (counter n.val) (ix3 b h j) = X (ix4 n b h j) := by
  unfold atTime
  rw [dynamicSlice_eq_extract S1x8x8x64 X _ _ ![n.val, 0, 0, 0]
    ⟨rfl, by intro k; have := n.isLt; fin_cases k <;> simp <;> omega⟩ (startAt_counter n)]
  pointwise

/-- What one trip makes of the state, from the slices of its time. -/
def newState (S : Vec Ideal S8x8x64x64 .f32) (w k v kk a : Vec Ideal S8x8x64 .f32) : Vec Ideal S8x8x64x64 .f32 := fun q =>
  (S (ix4 (q 0) (q 1) (q 2) (q 3)) * w (ix3 (q 0) (q 1) (q 3))
    - (∑ j : Fin 64, S (ix4 (q 0) (q 1) (q 2) j) * kk (ix3 (q 0) (q 1) j)) * (kk (ix3 (q 0) (q 1) (q 3)) * a (ix3 (q 0) (q 1) (q 3))))
    + v (ix3 (q 0) (q 1) (q 2)) * k (ix3 (q 0) (q 1) (q 3))

variable (V : Valuation τ sig (Elt Ideal))

abbrev series0 : Series := V (Proc.devRef .tc main_v8_0)
abbrev series1 : Series := V (Proc.devRef .tc main_v8_1)
abbrev series2 : Series := V (Proc.devRef .tc main_v8_2)
abbrev series3 : Series := V (Proc.devRef .tc main_v8_3)
abbrev series4 : Series := V (Proc.devRef .tc main_v8_4)
abbrev series5 : Series := V (Proc.devRef .tc main_v8_5)
abbrev ctrOf : (⟨S_, .i32⟩ : BufTy).Contents (Elt Ideal) := V (Proc.devRef .tc main_v8_6)
abbrev stateOf : Vec Ideal S8x8x64x64 .f32 := V (Proc.devRef .tc main_v8_7)
abbrev outsOf : Series := V (Proc.devRef .tc main_v8_8)

/-- One trip's new state as the body's operations make it, from the slices of its time. -/
def stateOps (S : Vec Ideal S8x8x64x64 .f32) (w k v kk a : Vec Ideal S8x8x64 .f32) : FVec Ideal S8x8x64x64 .f32 :=
  addf (subf (mulf S (broadcastInDim S8x8x64x64 ![0, 1, 2, 3] bcast_S8x8x1x64_S8x8x64x64_0_1_2_3
        (broadcastInDim S8x8x1x64 ![0, 1, 3] bcast_S8x8x64_S8x8x1x64_0_1_3 w)))
      (mulf (broadcastInDim S8x8x64x64 ![0, 1, 2, 3] bcast_S8x8x64x1_S8x8x64x64_0_1_2_3
          (broadcastInDim S8x8x64x1 ![0, 1, 2] bcast_S8x8x64_S8x8x64x1_0_1_2
            (Host.dotGeneral (F := Ideal) (φ₁ := .f32) (φ₂ := .f32) dot_S8x8x64x64_S8x8x64_S8x8x64_3_2_2_n_01_01 none S kk)))
        (broadcastInDim S8x8x64x64 ![0, 1, 2, 3] bcast_S8x8x1x64_S8x8x64x64_0_1_2_3
          (broadcastInDim S8x8x1x64 ![0, 1, 3] bcast_S8x8x64_S8x8x1x64_0_1_3 (mulf (F := Ideal) kk a)))))
    (mulf (broadcastInDim S8x8x64x64 ![0, 1, 2, 3] bcast_S8x8x64x1_S8x8x64x64_0_1_2_3
        (broadcastInDim S8x8x64x1 ![0, 1, 2] bcast_S8x8x64_S8x8x64x1_0_1_2 v))
      (broadcastInDim S8x8x64x64 ![0, 1, 2, 3] bcast_S8x8x1x64_S8x8x64x64_0_1_2_3
        (broadcastInDim S8x8x1x64 ![0, 1, 3] bcast_S8x8x64_S8x8x1x64_0_1_3 k)))

theorem stateOps_apply (S : Vec Ideal S8x8x64x64 .f32) (w k v kk a : Vec Ideal S8x8x64 .f32) (b h : Fin 8) (i j : Fin 64) :
    stateOps S w k v kk a (ix4 b h i j) = newState S w k v kk a (ix4 b h i j) := by
  unfold newState
  pointwise [stateOps]

/-- The outputs of one trip, from its new state. -/
def outOps (S : Vec Ideal S8x8x64x64 .f32) (r : Vec Ideal S8x8x64 .f32) : FVec Ideal S8x8x64 .f32 :=
  Host.dotGeneral (F := Ideal) (φ₁ := .f32) (φ₂ := .f32) dot_S8x8x64x64_S8x8x64_S8x8x64_3_2_2_n_01_01 none S r

theorem outOps_apply (S : Vec Ideal S8x8x64x64 .f32) (r : Vec Ideal S8x8x64 .f32) (b h : Fin 8) (i : Fin 64) :
    outOps S r (ix3 b h i) = ∑ j : Fin 64, S (ix4 b h i j) * r (ix3 b h j) := by
  pointwise [outOps]

/-- The outputs written into the series of outputs at the counter. -/
def putAt (Y : Series) (y : Vec Ideal S8x8x64 .f32) (ctr : (⟨S_, .i32⟩ : BufTy).Contents (Elt Ideal)) : Series :=
  Host.dynamicUpdateSlice Y (broadcastInDim S1x8x8x64 ![1, 2, 3] bcast_S8x8x64_S1x8x8x64_1_2_3 y) (startAt ctr)
    updateFits_S2048x8x8x64_S1x8x8x64

theorem putAt_apply (Y : Series) (y : Vec Ideal S8x8x64 .f32) (n t : Fin 2048) (b h : Fin 8) (i : Fin 64) :
    putAt Y y (counter n.val) (ix4 t b h i) = if t = n then y (ix3 b h i) else Y (ix4 t b h i) := by
  unfold putAt
  refine (congrFun (dynamicUpdateSlice_eq_update Y _ _ updateFits_S2048x8x8x64_S1x8x8x64 ![n.val, 0, 0, 0]
    ⟨rfl, by intro k; have := n.isLt; fin_cases k <;> simp <;> omega⟩ (startAt_counter n)) _).trans ?_
  pointwise
  by_cases e : t = n
  · subst e
    rw [dif_pos ⟨le_rfl, Nat.lt_succ_self _⟩, if_pos rfl]
  · rw [dif_neg (fun hh => e (Fin.ext (by omega))), if_neg e]

/-- The state after one trip. -/
theorem state_step : (res_main_while0b_v32 V : Vec Ideal S8x8x64x64 .f32)
    = stateOps (stateOf V) (atTime (series1 V) (ctrOf V)) (atTime (series2 V) (ctrOf V)) (atTime (series3 V) (ctrOf V))
        (atTime (series4 V) (ctrOf V)) (atTime (series5 V) (ctrOf V)) := by
  unfold res_main_while0b_v32 res_main_while0b_v14 stateOps
  refine congr (congrArg _ (congr (congrArg _ ?_) ?_)) ?_
  · rfl
  · refine congr (congrArg _ ?_) ?_
    · rfl
    · rfl
  · rfl

/-- The outputs after one trip. -/
theorem outs_step : (step_main_v8_8 V : Series)
    = putAt (outsOf V) (outOps (res_main_while0b_v32 V) (atTime (series0 V) (ctrOf V))) (ctrOf V) := by
  unfold step_main_v8_8 putAt outOps
  show id _ = _
  simp only [id]
  rfl

variable (m : (ℓ : Loc nD τ sig) → Buf (Elt Ideal) ℓ) (ρ : Dev nD → PrngReg)

/-- The recurrence's inputs as the program's arguments hold them. -/
def inputs (c : Dev nD) : Rwkv.Inputs where
  r := m ((c.tc : Thread nD τ).loc main_arg0)
  w := m ((c.tc : Thread nD τ).loc main_arg1)
  k := m ((c.tc : Thread nD τ).loc main_arg2)
  v := m ((c.tc : Thread nD τ).loc main_arg3)
  kk := m ((c.tc : Thread nD τ).loc main_arg4)
  a := m ((c.tc : Thread nD τ).loc main_arg5)

/-- An input with time in front, as the loop carries it. -/
abbrev timeFirst (x : Rwkv.Input) : Series := fun q => x (ix4 (q 1) (q 0) (q 2) (q 3))

/-- What the loop carries after `n` trips. -/
structure Holds (x : Rwkv.Inputs) (n : ℕ) (V : Valuation τ sig (Elt Ideal)) : Prop where
  h0 : series0 V = timeFirst x.r
  h1 : series1 V = timeFirst x.w
  h2 : series2 V = timeFirst x.k
  h3 : series3 V = timeFirst x.v
  h4 : series4 V = timeFirst x.kk
  h5 : series5 V = timeFirst x.a
  ctr : ctrOf V = counter n
  st : ∀ (b h : Fin 8) (i j : Fin 64), stateOf V (ix4 b h i j) = Rwkv.state x n b h i j
  outs : ∀ (t : Fin 2048), t.val < n → ∀ (b h : Fin 8) (i : Fin 64), outsOf V (ix4 t b h i) = Rwkv.out x t b h i

theorem transpose_timeFirst (X : Vec Ideal S8x2048x8x64 .f32) :
    transpose S2048x8x8x64 [1, 0, 2, 3] X transposes_S8x2048x8x64_S2048x8x8x64_1_0_2_3 = timeFirst X := by
  funext q
  rw [eq_ix4 q]
  pointwise [timeFirst]

theorem zeros_apply (b h : Fin 8) (i j : Fin 64) :
    (broadcastInDim S8x8x64x64 ![] bcast_S_S8x8x64x64 (constant (F := Ideal) S_ FTy.f32 0#32) : Vec Ideal S8x8x64x64 .f32) (ix4 b h i j) = 0 := by
  pointwise

/-- Before the first trip. -/
theorem entry (c : Dev nD) : Holds (inputs m c) 0 (entryContents preI m c) where
  h0 := by
    unfold series0
    simp only [entryContents, afterL_cons, afterL_nil]
    after_reads_simp
    exact transpose_timeFirst _
  h1 := by
    unfold series1
    simp only [entryContents, afterL_cons, afterL_nil]
    after_reads_simp
    exact transpose_timeFirst _
  h2 := by
    unfold series2
    simp only [entryContents, afterL_cons, afterL_nil]
    after_reads_simp
    exact transpose_timeFirst _
  h3 := by
    unfold series3
    simp only [entryContents, afterL_cons, afterL_nil]
    after_reads_simp
    exact transpose_timeFirst _
  h4 := by
    unfold series4
    simp only [entryContents, afterL_cons, afterL_nil]
    after_reads_simp
    exact transpose_timeFirst _
  h5 := by
    unfold series5
    simp only [entryContents, afterL_cons, afterL_nil]
    after_reads_simp
    exact transpose_timeFirst _
  ctr := ctr_entry m c
  st b h i j := by
    unfold stateOf
    simp only [entryContents, afterL_cons, afterL_nil]
    after_reads_simp
    exact zeros_apply b h i j
  outs t ht := absurd ht (by omega)

theorem trip (x : Rwkv.Inputs) (n : Fin 2048) (V : Valuation τ sig (Elt Ideal)) (H : Holds x n.val V) :
    Holds x (n.val + 1) (STEP V) := by
  have hst : ∀ (b h : Fin 8) (i j : Fin 64), (res_main_while0b_v32 V : Vec Ideal S8x8x64x64 .f32) (ix4 b h i j) = Rwkv.state x (n.val + 1) b h i j := by
    intro b h i j
    rw [state_step, stateOps_apply, H.h1, H.h2, H.h3, H.h4, H.h5, H.ctr, Rwkv.state_succ]
    unfold newState Rwkv.next
    simp only [atTime_apply, H.st, ix4_0, ix4_1, ix4_2, ix4_3]
    rfl
  refine ⟨(STEP_main_v8_0 V).trans H.h0, (STEP_main_v8_1 V).trans H.h1, (STEP_main_v8_2 V).trans H.h2, (STEP_main_v8_3 V).trans H.h3,
    (STEP_main_v8_4 V).trans H.h4, (STEP_main_v8_5 V).trans H.h5, ?_, ?_, ?_⟩
  · refine (STEP_main_v8_6 V).trans ?_
    unfold step_main_v8_6
    show addi (ctrOf V) _ = _
    rw [H.ctr]
    funext q
    show BitVec.ofNat 32 n.val + 1#32 = BitVec.ofNat 32 (n.val + 1)
    exact (BitVec.ofNat_add _ _).symm
  · intro b h i j
    exact (congrFun ((STEP_main_v8_7 V).trans (by unfold step_main_v8_7; rfl)) (ix4 b h i j)).trans (hst b h i j)
  · intro t ht b h i
    refine (congrFun ((STEP_main_v8_8 V).trans (outs_step V)) (ix4 t b h i)).trans ?_
    rw [H.ctr, putAt_apply]
    split
    · next e =>
      subst e
      rw [outOps_apply, H.h0]
      simp only [hst, atTime_apply]
      rfl
    · next e =>
      exact H.outs t (by have : t.val ≠ n.val := fun h => e (Fin.ext h); omega) b h i

theorem after_trips (c : Dev nD) : ∀ n : ℕ, n ≤ 2048 → Holds (inputs m c) n (STEP^[n] (entryContents preI m c))
  | 0, _ => entry m c
  | n + 1, h => by
    rw [Function.iterate_succ_apply']
    exact trip _ ⟨n, h⟩ _ (after_trips c n (by omega))

/-- The reference's result: the recurrence's outputs. -/
def result (x : Rwkv.Inputs) : Vec Ideal S8x2048x8x64 .f32 := fun q => Rwkv.out x (q 1) (q 0) (q 2) (q 3)

theorem result_eq (c : Dev nD) : out_main_v9 (STEP^[2048] (entryContents preI m c)) = result (inputs m c) := by
  have H := after_trips m c 2048 le_rfl
  generalize STEP^[2048] (entryContents preI m c) = W at H
  unfold out_main_v9
  funext q
  rw [eq_ix4 q]
  refine Eq.trans ?_ (H.outs (q 1) (q 1).isLt (q 0) (q 2) (q 3))
  unfold outsOf
  pointwise

/-- The reference's frame: every run ends, with the arguments unchanged and the counters at zero. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2, sem_eq_zero_of_no_sems (by decide) r.2⟩) (run m ρ)

end Cert.ReferenceIdeal.Hand

end
-- ==== Proof.Rwkv.Claim.lean ====
module

public import proofs.«01_k».proof.Defs
public import proofs.«01_k».proof.Proof.Rwkv.Value
public import proofs.«01_k».proof.Proof.Rwkv.Ref

/-! # The recurrence: kernel and reference agree

Both runs end with the outputs of the same recurrence, over inputs that agree. -/

@[expose] public section

noncomputable section

namespace Rwkv

open Idealize.ShloMosaic Idealize.ShloMosaic.TcCoe Idealize.SL.Sem

attribute [local instance] Cert.KernelIdeal.Gen.facts Cert.ReferenceIdeal.Gen.facts

theorem algebraic : Cert.algebraic_KernelIdeal_ReferenceIdeal := by
  intro m g m' g' _ hargs
  refine ⟨fun c => Cert.KernelIdeal.Hand.result (Cert.KernelIdeal.Hand.inputs m c), ?_, ?_⟩
  · exact (θ_run _ _ _).mono (fun r h c => ⟨h.1 c, h.2.1 c⟩)
      (θ_run_and (Cert.KernelIdeal.Hand.run_value m g) (Cert.KernelIdeal.Hand.frame m g))
  · refine (θ_run _ _ _).mono (fun r h c => ⟨(h c).1.trans ?_, (h c).2⟩) (Cert.ReferenceIdeal.Value.run m' g')
    refine (Cert.ReferenceIdeal.Hand.result_eq m' c).trans ?_
    have e : Cert.ReferenceIdeal.Hand.inputs m' c = Cert.KernelIdeal.Hand.inputs m c := by
      obtain ⟨h0, h1, h2, h3, h4, h5⟩ := hargs c
      unfold Cert.ReferenceIdeal.Hand.inputs Cert.KernelIdeal.Hand.inputs
      simp only [Rwkv.Inputs.mk.injEq]
      exact ⟨h0, h1, h2, h3, h4, h5⟩
    rw [e]
    rfl

end Rwkv

end
-- ==== Proof.Rwkv.KernelFrame.lean ====
module

public import proofs.«01_k».proof.Proof.Gen.Kernel.Skeleton
public import proofs.«01_k».proof.Proof.Gen.Kernel.Loops
public import proofs.«01_k».proof.Proof.Gen.Kernel.Frame
public import Idealize.ShloMosaic.Lib.Claim

/-! # The frame of the kernel at its own precision

Nothing is said of the output block or of the carried state: each is handed to the body at any contents and taken back at
any contents. What is left is that the run ends, without a fault, with the arguments unchanged. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero-fill's condition: the grid point is the first. -/
abbrev isFirst (i : grid0.Coords) : Prop :=
  (Scalar.cmpi .ne (Scalar.extui (Scalar.cmpi .eq (BitVec.ofNat 32 (i 0).val) 0#32)) 0#32) = 1#1

set_option maxHeartbeats 1600000 in
/-- The body keeps its two input blocks, whether or not it starts with the zero-fill. -/
theorem body_keeps (c : Dev nD) (i : grid0.Coords) (arg1 : Memref sig .tc .vmem S32x5x8x8x128 .f32) (harg1 : arg1.IsWhole)
    (arg2 : Memref sig .tc .vmem S32x4x8x128 .f32) (harg2 : arg2.IsWhole) (arg3 : Memref sig .tc .vmem S32x4x8x128 .f32) (harg3 : arg3.IsWhole)
    (arg4 : Memref sig .tc .vmem S32x8x8x128 .f32) (harg4 : arg4.IsWhole)
    (K : Vec F S32x5x8x8x128 .f32) (V : Vec F S32x4x8x128 .f32) (E : Set ℕ) (Q : PUnit → sProp 𝕄) :
    iprop(owns (c : Thread nD τ) arg1 fullShare K ∗ owns (c : Thread nD τ) arg2 fullShare V ∗ (∃ d, owns (c : Thread nD τ) arg3 fullShare d)
        ∗ (∃ d, owns (c : Thread nD τ) arg4 fullShare d)
        ∗ (iprop(owns (c : Thread nD τ) arg1 fullShare K ∗ owns (c : Thread nD τ) arg2 fullShare V
            ∗ (∃ d, owns (c : Thread nD τ) arg3 fullShare d) ∗ (∃ d, owns (c : Thread nD τ) arg4 fullShare d)) -∗ Q ⟨⟩))
      ⊢ wp frame (wpE (defs₀ (F := F)) Variants.none c none) E (cc0_rwkv7_scan i arg1 harg1 arg2 harg2 arg3 harg3 arg4 harg4) Q := by
  simp only [cc0_rwkv7_scan_eq_skeleton]; unfold cc0_rwkv7_scan_skel
  unfold owns
  by_cases hc : isFirst i
  all_goals
    iintro ⟨⟨%f0, %hf0, H0⟩, ⟨%f1, %hf1, H1⟩, ⟨%d2, %f2, -, H2⟩, ⟨%d3, %f3, -, H3⟩, Hk⟩
    subst hf0 hf1
    sl_exec (disch := first | sl_exact hc)
    sl_step
    iapply Hk
    isplitl [H0]
    · iexists _; isplitr; · ipureintro; rfl
      iexact H0
    isplitl [H1]
    · iexists _; isplitr; · ipureintro; rfl
      iexact H1
    isplitl [H2]
    · iexists _; iexists _; isplitr; swap; · iexact H2
      ipureintro; rfl
    iexists _; iexists _; isplitr; swap; · iexact H3
    ipureintro; rfl

/-- The pipeline's proof data: the inputs' blocks, of the output's nothing that is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ _ := Pipeline.ΦA spec0 c
  q _ := fullShare
  owed _ := 0

/-- The output's is the window of which nothing is said. -/
def forgotten : Fin cfg0.W → Bool
  | ⟨2, _⟩ => true
  | _ => false

theorem A_eq (c : Dev nD) (w : Fin cfg0.W) : (dats m 0 c).A w = V m c (Pipeline.arrRef spec0 w) := by
  dsimp only [dats]
theorem after_keys (c : Dev nD) (t : Fin cfg0.N) : (dats m 0 c).after 0 t = iblk m c 0 t := by dsimp only [dats]
theorem after_vals (c : Dev nD) (t : Fin cfg0.N) : (dats m 0 c).after 1 t = iblk m c 1 t := by dsimp only [dats]
theorem before_keys (c : Dev nD) (t : Fin cfg0.N) (d) : (dats m 0 c).before 0 t d = iblk m c 0 t :=
  before0_0_of m (dats m 0 c) (A_eq m c 0) (after_keys m c) t d
theorem before_vals (c : Dev nD) (t : Fin cfg0.N) (d) : (dats m 0 c).before 1 t d = iblk m c 1 t :=
  before0_1_of m (dats m 0 c) (A_eq m c 1) (after_vals m c) t d

/-- The scratch at anything, as the region hands it over. -/
theorem anyScratch_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- What the body is called with at chunk `t`, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ X, owns (c : Thread nD τ) (st0_2 t) fullShare X))

/-- The body at any chunk. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_keys, before_vals]
  rw [show (dats m 0 c).owesAt () t.succ = (dats m 0 c).owesAt () t.castSucc from rfl, after_keys, after_vals,
    show (dats m 0 c).Φ t.succ = Pipeline.ΦA spec0 c from rfl,
    show (dats m 0 c).Φ t.castSucc = Pipeline.ΦA spec0 c from rfl, anyScratch_eq]
  iintro ⟨⟨HS, Hg⟩, Ho, ⟨%d0, H0⟩, ⟨%d1, H1⟩, H2⟩
  iapply (body_keeps c (grid0.coords t) _ _ _ _ _ _ _ _ (iblk m c 0 t) (iblk m c 1 t) Set.univ _)
  isplitl [H0]; · iexact H0
  isplitl [H1]; · iexact H1
  isplitl [H2]; · iexact H2
  isplitl [HS]; · iexact HS
  iintro ⟨H0, H1, H2, HS⟩
  isplitl [HS Hg]
  · isplitl [HS]; · iexact HS
    iexact Hg
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

/-- The body obligation, at every chunk. -/
theorem body_obligation (c : Dev nD) :
    BodyObligation (dats m 0 c) (defs₀ (F := F)) Variants.none () Set.univ forgotten := fun t => by
  rw [bigSep_W0, bigSep_W0, defs₀_row]
  exact triple_restated (sound_body m c t) rfl .rfl fun _ => .rfl

set_option backward.isDefEq.respectTransparency.types false in
set_option maxHeartbeats 800000 in
/-- The frame of the kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_around_T_forget cfgs (dats m) (0 : Fin 1) launch0 defs₀ Variants.none forgotten
    {main_v15, main_v16, main_v17} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := by
      intro ops hops op hop b hb
      obtain rfl := List.mem_singleton.mp hops
      simp only [hostOps1, List.mem_cons, List.mem_nil_iff, or_false] at hop
      rcases hop with rfl | rfl | rfl <;>
        simp only [StableHlo.unary_writes, StableHlo.reshape_writes, Finset.mem_singleton] at hb <;>
        by_contra hne <;> exact StableHlo.devRef_ne_of_ne (fun h => hne (by rw [h]; decide)) hb)
    (hmain := hmain m Variants.none) (hA := A_eq m) (hΦ := fun _ _ => rfl) (Q' := _)
    (hQ' := fun _ h => ⟨fun c =>
      ⟨((h.1 c).2 main_arg0 (Finset.mem_sdiff.mpr ⟨Pipeline.mem_restRefs_of main_arg0 (by decide) (by decide), by decide⟩)).trans (V_main_arg0 m c),
       ((h.1 c).2 main_arg1 (Finset.mem_sdiff.mpr ⟨Pipeline.mem_restRefs_of main_arg1 (by decide) (by decide), by decide⟩)).trans (V_main_arg1 m c),
       ((h.1 c).2 main_arg2 (Finset.mem_sdiff.mpr ⟨Pipeline.mem_restRefs_of main_arg2 (by decide) (by decide), by decide⟩)).trans (V_main_arg2 m c),
       ((h.1 c).2 main_arg3 (Finset.mem_sdiff.mpr ⟨Pipeline.mem_restRefs_of main_arg3 (by decide) (by decide), by decide⟩)).trans (V_main_arg3 m c),
       ((h.1 c).2 main_arg4 (Finset.mem_sdiff.mpr ⟨Pipeline.mem_restRefs_of main_arg4 (by decide) (by decide), by decide⟩)).trans (V_main_arg4 m c),
       ((h.1 c).2 main_arg5 (Finset.mem_sdiff.mpr ⟨Pipeline.mem_restRefs_of main_arg5 (by decide) (by decide), by decide⟩)).trans (V_main_arg5 m c)⟩, h.2⟩)

end Cert.Kernel.Hand
-- ==== Proof.Merge.Value.lean ====
module

public import proofs.«01_k».proof.Proof.Gen.MergeIdeal.Value
public import Idealize.ShloMosaic.Lib.Pipeline.ValueKit
public import Idealize.ShloMosaic.Lib.Pointwise

/-! # The gated merge: what the kernel computes

The layer mixes four branches. Branch `m` gives `y_m · W_m`, a gate `sigmoid (h · G_m)` scales it entry by entry, and
the four are added. Here that value is written as one formula, and the kernel's 64 blocks are shown to fill the output
with it. -/

@[expose] public section

set_option maxRecDepth 16384

noncomputable section

open Idealize.ShloMosaic Idealize.ShloMosaic.TcCoe Idealize.SL.Sem

namespace Merge

open Cert.MergeIdeal

/-- Branch `m`'s share of entry `(r, j)`: the branch's projection times its gate. -/
def branch (H : FVec Ideal S16384x2048 .bf16) (G : FVec Ideal S2048x8192 .bf16) (Y : FVec Ideal S16384x512 .bf16)
    (W : FVec Ideal S4x512x2048 .bf16) (m : Fin 4) (r : Fin 16384) (j : Fin 2048) : EReal :=
  (∑ k : Fin 512, Y (ix2 r k) * W (ix3 m k j))
    * Ideal.logistic (∑ k : Fin 2048, H (ix2 r k) * G (ix2 k ⟨2048 * m.val + j.val, by omega⟩))

/-- The merged branches: the four shares, added in order. -/
def out (H : FVec Ideal S16384x2048 .bf16) (G : FVec Ideal S2048x8192 .bf16)
    (Y0 Y1 Y2 Y3 : FVec Ideal S16384x512 .bf16) (W : FVec Ideal S4x512x2048 .bf16) :
    FVec Ideal S16384x2048 .bf16 := fun i =>
  branch H G Y0 W 0 (i 0) (i 1) + branch H G Y1 W 1 (i 0) (i 1) + branch H G Y2 W 2 (i 0) (i 1)
    + branch H G Y3 W 3 (i 0) (i 1)

end Merge

namespace Cert.MergeIdeal.Hand

open Cert.MergeIdeal Cert.MergeIdeal.Gen

variable (m : (ℓ : Loc nD τ sig) → Buf (Elt Ideal) ℓ) (g : Dev nD → PrngReg)

/-- Which block of its array each window holds at grid point `t`. -/
theorem idx : ∀ t : Fin cfg0.N, win0_0.index t = ![t.val % 16, 0]
    ∧ win0_1.index t = ![0, t.val / 16] ∧ win0_2.index t = ![0, 4 + t.val / 16]
    ∧ win0_3.index t = ![0, 8 + t.val / 16] ∧ win0_4.index t = ![0, 12 + t.val / 16]
    ∧ win0_5.index t = ![t.val % 16, 0] ∧ win0_6.index t = ![t.val % 16, 0]
    ∧ win0_7.index t = ![t.val % 16, 0] ∧ win0_8.index t = ![t.val % 16, 0]
    ∧ win0_9.index t = ![0, 0, t.val / 16] ∧ win0_10.index t = ![t.val % 16, t.val / 16] :=
  (by decide +kernel : ∀ t : Fin grid0.N, _)

/-- What the body stores, as one function of the blocks it loads. -/
def body (h : Vec Ideal S1024x2048 .bf16) (g0 g1 g2 g3 : Vec Ideal S2048x512 .bf16)
    (y0 y1 y2 y3 : Vec Ideal S1024x512 .bf16) (w : Vec Ideal S4x512x512 .bf16) : Vec Ideal S1024x512 .bf16 :=
  out0_10 h g0 g1 g2 g3 y0 y1 y2 y3 w

/-- One entry of the stored block. -/
theorem body_apply (h : Vec Ideal S1024x2048 .bf16) (g0 g1 g2 g3 : Vec Ideal S2048x512 .bf16)
    (y0 y1 y2 y3 : Vec Ideal S1024x512 .bf16) (w : Vec Ideal S4x512x512 .bf16) (r : Fin 1024) (j : Fin 512) :
    body h g0 g1 g2 g3 y0 y1 y2 y3 w (ix2 r j)
      = (∑ k : Fin 512, y0 (ix2 r k) * w (ix3 0 k j)) * Ideal.logistic (∑ k : Fin 2048, h (ix2 r k) * g0 (ix2 k j))
        + (∑ k : Fin 512, y1 (ix2 r k) * w (ix3 1 k j)) * Ideal.logistic (∑ k : Fin 2048, h (ix2 r k) * g1 (ix2 k j))
        + (∑ k : Fin 512, y2 (ix2 r k) * w (ix3 2 k j)) * Ideal.logistic (∑ k : Fin 2048, h (ix2 r k) * g2 (ix2 k j))
        + (∑ k : Fin 512, y3 (ix2 r k) * w (ix3 3 k j)) * Ideal.logistic (∑ k : Fin 2048, h (ix2 r k) * g3 (ix2 k j)) := by
  unfold body out0_10
  frame_out
  pointwise [k0_pay1, k0_pay2]

/-- The block stored at grid point `t` is that block of the merged branches. -/
theorem point (c : Dev nD) (t : Fin cfg0.N) (y : S1024x512.Idx) :
    out0_10 (iblk m c 0 t) (iblk m c 1 t) (iblk m c 2 t) (iblk m c 3 t) (iblk m c 4 t) (iblk m c 5 t)
        (iblk m c 6 t) (iblk m c 7 t) (iblk m c 8 t) (iblk m c 9 t) y
      = Merge.out (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (((cfg0.win 10).blk t).view.emb y) := by
  refine (congrArg _ (eq_ix2 y)).trans ((body_apply _ _ _ _ _ _ _ _ _ _ (y 0) (y 1)).trans ?_)
  unfold Merge.out Merge.branch
  blk_point [iblk, V, idx t]

/-- The output array after the run is the merged branches. -/
theorem final (c : Dev nD) : (dats m 0 c).arrAt 10 (cfgs 0).N
    = Merge.out (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  refine (dats m 0 c).arrAt_eq_of_covers 10 _ (by decide +kernel) fun t _ y => ?_
  blk_simp
  rw [after0_10]
  exact point m c t y

end Cert.MergeIdeal.Hand

end
-- ==== Proof.Merge.Claim.lean ====
module

public import proofs.«01_k».proof.Defs
public import proofs.«01_k».proof.Proof.Merge.Value
public import proofs.«01_k».proof.Proof.Gen.MergeRefIdeal.Run

/-! # The gated merge: kernel and reference agree

The reference's gate is spelt `1 / (1 + exp (-x))` and stands before the branch, the kernel's stands after it; entry by
entry the two are the same sum. -/

@[expose] public section

set_option maxRecDepth 16384

noncomputable section

open Idealize.ShloMosaic Idealize.ShloMosaic.TcCoe Idealize.SL.Sem

namespace Cert.MergeRefIdeal.Hand

open Cert.MergeRefIdeal Cert.MergeRefIdeal.Gen

variable (m : (ℓ : Loc nD τ sig) → Buf (Elt Ideal) ℓ) (ρ : Dev nD → PrngReg)

/-- The reference's result as a term of its arguments. -/
def term (H : FVec Ideal S16384x2048 .bf16) (G : FVec Ideal S2048x8192 .bf16)
    (Ya Yb Yc Yd : FVec Ideal S16384x512 .bf16) (W : FVec Ideal S4x512x2048 .bf16) :=
  truncf .bf16 (addf (addf (addf (mulf (shapeCast _ (extractStridedSlice S16384x1x2048 ![0, 0, 0] (Host.divf
  (broadcastInDim S16384x4x2048 ![] bcast_S_S16384x4x2048 (constant S_ .f32 0x3F800000#32)) (addf (broadcastInDim
  S16384x4x2048 ![] bcast_S_S16384x4x2048 (constant S_ .f32 0x3F800000#32)) (Host.exp (Host.negf (shapeCast _
  (Host.dotGeneral dot_S16384x2048_S2048x8192_S16384x8192_1_0_0_1_n_n none (extf .f32 H bitsLt_bf16_f32) (extf .f32 G
  bitsLt_bf16_f32)) shapeCasts_S16384x8192_S16384x4x2048))))) slices_S16384x4x2048_S16384x1x2048_0_0_0)
  shapeCasts_S16384x1x2048_S16384x2048) (Host.dotGeneral dot_S16384x512_S512x2048_S16384x2048_1_0_0_1_n_n none (extf
  .f32 Ya bitsLt_bf16_f32) (shapeCast _ (extractStridedSlice S1x512x2048 ![0, 0, 0] (extf .f32 W bitsLt_bf16_f32)
  slices_S4x512x2048_S1x512x2048_0_0_0) shapeCasts_S1x512x2048_S512x2048))) (mulf (shapeCast _ (extractStridedSlice
  S16384x1x2048 ![0, 1, 0] (Host.divf (broadcastInDim S16384x4x2048 ![] bcast_S_S16384x4x2048 (constant S_ .f32
  0x3F800000#32)) (addf (broadcastInDim S16384x4x2048 ![] bcast_S_S16384x4x2048 (constant S_ .f32 0x3F800000#32))
  (Host.exp (Host.negf (shapeCast _ (Host.dotGeneral dot_S16384x2048_S2048x8192_S16384x8192_1_0_0_1_n_n none (extf
  .f32 H bitsLt_bf16_f32) (extf .f32 G bitsLt_bf16_f32)) shapeCasts_S16384x8192_S16384x4x2048)))))
  slices_S16384x4x2048_S16384x1x2048_0_1_0) shapeCasts_S16384x1x2048_S16384x2048) (Host.dotGeneral
  dot_S16384x512_S512x2048_S16384x2048_1_0_0_1_n_n none (extf .f32 Yb bitsLt_bf16_f32) (shapeCast _
  (extractStridedSlice S1x512x2048 ![1, 0, 0] (extf .f32 W bitsLt_bf16_f32) slices_S4x512x2048_S1x512x2048_1_0_0)
  shapeCasts_S1x512x2048_S512x2048)))) (mulf (shapeCast _ (extractStridedSlice S16384x1x2048 ![0, 2, 0] (Host.divf
  (broadcastInDim S16384x4x2048 ![] bcast_S_S16384x4x2048 (constant S_ .f32 0x3F800000#32)) (addf (broadcastInDim
  S16384x4x2048 ![] bcast_S_S16384x4x2048 (constant S_ .f32 0x3F800000#32)) (Host.exp (Host.negf (shapeCast _
  (Host.dotGeneral dot_S16384x2048_S2048x8192_S16384x8192_1_0_0_1_n_n none (extf .f32 H bitsLt_bf16_f32) (extf .f32 G
  bitsLt_bf16_f32)) shapeCasts_S16384x8192_S16384x4x2048))))) slices_S16384x4x2048_S16384x1x2048_0_2_0)
  shapeCasts_S16384x1x2048_S16384x2048) (Host.dotGeneral dot_S16384x512_S512x2048_S16384x2048_1_0_0_1_n_n none (extf
  .f32 Yc bitsLt_bf16_f32) (shapeCast _ (extractStridedSlice S1x512x2048 ![2, 0, 0] (extf .f32 W bitsLt_bf16_f32)
  slices_S4x512x2048_S1x512x2048_2_0_0) shapeCasts_S1x512x2048_S512x2048)))) (mulf (shapeCast _ (extractStridedSlice
  S16384x1x2048 ![0, 3, 0] (Host.divf (broadcastInDim S16384x4x2048 ![] bcast_S_S16384x4x2048 (constant S_ .f32
  0x3F800000#32)) (addf (broadcastInDim S16384x4x2048 ![] bcast_S_S16384x4x2048 (constant S_ .f32 0x3F800000#32))
  (Host.exp (Host.negf (shapeCast _ (Host.dotGeneral dot_S16384x2048_S2048x8192_S16384x8192_1_0_0_1_n_n none (extf
  .f32 H bitsLt_bf16_f32) (extf .f32 G bitsLt_bf16_f32)) shapeCasts_S16384x8192_S16384x4x2048)))))
  slices_S16384x4x2048_S16384x1x2048_0_3_0) shapeCasts_S16384x1x2048_S16384x2048) (Host.dotGeneral
  dot_S16384x512_S512x2048_S16384x2048_1_0_0_1_n_n none (extf .f32 Yd bitsLt_bf16_f32) (shapeCast _
  (extractStridedSlice S1x512x2048 ![3, 0, 0] (extf .f32 W bitsLt_bf16_f32) slices_S4x512x2048_S1x512x2048_3_0_0)
  shapeCasts_S1x512x2048_S512x2048)))) bitsLt_bf16_f32

/-- The reference computes the merged branches. -/
theorem term_eq (H : FVec Ideal S16384x2048 .bf16) (G : FVec Ideal S2048x8192 .bf16)
    (Ya Yb Yc Yd : FVec Ideal S16384x512 .bf16) (W : FVec Ideal S4x512x2048 .bf16) : term H G Ya Yb Yc Yd W = Merge.out H G Ya Yb Yc Yd W := by
  funext i
  rw [eq_ix2 i]
  pointwise [term]
  unfold Merge.out Merge.branch
  unfold Ideal.logistic
  blk_point []

/-- The reference's frame: every run ends, with the arguments unchanged and the counters at zero. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r h => ⟨fun c => (h c).2, sem_eq_zero_of_no_sems (by decide) r.2⟩) (Cert.MergeRefIdeal.Value.run m ρ)

end Cert.MergeRefIdeal.Hand

namespace Merge

attribute [local instance] Cert.MergeIdeal.Gen.facts Cert.MergeRefIdeal.Gen.facts

/-- Kernel and reference end with the same result, from arguments that agree. -/
theorem algebraic : Cert.algebraic_MergeIdeal_MergeRefIdeal := by
  intro m g m' g' _ hargs
  refine ⟨fun c => Merge.out (m (c.tc.loc Cert.MergeIdeal.main_arg0)) (m (c.tc.loc Cert.MergeIdeal.main_arg1)) (m (c.tc.loc Cert.MergeIdeal.main_arg2)) (m (c.tc.loc Cert.MergeIdeal.main_arg3)) (m (c.tc.loc Cert.MergeIdeal.main_arg4)) (m (c.tc.loc Cert.MergeIdeal.main_arg5)) (m (c.tc.loc Cert.MergeIdeal.main_arg6)), ?_, ?_⟩
  · exact (θ_run _ _ _).mono (fun r h c => ⟨(h c).1.trans (Cert.MergeIdeal.Hand.final m c), (h c).2⟩)
      (Cert.MergeIdeal.Value.run_blocks m g)
  · refine (θ_run _ _ _).mono (fun r h c => ⟨(h c).1.trans ?_, (h c).2⟩) (Cert.MergeRefIdeal.Value.run m' g')
    obtain ⟨h0, h1, h2, h3, h4, h5, h6⟩ := hargs c
    exact (Cert.MergeRefIdeal.Hand.term_eq _ _ _ _ _ _ _).trans (by rw [h0, h1, h2, h3, h4, h5, h6])

end Merge

end
-- ==== Proof.Residual.Value.lean ====
module

public import proofs.«01_k».proof.Proof.Gen.ResidualIdeal.Value
public import Idealize.ShloMosaic.Lib.Pipeline.ValueKit
public import Idealize.ShloMosaic.Lib.Pointwise

/-! # The output projection: what the kernel computes

The merged rows are multiplied by the output weights, scaled by the batch's gate and added to the residual. -/

@[expose] public section

set_option maxRecDepth 16384

noncomputable section

open Idealize.ShloMosaic Idealize.ShloMosaic.TcCoe Idealize.SL.Sem

namespace Residual

open Cert.ResidualIdeal

/-- Entry `(r, j)`: the residual plus the product's entry, scaled by the gate of the row's batch `r / 2048`. -/
def out (A : FVec Ideal S16384x2048 .bf16) (W : FVec Ideal S2048x2048 .bf16) (X : FVec Ideal S16384x2048 .f32)
    (G : FVec Ideal S8x1x2048 .f32) : FVec Ideal S16384x2048 .f32 := fun i =>
  X i + G (ix3 ⟨(i 0).val / 2048, Nat.div_lt_of_lt_mul (i 0).isLt⟩ 0 (i 1))
    * ∑ k : Fin 2048, A (ix2 (i 0) k) * W (ix2 k (i 1))

end Residual

namespace Cert.ResidualIdeal.Hand

open Cert.ResidualIdeal Cert.ResidualIdeal.Gen

variable (m : (ℓ : Loc nD τ sig) → Buf (Elt Ideal) ℓ)

/-- Which block of its array each window holds at grid point `t`; two row blocks share a batch. -/
theorem idx : ∀ t : Fin cfg0.N, win0_0.index t = ![t.val % 16, 0]
    ∧ win0_1.index t = ![0, t.val / 16] ∧ win0_2.index t = ![t.val % 16, t.val / 16]
    ∧ win0_3.index t = ![t.val % 16 / 2, 0, t.val / 16] ∧ win0_4.index t = ![t.val % 16, t.val / 16] :=
  (by decide +kernel : ∀ t : Fin grid0.N, _)

/-- One entry of the stored block. -/
theorem body_apply (a : Vec Ideal S1024x2048 .bf16) (w : Vec Ideal S2048x1024 .bf16) (x : Vec Ideal S1024x1024 .f32)
    (g : Vec Ideal S1x1x1024 .f32) (r : Fin 1024) (j : Fin 1024) : out0_4 a w x g (ix2 r j)
      = x (ix2 r j) + g (ix3 0 0 j) * ∑ k : Fin 2048, a (ix2 r k) * w (ix2 k j) := by
  unfold out0_4
  frame_out
  pointwise [k0_pay1]

/-- The block stored at grid point `t` is that block of the result. -/
theorem point (c : Dev nD) (t : Fin cfg0.N) (y : S1024x1024.Idx) :
    out0_4 (iblk m c 0 t) (iblk m c 1 t) (iblk m c 2 t) (iblk m c 3 t) y
      = Residual.out (m ((c : Thread nD τ).loc main_arg0)) (m ((c : Thread nD τ).loc main_arg1))
        (m ((c : Thread nD τ).loc main_arg2)) (m ((c : Thread nD τ).loc main_arg3))
        (((cfg0.win 4).blk t).view.emb y) := by
  refine (congrArg _ (eq_ix2 y)).trans ((body_apply _ _ _ _ (y 0) (y 1)).trans ?_)
  unfold Residual.out
  blk_point [iblk, V, idx t]

/-- The output array after the run is the gated residual. -/
theorem final (c : Dev nD) : (dats m 0 c).arrAt 4 (cfgs 0).N
    = Residual.out (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.ResidualIdeal.Hand

end
-- ==== Proof.Residual.Claim.lean ====
module

public import proofs.«01_k».proof.Defs
public import proofs.«01_k».proof.Proof.Residual.Value
public import proofs.«01_k».proof.Proof.Gen.ResidualRefIdeal.Run

/-! # The output projection: kernel and reference agree

Both add the gated product to the residual row, entry by entry. -/

@[expose] public section

set_option maxRecDepth 16384

noncomputable section

open Idealize.ShloMosaic Idealize.ShloMosaic.TcCoe Idealize.SL.Sem

namespace Cert.ResidualRefIdeal.Hand

open Cert.ResidualRefIdeal Cert.ResidualRefIdeal.Gen

variable (m : (ℓ : Loc nD τ sig) → Buf (Elt Ideal) ℓ) (ρ : Dev nD → PrngReg)

/-- The reference's result as a term of its arguments. -/
def term (A : FVec Ideal S16384x2048 .bf16) (W : FVec Ideal S2048x2048 .bf16)
    (X : FVec Ideal S16384x2048 .f32) (G : FVec Ideal S8x1x2048 .f32) :=
  shapeCast _ (addf (shapeCast _ X shapeCasts_S16384x2048_S8x2048x2048) (mulf (broadcastInDim S8x2048x2048 ![0, 1, 2]
  bcast_S8x1x2048_S8x2048x2048_0_1_2 G) (shapeCast _ (Host.dotGeneral
  dot_S16384x2048_S2048x2048_S16384x2048_1_0_0_1_n_n none (extf .f32 A bitsLt_bf16_f32) (extf .f32 W bitsLt_bf16_f32))
  shapeCasts_S16384x2048_S8x2048x2048))) shapeCasts_S8x2048x2048_S16384x2048

/-- The reference computes the gated residual. -/
theorem term_eq (A : FVec Ideal S16384x2048 .bf16) (W : FVec Ideal S2048x2048 .bf16)
    (X : FVec Ideal S16384x2048 .f32) (G : FVec Ideal S8x1x2048 .f32) : term A W X G = Residual.out A W X G := by
  funext i
  rw [eq_ix2 i]
  pointwise [term]
  unfold Residual.out
  blk_point []

/-- The reference's frame: every run ends, with the arguments unchanged and the counters at zero. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems (by decide) r.2⟩) (Cert.ResidualRefIdeal.Value.run m ρ)

end Cert.ResidualRefIdeal.Hand

namespace Residual

attribute [local instance] Cert.ResidualIdeal.Gen.facts Cert.ResidualRefIdeal.Gen.facts

/-- Kernel and reference end with the same result, from arguments that agree. -/
theorem algebraic : Cert.algebraic_ResidualIdeal_ResidualRefIdeal := by
  intro m g m' g' _ hargs
  refine ⟨fun c => Residual.out (m (c.tc.loc Cert.ResidualIdeal.main_arg0)) (m (c.tc.loc Cert.ResidualIdeal.main_arg1)) (m (c.tc.loc Cert.ResidualIdeal.main_arg2)) (m (c.tc.loc Cert.ResidualIdeal.main_arg3)), ?_, ?_⟩
  · exact (θ_run _ _ _).mono (fun r h c => ⟨(h c).1.trans (Cert.ResidualIdeal.Hand.final m c), (h c).2⟩)
      (Cert.ResidualIdeal.Value.run_blocks m g)
  · refine (θ_run _ _ _).mono (fun r h c => ⟨(h c).1.trans ?_, (h c).2⟩) (Cert.ResidualRefIdeal.Value.run m' g')
    obtain ⟨h0, h1, h2, h3⟩ := hargs c
    exact (Cert.ResidualRefIdeal.Hand.term_eq _ _ _ _).trans (by rw [h0, h1, h2, h3])

end Residual

end
-- ==== Proof.Proj.Value.lean ====
module

public import proofs.«01_k».proof.Proof.Gen.ProjIdeal.Frame
public import Idealize.ShloMosaic.Lib.Pipeline.ValueKit
public import Idealize.ShloMosaic.Lib.Pointwise

/-! # The projections: what each of the five products leaves

The layer's input rows are multiplied by one wide weight array, a span of columns at a time: five launches of one tiled
product, each with its own span, tile width and result format. Each leaves its span of the whole product, whatever the
arrays hold when it is entered. -/

@[expose] public section

set_option maxRecDepth 16384

noncomputable section

open Idealize.ShloMosaic Idealize.ShloMosaic.TcCoe Idealize.SL.Sem

namespace Proj

open Cert.ProjIdeal

/-- Entry `(r, j)` of the span of the product that starts at column `off`. -/
def span (A : FVec Ideal S16384x2048 .bf16) (B : FVec Ideal S2048x7168 .bf16) (off : ℕ) {n : ℕ}
    (h : off + n ≤ 7168) (r : Fin 16384) (j : Fin n) : EReal :=
  ∑ k : Fin 2048, A (ix2 r k) * B (ix2 k ⟨off + j.val, by omega⟩)

variable (A : FVec Ideal S16384x2048 .bf16) (B : FVec Ideal S2048x7168 .bf16)

/-- The gates' columns. -/
def small : FVec Ideal S16384x256 .f32 := fun i => span A B 6912 (n := 256) (by decide) (i 0) (i 1)
/-- The recurrence's columns. -/
def first : FVec Ideal S16384x2048 .f32 := fun i => span A B 0 (n := 2048) (by decide) (i 0) (i 1)
/-- The matrix memory's columns. -/
def second : FVec Ideal S16384x2048 .f32 := fun i => span A B 2048 (n := 2048) (by decide) (i 0) (i 1)
/-- The block attention's columns. -/
def third : FVec Ideal S16384x1536 .bf16 := fun i => span A B 4096 (n := 1536) (by decide) (i 0) (i 1)
/-- The sparse attention's columns. -/
def fourth : FVec Ideal S16384x1280 .bf16 := fun i => span A B 5632 (n := 1280) (by decide) (i 0) (i 1)

end Proj

namespace Cert.ProjIdeal.Hand

open Cert.ProjIdeal Cert.ProjIdeal.Gen

variable (V : (c : Dev nD) → (b : Ref sig .tc) → Buf (Elt Ideal) ((c : Thread nD τ).loc b))

/-! ## Launch 0: the span `small` -/

/-- Which block each window holds at grid point `t`. -/
theorem idx0 : ∀ t : Fin cfg0.N, win0_0.index t = ![t.val % 16, 0] ∧ win0_1.index t = ![0, 27 + t.val / 16]
    ∧ win0_2.index t = ![t.val % 16, t.val / 16] :=
  (by decide +kernel : ∀ t : Fin grid0.N, _)

/-- One entry of the stored block. -/
theorem body0 (a : Vec Ideal S1024x2048 .bf16) (b : Vec Ideal S2048x256 .bf16) (r : Fin 1024) (j : Fin 256) :
    out0_2 a b (ix2 r j) = ∑ k : Fin 2048, a (ix2 r k) * b (ix2 k j) := by
  unfold out0_2
  frame_out
  pointwise [k0_pay1]

/-- The block stored at grid point `t` is that block of the span. -/
theorem point0 (c : Dev nD) (t : Fin cfg0.N) (y : S1024x256.Idx) :
    out0_2 (iblk0 V c 0 t) (iblk0 V c 1 t) y
      = Proj.small (V c main_arg0) (V c main_arg1) (((cfg0.win 2).blk t).view.emb y) := by
  refine (congrArg _ (eq_ix2 y)).trans ((body0 _ _ (y 0) (y 1)).trans ?_)
  unfold Proj.small Proj.span
  blk_point [iblk0, idx0 t]

/-- The launch leaves the span in its result array. -/
theorem final0 (c : Dev nD) : (dat0 V c).arrAt 2 cfg0.N = Proj.small (V c main_arg0) (V c main_arg1) := by
  refine (dat0 V c).arrAt_eq_of_covers 2 _ (by decide +kernel) fun t _ y => ?_
  blk_simp
  rw [after0_2]
  exact point0 V c t y

/-! ## Launch 1: the span `first` -/

/-- Which block each window holds at grid point `t`. -/
theorem idx1 : ∀ t : Fin cfg1.N, win1_0.index t = ![t.val % 16, 0] ∧ win1_1.index t = ![0, t.val / 16]
    ∧ win1_2.index t = ![t.val % 16, t.val / 16] :=
  (by decide +kernel : ∀ t : Fin grid1.N, _)

/-- One entry of the stored block. -/
theorem body1 (a : Vec Ideal S1024x2048 .bf16) (b : Vec Ideal S2048x1024 .bf16) (r : Fin 1024) (j : Fin 1024) :
    out1_2 a b (ix2 r j) = ∑ k : Fin 2048, a (ix2 r k) * b (ix2 k j) := by
  unfold out1_2
  frame_out
  pointwise [k1_pay1]

/-- The block stored at grid point `t` is that block of the span. -/
theorem point1 (c : Dev nD) (t : Fin cfg1.N) (y : S1024x1024.Idx) :
    out1_2 (iblk1 V c 0 t) (iblk1 V c 1 t) y
      = Proj.first (V c main_arg0) (V c main_arg1) (((cfg1.win 2).blk t).view.emb y) := by
  refine (congrArg _ (eq_ix2 y)).trans ((body1 _ _ (y 0) (y 1)).trans ?_)
  unfold Proj.first Proj.span
  blk_point [iblk1, idx1 t]

/-- The launch leaves the span in its result array. -/
theorem final1 (c : Dev nD) : (dat1 V c).arrAt 2 cfg1.N = Proj.first (V c main_arg0) (V c main_arg1) := by
  refine (dat1 V c).arrAt_eq_of_covers 2 _ (by decide +kernel) fun t _ y => ?_
  blk_simp
  rw [after1_2]
  exact point1 V c t y

/-! ## Launch 2: the span `second` -/

/-- Which block each window holds at grid point `t`. -/
theorem idx2 : ∀ t : Fin cfg2.N, win2_0.index t = ![t.val % 16, 0] ∧ win2_1.index t = ![0, 2 + t.val / 16]
    ∧ win2_2.index t = ![t.val % 16, t.val / 16] :=
  (by decide +kernel : ∀ t : Fin grid2.N, _)

/-- One entry of the stored block. -/
theorem body2 (a : Vec Ideal S1024x2048 .bf16) (b : Vec Ideal S2048x1024 .bf16) (r : Fin 1024) (j : Fin 1024) :
    out2_2 a b (ix2 r j) = ∑ k : Fin 2048, a (ix2 r k) * b (ix2 k j) := by
  unfold out2_2
  frame_out
  pointwise [k2_pay1]

/-- The block stored at grid point `t` is that block of the span. -/
theorem point2 (c : Dev nD) (t : Fin cfg2.N) (y : S1024x1024.Idx) :
    out2_2 (iblk2 V c 0 t) (iblk2 V c 1 t) y
      = Proj.second (V c main_arg0) (V c main_arg1) (((cfg2.win 2).blk t).view.emb y) := by
  refine (congrArg _ (eq_ix2 y)).trans ((body2 _ _ (y 0) (y 1)).trans ?_)
  unfold Proj.second Proj.span
  blk_point [iblk2, idx2 t]

/-- The launch leaves the span in its result array. -/
theorem final2 (c : Dev nD) : (dat2 V c).arrAt 2 cfg2.N = Proj.second (V c main_arg0) (V c main_arg1) := by
  refine (dat2 V c).arrAt_eq_of_covers 2 _ (by decide +kernel) fun t _ y => ?_
  blk_simp
  rw [after2_2]
  exact point2 V c t y

/-! ## Launch 3: the span `third` -/

/-- Which block each window holds at grid point `t`. -/
theorem idx3 : ∀ t : Fin cfg3.N, win3_0.index t = ![t.val % 16, 0] ∧ win3_1.index t = ![0, 8 + t.val / 16]
    ∧ win3_2.index t = ![t.val % 16, t.val / 16] :=
  (by decide +kernel : ∀ t : Fin grid3.N, _)

/-- One entry of the stored block. -/
theorem body3 (a : Vec Ideal S1024x2048 .bf16) (b : Vec Ideal S2048x512 .bf16) (r : Fin 1024) (j : Fin 512) :
    out3_2 a b (ix2 r j) = ∑ k : Fin 2048, a (ix2 r k) * b (ix2 k j) := by
  unfold out3_2
  frame_out
  pointwise [k3_pay1]

/-- The block stored at grid point `t` is that block of the span. -/
theorem point3 (c : Dev nD) (t : Fin cfg3.N) (y : S1024x512.Idx) :
    out3_2 (iblk3 V c 0 t) (iblk3 V c 1 t) y
      = Proj.third (V c main_arg0) (V c main_arg1) (((cfg3.win 2).blk t).view.emb y) := by
  refine (congrArg _ (eq_ix2 y)).trans ((body3 _ _ (y 0) (y 1)).trans ?_)
  unfold Proj.third Proj.span
  blk_point [iblk3, idx3 t]

/-- The launch leaves the span in its result array. -/
theorem final3 (c : Dev nD) : (dat3 V c).arrAt 2 cfg3.N = Proj.third (V c main_arg0) (V c main_arg1) := by
  refine (dat3 V c).arrAt_eq_of_covers 2 _ (by decide +kernel) fun t _ y => ?_
  blk_simp
  rw [after3_2]
  exact point3 V c t y

/-! ## Launch 4: the span `fourth` -/

/-- Which block each window holds at grid point `t`. -/
theorem idx4 : ∀ t : Fin cfg4.N, win4_0.index t = ![t.val % 16, 0] ∧ win4_1.index t = ![0, 22 + t.val / 16]
    ∧ win4_2.index t = ![t.val % 16, t.val / 16] :=
  (by decide +kernel : ∀ t : Fin grid4.N, _)

/-- One entry of the stored block. -/
theorem body4 (a : Vec Ideal S1024x2048 .bf16) (b : Vec Ideal S2048x256 .bf16) (r : Fin 1024) (j : Fin 256) :
    out4_2 a b (ix2 r j) = ∑ k : Fin 2048, a (ix2 r k) * b (ix2 k j) := by
  unfold out4_2
  frame_out
  pointwise [k4_pay1]

/-- The block stored at grid point `t` is that block of the span. -/
theorem point4 (c : Dev nD) (t : Fin cfg4.N) (y : S1024x256.Idx) :
    out4_2 (iblk4 V c 0 t) (iblk4 V c 1 t) y
      = Proj.fourth (V c main_arg0) (V c main_arg1) (((cfg4.win 2).blk t).view.emb y) := by
  refine (congrArg _ (eq_ix2 y)).trans ((body4 _ _ (y 0) (y 1)).trans ?_)
  unfold Proj.fourth Proj.span
  blk_point [iblk4, idx4 t]

/-- The launch leaves the span in its result array. -/
theorem final4 (c : Dev nD) : (dat4 V c).arrAt 2 cfg4.N = Proj.fourth (V c main_arg0) (V c main_arg1) := by
  refine (dat4 V c).arrAt_eq_of_covers 2 _ (by decide +kernel) fun t _ y => ?_
  blk_simp
  rw [after4_2]
  exact point4 V c t y

end Cert.ProjIdeal.Hand

end
-- ==== Proof.Proj.Claim.lean ====
module

public import proofs.«01_k».proof.Defs
public import proofs.«01_k».proof.Proof.Proj.Value
public import proofs.«01_k».proof.Proof.Gen.ProjRefIdeal.Run

/-! # The projections: kernel and reference agree

The five launches write five different arrays and no later one touches an earlier one's result, so the run ends with the
five spans. The reference takes the whole product once and cuts it. -/

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run ends with every array as the five launches, one after the other, leave it. -/
theorem run_all : θ_run defs (onTc (τ := τ) (main (F := Ideal))) ⟨m, fun _ => 0, ρ⟩ fun r =>
    ∀ c : Dev nD, ∀ b ∈ Pipeline.ucRefs τ sig, r.2.mem ((c : Thread nD τ).1, b) = W5 m ρ c b :=
  Pipeline.θ_run_regions_kit_sems (pcfgs (F := Ideal)) adm (pdats m ρ) () cellOf_inj emb₁ defs₀ 𝒱₀ L lv m ρ main
    (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The arguments, as the launches find them. -/
abbrev A (c : Dev nD) : FVec Ideal S16384x2048 .bf16 := m ((c : Thread nD τ).loc main_arg0)
@[inherit_doc A] abbrev B (c : Dev nD) : FVec Ideal S2048x7168 .bf16 := m ((c : Thread nD τ).loc main_arg1)

theorem end0 (c : Dev nD) : W5 m ρ c (Proc.devRef .tc main_v0) = Proj.small (A m c) (B m c) := by
  refine (W5_of_ne m ρ c main_v0 (by decide)).trans <| (W4_of_ne m ρ c main_v0 (by decide)).trans <|
    (W3_of_ne m ρ c main_v0 (by decide)).trans <| (W2_of_ne m ρ c main_v0 (by decide)).trans <|
    (W1_arr m ρ c 2).trans <| (final0 (V0 m ρ) c).trans ?_
  rfl

theorem end1 (c : Dev nD) : W5 m ρ c (Proc.devRef .tc main_v1) = Proj.first (A m c) (B m c) := by
  refine (W5_of_ne m ρ c main_v1 (by decide)).trans <| (W4_of_ne m ρ c main_v1 (by decide)).trans <|
    (W3_of_ne m ρ c main_v1 (by decide)).trans <| (W2_arr m ρ c 2).trans <| (final1 (V1 m ρ) c).trans ?_
  exact congrArg₂ Proj.first (W1_args m ρ c main_arg0 (by simp)) (W1_args m ρ c main_arg1 (by simp))

theorem end2 (c : Dev nD) : W5 m ρ c (Proc.devRef .tc main_v2) = Proj.second (A m c) (B m c) := by
  refine (W5_of_ne m ρ c main_v2 (by decide)).trans <| (W4_of_ne m ρ c main_v2 (by decide)).trans <|
    (W3_arr m ρ c 2).trans <| (final2 (V2 m ρ) c).trans ?_
  exact congrArg₂ Proj.second (W2_args m ρ c main_arg0 (by simp)) (W2_args m ρ c main_arg1 (by simp))

theorem end3 (c : Dev nD) : W5 m ρ c (Proc.devRef .tc main_v3) = Proj.third (A m c) (B m c) := by
  refine (W5_of_ne m ρ c main_v3 (by decide)).trans <| (W4_arr m ρ c 2).trans <| (final3 (V3 m ρ) c).trans ?_
  exact congrArg₂ Proj.third (W3_args m ρ c main_arg0 (by simp)) (W3_args m ρ c main_arg1 (by simp))

theorem end4 (c : Dev nD) : W5 m ρ c (Proc.devRef .tc main_v4) = Proj.fourth (A m c) (B m c) := by
  refine (W5_arr m ρ c 2).trans <| (final4 (V4 m ρ) c).trans ?_
  exact congrArg₂ Proj.fourth (W4_args m ρ c main_arg0 (by simp)) (W4_args m ρ c main_arg1 (by simp))

/-- The run ends with the five spans and the arguments as they were. -/
theorem run_value : θ_run defs (onTc (τ := τ) (main (F := Ideal))) ⟨m, fun _ => 0, ρ⟩ fun r => ∀ c : Dev nD,
    r.2.mem ((c.tc : Thread nD τ).loc main_v0) = Proj.small (A m c) (B m c)
    ∧ r.2.mem ((c.tc : Thread nD τ).loc main_v1) = Proj.first (A m c) (B m c)
    ∧ r.2.mem ((c.tc : Thread nD τ).loc main_v2) = Proj.second (A m c) (B m c)
    ∧ r.2.mem ((c.tc : Thread nD τ).loc main_v3) = Proj.third (A m c) (B m c)
    ∧ r.2.mem ((c.tc : Thread nD τ).loc main_v4) = Proj.fourth (A m c) (B m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c =>
    ⟨(h c _ (mem_uc main_v0 (by decide))).trans (end0 m ρ c), (h c _ (mem_uc main_v1 (by decide))).trans (end1 m ρ c),
     (h c _ (mem_uc main_v2 (by decide))).trans (end2 m ρ c), (h c _ (mem_uc main_v3 (by decide))).trans (end3 m ρ c),
     (h c _ (mem_uc main_v4 (by decide))).trans (end4 m ρ c),
     (h c _ (mem_uc main_arg0 (by decide))).trans (W5_main_arg0 m ρ c),
     (h c _ (mem_uc main_arg1 (by decide))).trans (W5_main_arg1 m ρ c)⟩) (run_all m ρ)

end Cert.ProjIdeal.Hand

namespace Cert.ProjRefIdeal.Hand

open Cert.ProjRefIdeal Cert.ProjRefIdeal.Gen
open Idealize.ShloMosaic Idealize.ShloMosaic.TcCoe Idealize.SL.Sem

variable (m : (ℓ : Loc nD τ sig) → Buf (Elt Ideal) ℓ) (ρ : Dev nD → PrngReg)

/-- The whole product, taken once. -/
def whole (A : FVec Ideal S16384x2048 .bf16) (B : FVec Ideal S2048x7168 .bf16) : FVec Ideal S16384x7168 .f32 :=
  Host.dotGeneral dot_S16384x2048_S2048x7168_S16384x7168_1_0_0_1_n_n none (extf .f32 A bitsLt_bf16_f32)
    (extf .f32 B bitsLt_bf16_f32)

variable (A : FVec Ideal S16384x2048 .bf16) (B : FVec Ideal S2048x7168 .bf16)

/-- Each span of the whole product is the span taken by itself. -/
theorem cuts :
    extractStridedSlice S16384x256 ![0, 6912] (whole A B) slices_S16384x7168_S16384x256_0_6912 = Proj.small A B
    ∧ extractStridedSlice S16384x2048 ![0, 0] (whole A B) slices_S16384x7168_S16384x2048_0_0 = Proj.first A B
    ∧ extractStridedSlice S16384x2048 ![0, 2048] (whole A B) slices_S16384x7168_S16384x2048_0_2048 = Proj.second A B
    ∧ truncf .bf16 (extractStridedSlice S16384x1536 ![0, 4096] (whole A B) slices_S16384x7168_S16384x1536_0_4096)
        bitsLt_bf16_f32 = Proj.third A B
    ∧ truncf .bf16 (extractStridedSlice S16384x1280 ![0, 5632] (whole A B) slices_S16384x7168_S16384x1280_0_5632)
        bitsLt_bf16_f32 = Proj.fourth A B := by
  refine ⟨?_, ?_, ?_, ?_, ?_⟩ <;> (funext i; rw [eq_ix2 i])
  · pointwise [whole]; unfold Proj.small Proj.span; blk_point []
  · pointwise [whole]; unfold Proj.first Proj.span; blk_point []
  · pointwise [whole]; unfold Proj.second Proj.span; blk_point []
  · pointwise [whole]; unfold Proj.third Proj.span; blk_point []
  · pointwise [whole]; unfold Proj.fourth Proj.span; blk_point []

/-- The reference's frame: every run ends, with the arguments unchanged and the counters at zero. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2.2.2.2, sem_eq_zero_of_no_sems (by decide) r.2⟩)
    (Cert.ProjRefIdeal.Value.run m ρ)

end Cert.ProjRefIdeal.Hand

namespace Proj

open Idealize.ShloMosaic Idealize.ShloMosaic.TcCoe Idealize.SL.Sem

attribute [local instance] Cert.ProjIdeal.Gen.facts Cert.ProjRefIdeal.Gen.facts

/-- Kernel and reference end with the same five results, from arguments that agree. -/
theorem algebraic : Cert.algebraic_ProjIdeal_ProjRefIdeal := by
  intro m g m' g' _ hargs
  refine ⟨fun c => small (Cert.ProjIdeal.Hand.A m c) (Cert.ProjIdeal.Hand.B m c),
    fun c => first (Cert.ProjIdeal.Hand.A m c) (Cert.ProjIdeal.Hand.B m c),
    fun c => second (Cert.ProjIdeal.Hand.A m c) (Cert.ProjIdeal.Hand.B m c),
    fun c => third (Cert.ProjIdeal.Hand.A m c) (Cert.ProjIdeal.Hand.B m c),
    fun c => fourth (Cert.ProjIdeal.Hand.A m c) (Cert.ProjIdeal.Hand.B m c), Cert.ProjIdeal.Hand.run_value m g, ?_⟩
  refine (θ_run _ _ _).mono (fun r h c => ?_) (Cert.ProjRefIdeal.Value.run m' g')
  obtain ⟨h0, h1⟩ := hargs c
  obtain ⟨e0, e1, e2, e3, e4⟩ := Cert.ProjRefIdeal.Hand.cuts
    (m' ((c.tc : Thread Cert.ProjRefIdeal.nD Cert.ProjRefIdeal.τ).loc Cert.ProjRefIdeal.main_arg0))
    (m' ((c.tc : Thread Cert.ProjRefIdeal.nD Cert.ProjRefIdeal.τ).loc Cert.ProjRefIdeal.main_arg1))
  obtain ⟨r0, r1, r2, r3, r4, rest⟩ := h c
  exact ⟨(r0.trans e0).trans (congrArg₂ small h0 h1), (r1.trans e1).trans (congrArg₂ first h0 h1),
    (r2.trans e2).trans (congrArg₂ second h0 h1), (r3.trans e3).trans (congrArg₂ third h0 h1),
    (r4.trans e4).trans (congrArg₂ fourth h0 h1), rest⟩

end Proj

end
-- ==== Proof.Moe.Body.lean ====
module

public import proofs.«01_k».proof.Proof.Gen.MoeIdeal.Skeleton
public import proofs.«01_k».proof.Proof.Gen.MoeIdeal.Launch
public import Idealize.ShloMosaic.Lib.Pipeline.Frame
public import Idealize.ShloMosaic.Lib.Pipeline.TableIdle
public import Idealize.ShloMosaic.Lib.Pipeline.FrameBody
public import Idealize.ShloMosaic.Lib.VecWindow
public import Idealize.ShloMosaic.Lib.Claim
public import Idealize.ShloMosaic.Lib.Tactic
public import Idealize.ShloMosaic.Lib.Writes
public import Idealize.ShloMosaic.Lib.Ring
public import Idealize.ShloMosaic.Lib.Exec
public import Idealize.ShloMosaic.Lib.Affine
public import Idealize.ShloMosaic.PureOps.Ideal

/-! # The expert body on one block of rows

The body reads the two tables, takes the expert's weights into the scratches when the expert changes, and writes the
block: the expert's gated product where the block is in use, zeros past the last block in use. -/

@[expose] public section

set_option maxRecDepth 16384

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MoeIdeal.Gen

local notation "𝕄" => MT nD τ sig Unit (Elt Ideal) ℕ (UR sig nD τ) ℕ

/-- The two tables and the three scratches, as the body is handed them. -/
abbrev tbE : Memref sig .tc .smem S320 .i32 := Memref.whole main_arg1
abbrev tbN : Memref sig .tc .smem S1 .i32 := Memref.whole main_arg2
abbrev scG : Memref sig .tc .vmem S2048x512 .bf16 := Memref.whole cc0_scratch0
abbrev scU : Memref sig .tc .vmem S2048x512 .bf16 := Memref.whole cc0_scratch1
abbrev scD : Memref sig .tc .vmem S512x2048 .bf16 := Memref.whole cc0_scratch2

/-- The words the body reads: the number of blocks in use, the expert of this block and of the block before. -/
abbrev usedWord (T1 : S1.Idx → Elt Ideal .i32) : BitVec 32 :=
  View.readAt (Elt Ideal) tbN.view (Rect.unit (s := S1) ![0] S1.size inb_S1_S1_0).toLoadRect T1 (Shape.Idx.first (numel1_S1.symm ▸ Nat.one_pos))
abbrev expertWord (i : grid0.Coords) (T0 : S320.Idx → Elt Ideal .i32) : BitVec 32 :=
  View.readAt (Elt Ideal) tbE.view (Rect.unit (s := S320) (k0_off1 i) S1.size (k0_off1_inb i)).toLoadRect T0 (Shape.Idx.first (numel1_S1.symm ▸ Nat.one_pos))
abbrev lastWord (i : grid0.Coords) (T0 : S320.Idx → Elt Ideal .i32) : BitVec 32 :=
  View.readAt (Elt Ideal) tbE.view (Rect.unit (s := S320) (k0_off2 i) S1.size (k0_off2_inb i)).toLoadRect T0 (Shape.Idx.first (numel1_S1.symm ▸ Nat.one_pos))

/-- The weights are taken anew; the block is in use. -/
abbrev takes (i : grid0.Coords) (T0 : S320.Idx → Elt Ideal .i32) (T1 : S1.Idx → Elt Ideal .i32) : Prop :=
  (Scalar.cmpi .ne (Scalar.extui (Scalar.andi (Scalar.cmpi .slt (BitVec.ofNat 32 (i 0).val) (usedWord T1))
    (Scalar.ori (Scalar.cmpi .eq (BitVec.ofNat 32 (i 0).val) 0#32) (Scalar.cmpi .ne (expertWord i T0) (lastWord i T0))))) 0#32) = 1#1

/-- The block written for rows `x` with the scratches at `g`, `u`, `d`. -/
def blockOut (x : Vec Ideal S512x1024 .i32) (g u : Vec Ideal S2048x512 .bf16) (d : Vec Ideal S512x2048 .bf16) : Vec Ideal S512x2048 .bf16 :=
  k0_pay4 x
    (VecWindow.window g ![0, 0] S1024x512.size inb_S2048x512_S1024x512_0_0)
    (VecWindow.window g ![1024, 0] S1024x512.size inb_S2048x512_S1024x512_1024_0)
    (VecWindow.window u ![0, 0] S1024x512.size inb_S2048x512_S1024x512_0_0)
    (VecWindow.window u ![1024, 0] S1024x512.size inb_S2048x512_S1024x512_1024_0)
    d

variable (c : Dev nD) (i : grid0.Coords) (arg3 : Memref sig .tc .vmem S512x1024 .i32) (harg3 : arg3.IsWhole)
  (arg4 : Memref sig .tc .vmem S1x2048x512 .f32) (harg4 : arg4.IsWhole) (arg5 : Memref sig .tc .vmem S1x2048x512 .f32) (harg5 : arg5.IsWhole)
  (arg6 : Memref sig .tc .vmem S1x512x2048 .f32) (harg6 : arg6.IsWhole) (arg7 : Memref sig .tc .vmem S512x2048 .bf16) (harg7 : arg7.IsWhole)
  (T0 : S320.Idx → Elt Ideal .i32) (T1 : S1.Idx → Elt Ideal .i32)
  (x : Vec Ideal S512x1024 .i32) (wg wu : Vec Ideal S1x2048x512 .f32) (wd : Vec Ideal S1x512x2048 .f32)

/-- What the body only reads: the rows, the expert's weights and the two tables. -/
def readOnly : sProp 𝕄 :=
  iprop((arg3.view.loc (c : Thread nD τ) ↦[arg3.view.set]{fullShare} arg3.view.rep x) ∗ (arg4.view.loc (c : Thread nD τ) ↦[arg4.view.set]{fullShare} arg4.view.rep wg)
    ∗ (arg5.view.loc (c : Thread nD τ) ↦[arg5.view.set]{fullShare} arg5.view.rep wu) ∗ (arg6.view.loc (c : Thread nD τ) ↦[arg6.view.set]{fullShare} arg6.view.rep wd)
    ∗ (tbE.view.loc (c : Thread nD τ) ↦{fullShare.right} T0) ∗ (tbN.view.loc (c : Thread nD τ) ↦{fullShare.right} T1))

/-- The scratches at `g`, `u`, `d`. -/
def scratch (g u : Vec Ideal S2048x512 .bf16) (d : Vec Ideal S512x2048 .bf16) : sProp 𝕄 :=
  iprop((scG.view.loc (c : Thread nD τ) ↦[scG.view.set]{fullShare} scG.view.rep g) ∗ (scU.view.loc (c : Thread nD τ) ↦[scU.view.set]{fullShare} scU.view.rep u)
    ∗ (scD.view.loc (c : Thread nD τ) ↦[scD.view.set]{fullShare} scD.view.rep d))

/-- The output block's buffer at `o`. -/
def output (o : Vec Ideal S512x2048 .bf16) : sProp 𝕄 := iprop(arg7.view.loc (c : Thread nD τ) ↦[arg7.view.set]{fullShare} arg7.view.rep o)

/-- The body at grid point `i`. -/
abbrev theBody : Prog (TpuEff nD τ sig (Elt Ideal) Λ₀ .tc) PUnit :=
  cc0_moe_grouped_swiglu i tbE (Memref.isWhole_whole _) tbN (Memref.isWhole_whole _) arg3 harg3 arg4 harg4 arg5 harg5 arg6 harg6 arg7 harg7
    scG (Memref.isWhole_whole _) scU (Memref.isWhole_whole _) scD (Memref.isWhole_whole _)

set_option maxHeartbeats 4000000 in
/-- A block in use whose expert is the one before: the scratches stay. -/
theorem body_keep (h1 : ¬ takes i T0 T1) (h2 : k0_cond2 i (usedWord T1) = 1#1) (h3 : ¬ (k0_cond3 i (usedWord T1) = 1#1))
    (g u : Vec Ideal S2048x512 .bf16) (d o : Vec Ideal S512x2048 .bf16) (Q : PUnit → sProp 𝕄) :
    iprop(readOnly c arg3 arg4 arg5 arg6 T0 T1 x wg wu wd ∗ output c arg7 o ∗ scratch c g u d
        ∗ (iprop(readOnly c arg3 arg4 arg5 arg6 T0 T1 x wg wu wd ∗ output c arg7 (blockOut x g u d) ∗ scratch c g u d) -∗ Q ⟨⟩))
      ⊢ wp frame (wpE (defs₀ (F := Ideal)) Variants.none c none) Set.univ (theBody i arg3 harg3 arg4 harg4 arg5 harg5 arg6 harg6 arg7 harg7) Q := by
  unfold readOnly scratch output
  rw [theBody, cc0_moe_grouped_swiglu_eq_skeleton]; unfold cc0_moe_grouped_swiglu_skel
  iintro ⟨⟨H3, H4, H5, H6, HT0, HT1⟩, H7, ⟨H8, H9, H10⟩, Hk⟩
  have hT0 : tbE.IsWhole := Memref.isWhole_whole _
  have hT1 : tbN.IsWhole := Memref.isWhole_whole _
  have hS0 : scG.IsWhole := Memref.isWhole_whole _
  have hS1 : scU.IsWhole := Memref.isWhole_whole _
  have hS2 : scD.IsWhole := Memref.isWhole_whole _
  sl_exec! (disch := first | exact h1 | exact h2 | exact h3)
  sl_step
  iapply Hk
  isplitl [H3 H4 H5 H6 HT0 HT1]; · iframe
  isplitl [H7]
  · iapply pointsTo_rep_of_read (X := _) (h := ?h7) $$ H7
    unfold body_keep.sl.H7_1
    rw [View.read_writes_full]
    show k0_pay4 _ _ _ _ _ _ = k0_pay4 _ _ _ _ _ _
    rw [View.readAt_rep_unit scG.view g _ rfl inb_S2048x512_S1024x512_0_0, View.readAt_rep_unit scG.view g _ rfl inb_S2048x512_S1024x512_1024_0,
      View.readAt_rep_unit scU.view u _ rfl inb_S2048x512_S1024x512_0_0, View.readAt_rep_unit scU.view u _ rfl inb_S2048x512_S1024x512_1024_0,
      View.readAt_rep_full, View.readAt_rep_full]
  iframe

set_option maxHeartbeats 4000000 in
/-- A block in use with another expert than the one before: the scratches take its weights. -/
theorem body_take (h1 : takes i T0 T1) (h2 : k0_cond2 i (usedWord T1) = 1#1) (h3 : ¬ (k0_cond3 i (usedWord T1) = 1#1))
    (g u : Vec Ideal S2048x512 .bf16) (d o : Vec Ideal S512x2048 .bf16) (Q : PUnit → sProp 𝕄) :
    iprop(readOnly c arg3 arg4 arg5 arg6 T0 T1 x wg wu wd ∗ output c arg7 o ∗ scratch c g u d
        ∗ (iprop(readOnly c arg3 arg4 arg5 arg6 T0 T1 x wg wu wd ∗ output c arg7 (blockOut x (k0_pay1 wg) (k0_pay2 wu) (k0_pay3 wd)) ∗ scratch c (k0_pay1 wg) (k0_pay2 wu) (k0_pay3 wd)) -∗ Q ⟨⟩))
      ⊢ wp frame (wpE (defs₀ (F := Ideal)) Variants.none c none) Set.univ (theBody i arg3 harg3 arg4 harg4 arg5 harg5 arg6 harg6 arg7 harg7) Q := by
  unfold readOnly scratch output
  rw [theBody, cc0_moe_grouped_swiglu_eq_skeleton]; unfold cc0_moe_grouped_swiglu_skel
  iintro ⟨⟨H3, H4, H5, H6, HT0, HT1⟩, H7, ⟨H8, H9, H10⟩, Hk⟩
  have hT0 : tbE.IsWhole := Memref.isWhole_whole _
  have hT1 : tbN.IsWhole := Memref.isWhole_whole _
  have hS0 : scG.IsWhole := Memref.isWhole_whole _
  have hS1 : scU.IsWhole := Memref.isWhole_whole _
  have hS2 : scD.IsWhole := Memref.isWhole_whole _
  sl_exec! (disch := first | exact h1 | exact h2 | exact h3)
  sl_step
  iapply Hk
  isplitl [H3 H4 H5 H6 HT0 HT1]; · iframe
  have eG : scG.view.read (Elt Ideal) (scG.view.writes (Elt Ideal) scG.view.junk (body_take.sl.H8_1 arg4 wg)) = k0_pay1 wg := by
    unfold body_take.sl.H8_1; rw [View.read_writes_full, View.readAt_rep_full]
  have eU : scU.view.read (Elt Ideal) (scU.view.writes (Elt Ideal) scU.view.junk (body_take.sl.H9_1 arg5 wu)) = k0_pay2 wu := by
    unfold body_take.sl.H9_1; rw [View.read_writes_full, View.readAt_rep_full]
  have eD : scD.view.read (Elt Ideal) (scD.view.writes (Elt Ideal) scD.view.junk (body_take.sl.H10_1 arg6 wd)) = k0_pay3 wd := by
    unfold body_take.sl.H10_1; rw [View.read_writes_full, View.readAt_rep_full]
  isplitl [H7]
  · iapply pointsTo_rep_of_read (X := _) (h := ?h7) $$ H7
    unfold body_take.sl.H7_1
    rw [View.read_writes_full]
    unfold body_take.sl.v28 body_take.sl.v30 body_take.sl.v33 body_take.sl.v35 body_take.sl.v42
    show k0_pay4 _ _ _ _ _ _ = k0_pay4 _ _ _ _ _ _
    rw [View.readAt_rep_full]
    unfold View.readCov
    rw [View.readAt_unit scG.view _ _ rfl inb_S2048x512_S1024x512_0_0, View.readAt_unit scG.view _ _ rfl inb_S2048x512_S1024x512_1024_0,
      View.readAt_unit scU.view _ _ rfl inb_S2048x512_S1024x512_0_0, View.readAt_unit scU.view _ _ rfl inb_S2048x512_S1024x512_1024_0,
      View.readAt_full, eG, eU, eD]
  isplitl [H8]
  · iapply pointsTo_rep_of_read (X := _) (h := ?h8) $$ H8
    exact eG
  isplitl [H9]
  · iapply pointsTo_rep_of_read (X := _) (h := ?h9) $$ H9
    exact eU
  iapply pointsTo_rep_of_read (X := _) (h := ?h10) $$ H10
  exact eD

set_option maxHeartbeats 4000000 in
/-- A block past the last in use: zeros, and the scratches stay. -/
theorem body_zero (h1 : ¬ takes i T0 T1) (h2 : ¬ (k0_cond2 i (usedWord T1) = 1#1)) (h3 : k0_cond3 i (usedWord T1) = 1#1)
    (g u : Vec Ideal S2048x512 .bf16) (d o : Vec Ideal S512x2048 .bf16) (Q : PUnit → sProp 𝕄) :
    iprop(readOnly c arg3 arg4 arg5 arg6 T0 T1 x wg wu wd ∗ output c arg7 o ∗ scratch c g u d
        ∗ (iprop(readOnly c arg3 arg4 arg5 arg6 T0 T1 x wg wu wd ∗ output c arg7 (k0_pay5 (F := Ideal)) ∗ scratch c g u d) -∗ Q ⟨⟩))
      ⊢ wp frame (wpE (defs₀ (F := Ideal)) Variants.none c none) Set.univ (theBody i arg3 harg3 arg4 harg4 arg5 harg5 arg6 harg6 arg7 harg7) Q := by
  unfold readOnly scratch output
  rw [theBody, cc0_moe_grouped_swiglu_eq_skeleton]; unfold cc0_moe_grouped_swiglu_skel
  iintro ⟨⟨H3, H4, H5, H6, HT0, HT1⟩, H7, ⟨H8, H9, H10⟩, Hk⟩
  have hT0 : tbE.IsWhole := Memref.isWhole_whole _
  have hT1 : tbN.IsWhole := Memref.isWhole_whole _
  have hS0 : scG.IsWhole := Memref.isWhole_whole _
  have hS1 : scU.IsWhole := Memref.isWhole_whole _
  have hS2 : scD.IsWhole := Memref.isWhole_whole _
  sl_exec! (disch := first | exact h1 | exact h2 | exact h3)
  sl_step
  iapply Hk
  isplitl [H3 H4 H5 H6 HT0 HT1]; · iframe
  isplitl [H7]
  · iapply pointsTo_rep_of_read (X := _) (h := ?h7) $$ H7
    unfold body_zero.sl.H7_1; exact View.read_writes_full ..
  iframe

end Cert.MoeIdeal.Hand
-- ==== Proof.Moe.Layers.lean ====
module

public import proofs.«01_k».proof.Proof.Moe.Body
public import Idealize.ShloMosaic.Lib.Pipeline.Kit

/-! # The expert blocks of either layer

Both layers' experts lie in one array, the second layer's after the first's, and the two calls differ in nothing but the
place where their layer's experts start. Everything is stated with that place a variable, for both calls at once: here
the pipeline, and the program that runs it. -/

@[expose] public section

set_option maxRecDepth 16384

noncomputable section

namespace Cert.MoeIdeal.Hand

open Idealize.ShloMosaic Idealize.ShloMosaic.TcCoe Idealize.SL.Sem
open Cert.MoeIdeal Cert.MoeIdeal.Gen

/-- A place where a layer's 64 experts may start among 128. -/
abbrev Start := Fin 65

/-- The first layer's, and the second's. -/
abbrev firstLayer : Start := ⟨0, by decide⟩
@[inherit_doc firstLayer] abbrev secondLayer : Start := ⟨64, by decide⟩

variable {F : FTy → Type} [FloatOps F] (L : Start)

/-- The block of weights read at a point: the one of its expert, counted from the layer's start. -/
def weightsAt (pf : pre0.Contents (Elt F)) (i : grid0.Coords) : Fin 3 → ℕ :=
  ![(Scalar.addi (BitVec.ofNat 32 L.val) (pf.at 0 (Rect.unit (s := S320) (k0_off1 i) S1.size (k0_off1_inb i)) numel1_S1)).toNat, 0, 0]

/-- The blocks the five windows read at a point. -/
abbrev blocksAt (pf : pre0.Contents (Elt F)) : (w : Fin 5) → grid0.Coords → Fin (spec0 w).shape.rank → ℕ
  | 0 => cc0_transform_0 inb_S1_S1_0 numel1_S1 pf
  | 1 => weightsAt L pf
  | 2 => weightsAt L pf
  | 3 => weightsAt L pf
  | 4 => cc0_transform_4
  | ⟨_ + 5, h⟩ => absurd h (Nat.not_lt.2 (Nat.le_add_left _ _))

/-- They depend on the point's one coordinate. -/
theorem blocksAt_congr (pf : pre0.Contents (Elt F)) (w : Fin 5) (i i' : grid0.Coords) (h : ∀ a, (spec0 w).reads a = true → i a = i' a) :
    blocksAt L pf w i = blocksAt L pf w i' := by
  have e : i = i' := funext fun a => h a (by fin_cases w <;> (obtain rfl : a = (0 : Fin 1) := Subsingleton.elim (α := Fin 1) _ _) <;> rfl)
  rw [e]

/-- Every block read lies inside its array, and in whole words. -/
def inside (pf : pre0.Contents (Elt F)) : Prop :=
  (∀ i : grid0.Coords, ∃ h : (∀ a, (cc0_transform_0 inb_S1_S1_0 numel1_S1 pf i a + 1) * S512x1024.size a ≤ S163840x1024.size a),
    EltTy.bits .i32 = 32 ∨ (Rect.block (s := S163840x1024) S512x1024.size (cc0_transform_0 inb_S1_S1_0 numel1_S1 pf i) h).WholeWords (EltTy.packing .i32))
  ∧ (∀ i : grid0.Coords, ∃ h : (∀ a, (weightsAt L pf i a + 1) * S1x2048x512.size a ≤ S128x2048x512.size a),
    EltTy.bits .f32 = 32 ∨ (Rect.block (s := S128x2048x512) S1x2048x512.size (weightsAt L pf i) h).WholeWords (EltTy.packing .f32))
  ∧ (∀ i : grid0.Coords, ∃ h : (∀ a, (weightsAt L pf i a + 1) * S1x2048x512.size a ≤ S128x2048x512.size a),
    EltTy.bits .f32 = 32 ∨ (Rect.block (s := S128x2048x512) S1x2048x512.size (weightsAt L pf i) h).WholeWords (EltTy.packing .f32))
  ∧ (∀ i : grid0.Coords, ∃ h : (∀ a, (weightsAt L pf i a + 1) * S1x512x2048.size a ≤ S128x512x2048.size a),
    EltTy.bits .f32 = 32 ∨ (Rect.block (s := S128x512x2048) S1x512x2048.size (weightsAt L pf i) h).WholeWords (EltTy.packing .f32))
instance (pf : pre0.Contents (Elt F)) : Decidable (inside L pf) := decidable_of_iff' _ (Iff.of_eq (inside.eq_1 L pf))

theorem blocksAt_inside (pf : pre0.Contents (Elt F)) (hok : inside L pf) (w : Fin 5) (i : grid0.Coords) (a) :
    (blocksAt L pf w i a + 1) * (spec0 w).size a ≤ (spec0 w).shape.size a := by
  match w with
  | 0 => exact (hok.1 i).elim fun h _ => h a
  | 1 => exact (hok.2.1 i).elim fun h _ => h a
  | 2 => exact (hok.2.2.1 i).elim fun h _ => h a
  | 3 => exact (hok.2.2.2 i).elim fun h _ => h a
  | 4 => exact hinb0_4 i a

theorem blocksAt_words (pf : pre0.Contents (Elt F)) (hok : inside L pf) (w : Fin 5) (i : grid0.Coords) :
    (spec0 w).elt.bits = 32 ∨ (Rect.block (spec0 w).size (blocksAt L pf w i) (blocksAt_inside L pf hok w i)).WholeWords (spec0 w).elt.packing := by
  match w with
  | 0 => exact (hok.1 i).elim fun _ h => h
  | 1 => exact (hok.2.1 i).elim fun _ h => h
  | 2 => exact (hok.2.2.1 i).elim fun _ h => h
  | 3 => exact (hok.2.2.2 i).elim fun _ h => h
  | 4 => exact hwx0_4 i

/-- The pipeline of the layer's call. -/
abbrev pcfgOf : Pipeline.PCfg sig Λ₀ (Elt F) :=
  Pipeline.PCfg.ofSpecs pre0 grid0 hrank0 (fun _ => grid0.bound) (fun _ _ _ => rfl)
    5 spec0 hcount0 harr0 (blocksAt L) (blocksAt_congr L) (inside L) (blocksAt_inside L) (blocksAt_words L) 0 (fun _ _ t s => (t, s)) (fun pf => idle0 pf)
@[inherit_doc pcfgOf] abbrev pcfgsOf : Fin 1 → Pipeline.PCfg sig Λ₀ (Elt F) := fun _ => pcfgOf L

/-- The program: the one call, with its pipeline. -/
abbrev defsOf : Defs nD τ sig (Elt F) (Pipeline.Sig Λ₀ (Fin 1) fun p => (pcfgsOf (F := F) L p).Adm) := Pipeline.defs (pcfgsOf L) defs₀
@[inherit_doc defsOf] abbrev mainOf : Dev nD → Prog (TpuEff nD τ sig (Elt F) (Pipeline.Sig Λ₀ (Fin 1) fun p => (pcfgsOf (F := F) L p).Adm) .tc) PUnit := fun _ => do
  Prog.lift (.customCall (Pipeline.entry 0) ())
  pure ⟨⟩

/-- The layout facts its launch takes. -/
theorem launchOf : Pipeline.PLaunchFacts (nD := nD) (τ := τ) (pcfgsOf (F := F) L) 0 :=
  ⟨fun a => Pipeline.cellOf_injective_of_table (Pipeline.pin (pcfgsOf (F := F) L) a) semTab
      (fun | 0 => rfl | ⟨_ + 1, h⟩ => absurd h (Nat.not_lt.2 (Nat.le_add_left _ _))) semsDistinct semsDisjoint,
    winFacts0, preFacts0, block_pos0, arr_whole0, stage_whole0⟩

end Cert.MoeIdeal.Hand

end
-- ==== Proof.Moe.Words.lean ====
module

public import proofs.«01_k».proof.Proof.Gen.MoeIdeal.Skeleton
public import proofs.«01_k».proof.Pre_experts_in_range
public import Idealize.ShloMosaic.Lib.ReduceAll
public import Idealize.ShloMosaic.Lib.WordCmp

/-! # The words of the expert layer

The block numbers, the number of blocks in use and the experts are 32-bit words; here is what the kernel's
comparisons and sums of them say about the numbers they stand for. -/

@[expose] public section

set_option maxRecDepth 16384

noncomputable section

namespace Cert.MoeWords

open Idealize.ShloMosaic

/-- A block number, read as a signed word, is itself. -/
theorem toInt_block (n : ℕ) (h : n < 320) : (BitVec.ofNat 32 n).toInt = n := by
  rw [BitVec.toInt_eq_toNat_of_lt] <;> simp only [BitVec.toNat_ofNat] <;> omega

/-- The signed comparison of words compares the numbers. -/
theorem slt_iff (a b : BitVec 32) : Scalar.cmpi .slt a b = 1#1 ↔ a.toInt < b.toInt := by
  rw [← BitVec.slt_iff_toInt_lt]
  show BitVec.ofBool (a.slt b) = 1#1 ↔ _
  cases a.slt b <;> decide

/-- Words differ exactly where the comparison says so. -/
theorem ne_iff (a b : BitVec 32) : Scalar.cmpi .ne a b = 1#1 ↔ a ≠ b := by
  show BitVec.ofBool (a != b) = 1#1 ↔ _
  rw [← bne_iff_ne]
  cases a != b <;> decide

/-- Words are equal exactly where the comparison says so. -/
theorem eq_iff (a b : BitVec 32) : Scalar.cmpi .eq a b = 1#1 ↔ a = b := by
  show BitVec.ofBool (a == b) = 1#1 ↔ _
  rw [← beq_iff_eq (a := a)]
  cases a == b <;> decide

/-- A truth value widened to a word and compared with zero is the truth value. -/
theorem truth (x : BitVec 1) : Scalar.cmpi .ne (Scalar.extui x) 0#32 = 1#1 ↔ x = 1#1 := by
  revert x; decide

/-- Conjunction and disjunction of truth values. -/
theorem and_iff (x y : BitVec 1) : Scalar.andi x y = 1#1 ↔ x = 1#1 ∧ y = 1#1 := by revert x y; decide
theorem or_iff (x y : BitVec 1) : Scalar.ori x y = 1#1 ↔ x = 1#1 ∨ y = 1#1 := by revert x y; decide
theorem not_iff (x : BitVec 1) : Scalar.xori x 1#1 = 1#1 ↔ ¬ x = 1#1 := by revert x; decide

/-- The row block a grid point reads: its own number, but no further than the last block in use. -/
def row (n : ℕ) (used : BitVec 32) : BitVec 32 := Scalar.minsi (BitVec.ofNat 32 n) (Scalar.maxsi (Scalar.subi used 1#32) 0#32)

/-- It is never past the point's own number. -/
theorem row_le (n : ℕ) (h : n < 320) (used : BitVec 32) : (row n used).toNat ≤ n := by
  have hn := toInt_block n h
  unfold row Scalar.minsi Scalar.maxsi IntOp.minsi IntOp.maxsi
  set d := Scalar.subi used 1#32
  split_ifs with h1 h2 h2
  · simp only [BitVec.toNat_ofNat]; omega
  · rw [BitVec.slt_iff_toInt_lt, hn] at h2
    rw [BitVec.slt_iff_toInt_lt] at h1
    have h0 : (0#32).toInt = 0 := by decide
    have := BitVec.toInt_eq_toNat_cond d
    split_ifs at this <;> omega
  · simp only [BitVec.toNat_ofNat]; omega
  · simp

/-- Of a block in use it is the point's own number. -/
theorem row_eq (n : ℕ) (h : n < 320) (used : BitVec 32) (hu : (n : ℤ) < used.toInt) : (row n used).toNat = n := by
  have hn := toInt_block n h
  have hd : (Scalar.subi used 1#32).toInt = used.toInt - 1 := by
    show (used - 1#32).toInt = _
    rw [BitVec.toInt_sub, show (1#32).toInt = 1 from by decide]
    have := used.toInt_lt; have := used.le_toInt
    rw [Int.bmod_eq_of_le] <;> omega
  have h0 : (0#32).toInt = 0 := by decide
  unfold row Scalar.minsi Scalar.maxsi IntOp.minsi IntOp.maxsi
  split_ifs with h1 h2 h2
  · simp only [BitVec.toNat_ofNat]; omega
  · rw [BitVec.slt_iff_toInt_lt, hn, hd] at h2
    have : used.toInt - 1 = n := by omega
    have e := BitVec.toInt_eq_toNat_cond (Scalar.subi used 1#32)
    split_ifs at e <;> omega
  · simp only [BitVec.toNat_ofNat]; omega
  · rw [BitVec.slt_iff_toInt_lt, hd, h0] at h1
    rw [BitVec.slt_iff_toInt_lt, hn, h0] at h2
    simp only [BitVec.toNat_ofNat]; omega

/-- An expert of the layer is one of 64. -/
def InRange (w : BitVec 32) : Prop := 0 ≤ w.toInt ∧ w.toInt < 64

/-- As a natural number it is below 64. -/
theorem InRange.lt {w : BitVec 32} (h : InRange w) : w.toNat < 64 := by
  obtain ⟨h0, h1⟩ := h
  have := BitVec.toInt_eq_toNat_cond w
  split_ifs at this <;> omega

/-- Its weights are those of expert `L + w` of both layers' experts in a row, where the layer's start at `L`. -/
theorem InRange.weights {w : BitVec 32} (h : InRange w) (L : Fin 65) : (Scalar.addi (BitVec.ofNat 32 L.val) w).toNat = L.val + w.toNat := by
  have := h.lt
  have := L.isLt
  show (BitVec.ofNat 32 L.val + w).toNat = _
  rw [BitVec.toNat_add]
  simp only [BitVec.toNat_ofNat]; omega

/-- What the precondition says: every block's expert is in range. -/
theorem inRange_of_pre {F : FTy → Type} [FloatOps F] [Pre_experts_in_range.Facts] (x : IVec Pre_experts_in_range.S163840x1024 32)
    (be : IVec Pre_experts_in_range.S320 32) (nu : IVec Pre_experts_in_range.S1 32) (wg wu : FVec F Pre_experts_in_range.S128x2048x512 .f32)
    (wd : FVec F Pre_experts_in_range.S128x512x2048 .f32) (h : Pre_experts_in_range.fn x be nu wg wu wd = fun _ => 1#1) (j : Pre_experts_in_range.S320.Idx) :
    InRange (be j) := by
  haveI : Subsingleton Pre_experts_in_range.S_.Idx := ⟨fun a b => funext fun d => d.elim0⟩
  have e := Host.reduce_andi_all _ _ _ _ (fun d => d.elim0) (congrFun h fun d => d.elim0) j
  obtain ⟨e1, e2⟩ := (and_iff _ _).1 e
  have a1 : (BitVec.sle 0#32 (be j)) = true := by
    have : BitVec.ofBool (BitVec.sle 0#32 (be j)) = 1#1 := e1
    revert this; cases BitVec.sle 0#32 (be j) <;> decide
  have a2 : (be j).toInt < (64#32).toInt := (slt_iff _ _).1 e2
  rw [BitVec.sle_iff_toInt_le] at a1
  exact ⟨a1, a2⟩

end Cert.MoeWords
-- ==== Proof.Moe.Tables.lean ====
module

public import proofs.«01_k».proof.Proof.Moe.Layers
public import proofs.«01_k».proof.Proof.Moe.Words
public import Idealize.ShloMosaic.Lib.Pipeline.ValueKit
public import Idealize.ShloMosaic.Lib.Pointwise

/-! # What the two tables tell

The table of experts picks each block's weights, the count says how many blocks are in use. With every expert a number
below 64 each block read lies inside its array, and the body's three conditions say: the block is in use, it is not, its
expert differs from the last one. -/

@[expose] public section

set_option maxRecDepth 16384

noncomputable section

namespace Cert.MoeIdeal.Hand

open Idealize.ShloMosaic Idealize.ShloMosaic.TcCoe Idealize.ShloMosaic.Tactic
open Cert.MoeIdeal Cert.MoeIdeal.Gen Cert.MoeWords

variable (T0 : S320.Idx → BitVec 32) (T1 : S1.Idx → BitVec 32) (i : grid0.Coords)

/-- A grid point's number is below 320. -/
theorem num_lt : (i 0).val < 320 := (i 0).isLt

/-- The expert of block `n`. -/
abbrev expertOf (n : ℕ) (h : n < 320) : BitVec 32 := T0 (ix1 (⟨n, h⟩ : Fin 320))

/-- Block `n` is in use. -/
def InUse (n : ℕ) : Prop := (n : ℤ) < (T1 (ix1 (0 : Fin 1))).toInt

/-- A one-entry rectangle of a table reads that entry. -/
theorem entry (off : Fin 1 → ℕ) (inb : ∀ a, off a + S1.size a ≤ S320.size a) (h1 : 0 < S1.numel) (k : ℕ) (hk : k < 320) (e : off 0 = k) :
    T0 ((Rect.unit (s := S320) off S1.size inb).emb (Shape.Idx.first h1)) = expertOf T0 k hk := by
  refine congrArg T0 (funext fun a => Fin.ext ?_)
  obtain rfl : a = 0 := Subsingleton.elim _ _
  have hx : ((Shape.Idx.first h1 : S1.Idx) 0).val = 0 := Nat.lt_one_iff.1 ((Shape.Idx.first h1 : S1.Idx) 0).isLt
  show off 0 + 1 * ((Shape.Idx.first h1 : S1.Idx) 0).val = k
  omega

/-- The count's word is the count. -/
theorem usedWord_eq : usedWord T1 = T1 (ix1 (0 : Fin 1)) :=
  congrArg T1 (show (_ : S1.Idx) = _ from funext fun a => by
    obtain rfl : a = (0 : Fin 1) := Subsingleton.elim (α := Fin 1) _ _
    exact Subsingleton.elim (α := Fin 1) _ _)

/-- The expert's word is this block's expert. -/
theorem expertWord_eq : expertWord i T0 = expertOf T0 (i 0).val (num_lt i) :=
  entry T0 _ _ _ _ _ (by
    show (BitVec.ofNat 32 (i 0).val).toNat = _
    simp only [BitVec.toNat_ofNat]; have := num_lt i; omega)

/-- The number before a block's, as the body computes it. -/
theorem prev_block : ∀ n : Fin 320, n.val ≠ 0 →
    (Scalar.maxsi (Scalar.subi (BitVec.ofNat 32 n.val) 1#32) 0#32).toNat = n.val - 1 := by decide +kernel

/-- Past the first block the last word is the block before's expert. -/
theorem lastWord_eq (h : (i 0).val ≠ 0) : lastWord i T0 = expertOf T0 ((i 0).val - 1) (by have := num_lt i; omega) :=
  entry T0 _ _ _ _ _ (prev_block ⟨(i 0).val, num_lt i⟩ h)

/-- The second condition: the block is in use. -/
theorem cond2_iff : k0_cond2 i (usedWord T1) = 1#1 ↔ InUse T1 (i 0).val := by
  unfold k0_cond2 InUse
  rw [truth, slt_iff, toInt_block _ (num_lt i), usedWord_eq]

/-- The third: it is not. -/
theorem cond3_iff : k0_cond3 i (usedWord T1) = 1#1 ↔ ¬ InUse T1 (i 0).val := by
  unfold k0_cond3 InUse
  rw [truth, MoeWords.not_iff, slt_iff, toInt_block _ (num_lt i), usedWord_eq]

/-- The first: it is in use, and is the first block or has another expert than the block before. -/
theorem takes_iff : takes i T0 T1 ↔ InUse T1 (i 0).val ∧ ((i 0).val = 0 ∨ expertWord i T0 ≠ lastWord i T0) := by
  unfold takes InUse
  rw [truth, and_iff, or_iff, slt_iff, eq_iff, ne_iff, toInt_block _ (num_lt i), usedWord_eq]
  refine and_congr_right fun _ => or_congr_left ?_
  constructor
  · intro h
    have := congrArg BitVec.toNat h
    simp only [BitVec.toNat_ofNat] at this; have := num_lt i; omega
  · intro h; rw [h]

variable (pf : pre0.Contents (Elt Ideal))

/-- The table of experts and the count, as the launch finds them. -/
def expertsOf : S320.Idx → BitVec 32 := pf 0
@[inherit_doc expertsOf] def countOf : S1.Idx → BitVec 32 := pf 1

/-- Every entry of the table of experts is an expert's number. -/
def Experts : Prop := ∀ j : S320.Idx, InRange (expertsOf pf j)

/-- The rows read at a point: its own block, or the last one in use. -/
theorem rows_eq : cc0_transform_0 inb_S1_S1_0 numel1_S1 pf i = ![(row (i 0).val (countOf pf (ix1 (0 : Fin 1)))).toNat, 0] := by
  show ![(row (i 0).val (usedWord (countOf pf))).toNat, 0] = _
  rw [usedWord_eq]

/-- The weights read at a point: its expert's, counted from the layer's start. -/
theorem weights_eq (L : Start) (hE : Experts pf) :
    weightsAt L pf i = ![L.val + (expertOf (expertsOf pf) (i 0).val (num_lt i)).toNat, 0, 0] := by
  show ![(Scalar.addi (BitVec.ofNat 32 L.val) (expertWord i (expertsOf pf))).toNat, 0, 0] = _
  rw [expertWord_eq, (hE _).weights]

/-- Every block read lies inside its array. -/
theorem ok (L : Start) (hE : Experts pf) : inside L pf := by
  have hw : ∀ i : grid0.Coords, L.val + (expertOf (expertsOf pf) (i 0).val (num_lt i)).toNat < 128 := fun i => by
    have h : (expertOf (expertsOf pf) (i 0).val (num_lt i)).toNat < 64 := (hE _).lt
    have := L.isLt
    omega
  have hwide : ∀ i : grid0.Coords, ∀ a, (weightsAt L pf i a + 1) * S1x2048x512.size a ≤ S128x2048x512.size a := fun i a => by
    rw [weights_eq i pf L hE]; have := hw i
    fin_cases a
    · show (L.val + _ + 1) * 1 ≤ 128; omega
    · show (0 + 1) * 2048 ≤ 2048; omega
    · show (0 + 1) * 512 ≤ 512; omega
  refine ⟨fun i => ⟨fun a => ?_, .inl rfl⟩, fun i => ⟨hwide i, .inl rfl⟩,
    fun i => ⟨hwide i, .inl rfl⟩, fun i => ⟨fun a => ?_, .inl rfl⟩⟩
  · rw [rows_eq]
    have := row_le (i 0).val (num_lt i) (countOf pf (ix1 (0 : Fin 1)))
    have := num_lt i
    fin_cases a
    · show ((row _ _).toNat + 1) * 512 ≤ 163840; omega
    · show (0 + 1) * 1024 ≤ 1024; omega
  · rw [weights_eq i pf L hE]; have := hw i
    fin_cases a
    · show (L.val + _ + 1) * 1 ≤ 128; omega
    · show (0 + 1) * 512 ≤ 512; omega
    · show (0 + 1) * 2048 ≤ 2048; omega

end Cert.MoeIdeal.Hand

end
-- ==== Proof.Moe.Launch.lean ====
module

public import proofs.«01_k».proof.Proof.Moe.Tables

/-! # The expert blocks: the whole run

Between two grid points the scratches hold the weights of the last block's expert, if that block was in use. So a block
in use is written with its own expert's weights, whether they were taken at this point or stay from before. -/

@[expose] public section

set_option maxRecDepth 16384

noncomputable section

namespace Cert.MoeIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)
open Cert.MoeIdeal Cert.MoeIdeal.Gen Cert.MoeWords

local notation "𝕄" => MT nD τ sig Unit (Elt Ideal) ℕ (UR sig nD τ) ℕ

variable (L : Start) (m : (ℓ : Loc nD τ sig) → Buf (Elt Ideal) ℓ) (ρ : Dev nD → PrngReg)

/-! ## The launch's tables, and its pipeline at them -/

/-- The one core. -/
abbrev core : Dev nD := ⟨0, by decide⟩

theorem core_eq (c : Dev nD) : c = core := Subsingleton.elim (α := Fin 1) _ _

/-- The tables at launch. -/
def tables : pre0.Contents (Elt Ideal) := fun k => m ((core.tc : Thread nD τ).loc (pre0.ref k))

variable (hE : Experts (tables m))

/-- The launch at them, its configuration, and a grid point's coordinates. -/
def adm : (pcfgOf (F := Ideal) L).Adm := ⟨tables m, ok (tables m) L hE⟩
@[inherit_doc adm] abbrev cfgA : Pipeline.Cfg sig Λ₀ := (pcfgOf (F := Ideal) L).at (adm L m hE)
@[inherit_doc adm] abbrev crd (t : Fin (cfgA L m hE).N) : (cfgA L m hE).grid.Coords := (cfgA L m hE).grid.coords t

theorem t_lt (t : Fin (cfgA L m hE).N) : t.val < 320 := t.isLt.trans_eq N_0

/-- The grid has one axis. -/
theorem crd_val (t : Fin (cfgA L m hE).N) : ((crd L m hE t) 0).val = t.val :=
  (Pipeline.Grid.coords_val (G := grid0) t 0 (S := 1) (B := 320) (by decide) rfl).trans (by
    have := t_lt L m hE t; rw [Nat.div_one, Nat.mod_eq_of_lt this])

/-- The buffers the pipeline passes at a grid point. -/
abbrev st0 (t : Fin (cfgA L m hE).N) : Memref sig .tc .vmem S512x1024 .i32 := spec0_0.stage ((cfgA L m hE).slots t (0 : Fin 5))
@[inherit_doc st0] abbrev st1 (t : Fin (cfgA L m hE).N) : Memref sig .tc .vmem S1x2048x512 .f32 := spec0_1.stage ((cfgA L m hE).slots t (1 : Fin 5))
@[inherit_doc st0] abbrev st2 (t : Fin (cfgA L m hE).N) : Memref sig .tc .vmem S1x2048x512 .f32 := spec0_2.stage ((cfgA L m hE).slots t (2 : Fin 5))
@[inherit_doc st0] abbrev st3 (t : Fin (cfgA L m hE).N) : Memref sig .tc .vmem S1x512x2048 .f32 := spec0_3.stage ((cfgA L m hE).slots t (3 : Fin 5))
@[inherit_doc st0] abbrev st4 (t : Fin (cfgA L m hE).N) : Memref sig .tc .vmem S512x2048 .bf16 := spec0_4.stage ((cfgA L m hE).slots t (4 : Fin 5))
theorem hst0 (t : Fin (cfgA L m hE).N) : (st0 L m hE t).IsWhole := hstage0_0 (((cfgA L m hE).slots t (0 : Fin 5)).cast nbuf0_0)
theorem hst1 (t : Fin (cfgA L m hE).N) : (st1 L m hE t).IsWhole := hstage0_1 (((cfgA L m hE).slots t (1 : Fin 5)).cast nbuf0_1)
theorem hst2 (t : Fin (cfgA L m hE).N) : (st2 L m hE t).IsWhole := hstage0_2 (((cfgA L m hE).slots t (2 : Fin 5)).cast nbuf0_2)
theorem hst3 (t : Fin (cfgA L m hE).N) : (st3 L m hE t).IsWhole := hstage0_3 (((cfgA L m hE).slots t (3 : Fin 5)).cast nbuf0_3)
theorem hst4 (t : Fin (cfgA L m hE).N) : (st4 L m hE t).IsWhole := hstage0_4 (((cfgA L m hE).slots t (4 : Fin 5)).cast nbuf0_4)

/-! ## The blocks -/

/-- The block window `w` holds at grid point `t`. -/
def iblk (c : Dev nD) (w : Fin (cfgA L m hE).W) (t : Fin (cfgA L m hE).N) :
    (((cfgA L m hE).win w).xblock (crd L m hE t)).Idx → Elt Ideal ((cfgA L m hE).win w).elt :=
  (((cfgA L m hE).win w).blk t).view.read (Elt Ideal) (m (((cfgA L m hE).win w).arr.view.loc (c : Thread nD τ)))

/-- The arguments. -/
abbrev argX (c : Dev nD) : IVec S163840x1024 32 := m ((c : Thread nD τ).loc main_arg0)
@[inherit_doc argX] abbrev argG (c : Dev nD) : FVec Ideal S128x2048x512 .f32 := m ((c : Thread nD τ).loc main_arg3)
@[inherit_doc argX] abbrev argU (c : Dev nD) : FVec Ideal S128x2048x512 .f32 := m ((c : Thread nD τ).loc main_arg4)
@[inherit_doc argX] abbrev argD (c : Dev nD) : FVec Ideal S128x512x2048 .f32 := m ((c : Thread nD τ).loc main_arg5)

/-- The place of block `n`'s expert in the weight arrays. -/
def place (n : ℕ) (h : n < 320) : Fin 128 :=
  ⟨L.val + (expertOf (expertsOf (tables m)) n h).toNat, by have h : (expertOf (expertsOf (tables m)) n h).toNat < 64 := (hE _).lt; have := L.isLt; omega⟩

/-- Expert `e`'s three weights. -/
def gateBlk (c : Dev nD) (e : Fin 128) : Vec Ideal S1x2048x512 .f32 := fun y => argG m c (ix3 e (y 1) (y 2))
@[inherit_doc gateBlk] def upBlk (c : Dev nD) (e : Fin 128) : Vec Ideal S1x2048x512 .f32 := fun y => argU m c (ix3 e (y 1) (y 2))
@[inherit_doc gateBlk] def downBlk (c : Dev nD) (e : Fin 128) : Vec Ideal S1x512x2048 .f32 := fun y => argD m c (ix3 e (y 1) (y 2))

/-- The weights a point holds are its expert's. -/
theorem place_crd (t : Fin (cfgA L m hE).N) :
    place L m hE ((crd L m hE t) 0).val (num_lt _) = place L m hE t.val (t_lt L m hE t) := by
  congr 1; exact crd_val L m hE t

theorem iblk_gate (c : Dev nD) (t : Fin (cfgA L m hE).N) : iblk L m hE c (1 : Fin 5) t = gateBlk m c (place L m hE t.val (t_lt L m hE t)) := by
  rw [← place_crd]
  funext y
  have hw := weights_eq (crd L m hE t) (tables m) L hE
  refine congrArg (argG m c) (funext fun a => Fin.ext ?_)
  show weightsAt L (tables m) (crd L m hE t) a * S1x2048x512.size a + 1 * (y a).val = _
  rw [hw]
  have h0 : (y (0 : Fin 3)).val = 0 := Nat.lt_one_iff.1 (y (0 : Fin 3)).isLt
  fin_cases a
  · show (L.val + _) * 1 + 1 * (y (0 : Fin 3)).val = L.val + _; rw [h0]; omega
  · show 0 * 2048 + 1 * (y (1 : Fin 3)).val = (y (1 : Fin 3)).val; omega
  · show 0 * 512 + 1 * (y (2 : Fin 3)).val = (y (2 : Fin 3)).val; omega

theorem iblk_up (c : Dev nD) (t : Fin (cfgA L m hE).N) : iblk L m hE c (2 : Fin 5) t = upBlk m c (place L m hE t.val (t_lt L m hE t)) := by
  rw [← place_crd]
  funext y
  have hw := weights_eq (crd L m hE t) (tables m) L hE
  refine congrArg (argU m c) (funext fun a => Fin.ext ?_)
  show weightsAt L (tables m) (crd L m hE t) a * S1x2048x512.size a + 1 * (y a).val = _
  rw [hw]
  have h0 : (y (0 : Fin 3)).val = 0 := Nat.lt_one_iff.1 (y (0 : Fin 3)).isLt
  fin_cases a
  · show (L.val + _) * 1 + 1 * (y (0 : Fin 3)).val = L.val + _; rw [h0]; omega
  · show 0 * 2048 + 1 * (y (1 : Fin 3)).val = (y (1 : Fin 3)).val; omega
  · show 0 * 512 + 1 * (y (2 : Fin 3)).val = (y (2 : Fin 3)).val; omega

theorem iblk_down (c : Dev nD) (t : Fin (cfgA L m hE).N) : iblk L m hE c (3 : Fin 5) t = downBlk m c (place L m hE t.val (t_lt L m hE t)) := by
  rw [← place_crd]
  funext y
  have hw := weights_eq (crd L m hE t) (tables m) L hE
  refine congrArg (argD m c) (funext fun a => Fin.ext ?_)
  show weightsAt L (tables m) (crd L m hE t) a * S1x512x2048.size a + 1 * (y a).val = _
  rw [hw]
  have h0 : (y (0 : Fin 3)).val = 0 := Nat.lt_one_iff.1 (y (0 : Fin 3)).isLt
  fin_cases a
  · show (L.val + _) * 1 + 1 * (y (0 : Fin 3)).val = L.val + _; rw [h0]; omega
  · show 0 * 512 + 1 * (y (1 : Fin 3)).val = (y (1 : Fin 3)).val; omega
  · show 0 * 2048 + 1 * (y (2 : Fin 3)).val = (y (2 : Fin 3)).val; omega

/-! ## The invariant and the proof data -/

/-- Block `n` is in use, by the launch's count. -/
abbrev Used (n : ℕ) : Prop := InUse (countOf (tables m)) n

/-- Before point `n` the scratches are at the last block's expert's weights, if that block was in use. -/
def Holds (c : Dev nD) (n : ℕ) (g u : Vec Ideal S2048x512 .bf16) (d : Vec Ideal S512x2048 .bf16) : Prop :=
  ∀ (k : ℕ) (h : k < 320), n = k + 1 → Used m k →
    g = k0_pay1 (gateBlk m c (place L m hE k h)) ∧ u = k0_pay2 (upBlk m c (place L m hE k h)) ∧ d = k0_pay3 (downBlk m c (place L m hE k h))

/-- The invariant before point `n`. -/
def between (c : Dev nD) (n : ℕ) : sProp 𝕄 :=
  iprop((tbE.view.loc (c : Thread nD τ) ↦{fullShare.right} expertsOf (tables m)) ∗ (tbN.view.loc (c : Thread nD τ) ↦{fullShare.right} countOf (tables m))
    ∗ (∃ r, prngReg c r) ∗ ∃ g u d, ⌜Holds L m hE c n g u d⌝ ∗ scratch c g u d)

open Classical in
/-- The block left at point `t`. -/
def left (c : Dev nD) (t : Fin (cfgA L m hE).N) : Vec Ideal S512x2048 .bf16 :=
  if Used m t.val then
    blockOut (iblk L m hE c (0 : Fin 5) t) (k0_pay1 (gateBlk m c (place L m hE t.val (t_lt L m hE t))))
      (k0_pay2 (upBlk m c (place L m hE t.val (t_lt L m hE t)))) (k0_pay3 (downBlk m c (place L m hE t.val (t_lt L m hE t))))
  else k0_pay5 (F := Ideal)

/-- The pipeline's proof data. -/
def dats (_ : Fin 1) (c : Dev nD) : Dat τ (Elt Ideal) Unit ℕ (UR sig nD τ) ℕ (cfgA L m hE) c where
  A w := m (((cfgA L m hE).win w).arr.view.loc (c : Thread nD τ))
  after w t := match w with
    | ⟨0, _⟩ => iblk L m hE c (0 : Fin 5) t
    | ⟨1, _⟩ => iblk L m hE c (1 : Fin 5) t
    | ⟨2, _⟩ => iblk L m hE c (2 : Fin 5) t
    | ⟨3, _⟩ => iblk L m hE c (3 : Fin 5) t
    | ⟨4, _⟩ => left L m hE c t
  Φ t := between L m hE c t.val
  q _ := fullShare
  owed _ := 0

theorem after_0 (c : Dev nD) (t : Fin (cfgA L m hE).N) : (dats L m hE 0 c).after (0 : Fin 5) t = iblk L m hE c (0 : Fin 5) t := rfl
theorem after_1 (c : Dev nD) (t : Fin (cfgA L m hE).N) : (dats L m hE 0 c).after (1 : Fin 5) t = iblk L m hE c (1 : Fin 5) t := rfl
theorem after_2 (c : Dev nD) (t : Fin (cfgA L m hE).N) : (dats L m hE 0 c).after (2 : Fin 5) t = iblk L m hE c (2 : Fin 5) t := rfl
theorem after_3 (c : Dev nD) (t : Fin (cfgA L m hE).N) : (dats L m hE 0 c).after (3 : Fin 5) t = iblk L m hE c (3 : Fin 5) t := rfl
theorem after_4 (c : Dev nD) (t : Fin (cfgA L m hE).N) : (dats L m hE 0 c).after (4 : Fin 5) t = left L m hE c t := rfl

theorem before_0 (c : Dev nD) (t : Fin (cfgA L m hE).N) (d) : (dats L m hE 0 c).before (0 : Fin 5) t d = iblk L m hE c (0 : Fin 5) t :=
  ((dats L m hE 0 c).before_in_eq_fetched (0 : Fin 5) rfl (fun _ => rfl) (fun _ _ _ => rfl)
    (fun t => by rw [after_0]; unfold Dat.blockOf iblk; rfl) t d).trans (by unfold Dat.fetched Dat.blockOf iblk; rfl)
theorem before_1 (c : Dev nD) (t : Fin (cfgA L m hE).N) (d) : (dats L m hE 0 c).before (1 : Fin 5) t d = iblk L m hE c (1 : Fin 5) t :=
  ((dats L m hE 0 c).before_in_eq_fetched (1 : Fin 5) rfl (fun _ => rfl) (fun _ _ _ => rfl)
    (fun t => by rw [after_1]; unfold Dat.blockOf iblk; rfl) t d).trans (by unfold Dat.fetched Dat.blockOf iblk; rfl)
theorem before_2 (c : Dev nD) (t : Fin (cfgA L m hE).N) (d) : (dats L m hE 0 c).before (2 : Fin 5) t d = iblk L m hE c (2 : Fin 5) t :=
  ((dats L m hE 0 c).before_in_eq_fetched (2 : Fin 5) rfl (fun _ => rfl) (fun _ _ _ => rfl)
    (fun t => by rw [after_2]; unfold Dat.blockOf iblk; rfl) t d).trans (by unfold Dat.fetched Dat.blockOf iblk; rfl)
theorem before_3 (c : Dev nD) (t : Fin (cfgA L m hE).N) (d) : (dats L m hE 0 c).before (3 : Fin 5) t d = iblk L m hE c (3 : Fin 5) t :=
  ((dats L m hE 0 c).before_in_eq_fetched (3 : Fin 5) rfl (fun _ => rfl) (fun _ _ _ => rfl)
    (fun t => by rw [after_3]; unfold Dat.blockOf iblk; rfl) t d).trans (by unfold Dat.fetched Dat.blockOf iblk; rfl)

/-- The output is written at every point. -/
theorem never_idle (t : Fin (cfgA L m hE).N) : (cfgA L m hE).idle (4 : Fin 5) ((cfgA L m hE).grid.coords t) = false := by
  have h : (tables m).atD 1 ![0] = usedWord (countOf (tables m)) := by
    unfold Pipeline.Prefetch.Contents.atD; rfl
  show (!(k0_cond2 (crd L m hE t) ((tables m).atD 1 ![0]) == 1#1) && !(k0_cond3 (crd L m hE t) ((tables m).atD 1 ![0]) == 1#1)) = false
  rw [h]
  by_cases hu : InUse (countOf (tables m)) ((crd L m hE t) 0).val
  · rw [(cond2_iff _ _).2 hu]; rfl
  · rw [(cond3_iff _ _).2 hu]; simp

/-! ## The body obligation -/

theorem scratch_eq (c : Dev nD) (g u : Vec Ideal S2048x512 .bf16) (d : Vec Ideal S512x2048 .bf16) :
    scratch c g u d = iprop(owns (c : Thread nD τ) scG fullShare g ∗ owns (c : Thread nD τ) scU fullShare u ∗ owns (c : Thread nD τ) scD fullShare d) := by
  unfold scratch; simp only [owns_eq_rep]

/-- After any point in use the scratches are at its expert's weights. -/
theorem holds_succ (c : Dev nD) (t : Fin (cfgA L m hE).N) {g u : Vec Ideal S2048x512 .bf16} {d : Vec Ideal S512x2048 .bf16}
    (h : Used m t.val → g = k0_pay1 (gateBlk m c (place L m hE t.val (t_lt L m hE t)))
      ∧ u = k0_pay2 (upBlk m c (place L m hE t.val (t_lt L m hE t))) ∧ d = k0_pay3 (downBlk m c (place L m hE t.val (t_lt L m hE t)))) :
    Holds L m hE c (t.val + 1) g u d := by
  intro k hk e hu
  obtain rfl : t.val = k := Nat.succ.inj e
  exact h hu

/-- A point in use that takes no weights finds its expert's weights in the scratches. -/
theorem holds_keep (c : Dev nD) (t : Fin (cfgA L m hE).N) (hu : Used m t.val)
    (ht : ¬ takes (crd L m hE t) (expertsOf (tables m)) (countOf (tables m))) {g u : Vec Ideal S2048x512 .bf16} {d : Vec Ideal S512x2048 .bf16}
    (h : Holds L m hE c t.val g u d) :
    g = k0_pay1 (gateBlk m c (place L m hE t.val (t_lt L m hE t)))
      ∧ u = k0_pay2 (upBlk m c (place L m hE t.val (t_lt L m hE t))) ∧ d = k0_pay3 (downBlk m c (place L m hE t.val (t_lt L m hE t))) := by
  have hv := crd_val L m hE t
  rw [takes_iff, not_and, not_or, not_not, hv] at ht
  obtain ⟨h0, hw⟩ := ht hu
  have h0' : ((crd L m hE t) 0).val ≠ 0 := by rw [hv]; exact h0
  rw [expertWord_eq, lastWord_eq _ _ h0'] at hw
  have hlt := t_lt L m hE t
  have hp : place L m hE (t.val - 1) (by omega) = place L m hE t.val (t_lt L m hE t) := by
    refine Fin.ext ?_
    have e1 : expertOf (expertsOf (tables m)) ((crd L m hE t) 0).val (num_lt _) = expertOf (expertsOf (tables m)) t.val hlt := by congr 1
    have e2 : expertOf (expertsOf (tables m)) (((crd L m hE t) 0).val - 1) (by omega) = expertOf (expertsOf (tables m)) (t.val - 1) (by omega) := by
      congr 1; omega
    show L.val + _ = L.val + _
    rw [← e2, ← hw, e1]
  have hl : Used m (t.val - 1) := by
    have h1 : (t.val : ℤ) < (countOf (tables m) (ix1 (0 : Fin 1))).toInt := hu
    show ((t.val - 1 : ℕ) : ℤ) < (countOf (tables m) (ix1 (0 : Fin 1))).toInt
    omega
  have := h (t.val - 1) (by omega) (by omega) hl
  rwa [hp] at this

/-- The body at point `t`, as the pipeline calls it. -/
abbrev bodyAt (t : Fin (cfgA L m hE).N) : Prog (TpuEff nD τ sig (Elt Ideal) Λ₀ .tc) PUnit :=
  theBody (crd L m hE t) (st0 L m hE t) (hst0 L m hE t) (st1 L m hE t) (hst1 L m hE t) (st2 L m hE t) (hst2 L m hE t) (st3 L m hE t) (hst3 L m hE t)
    (st4 L m hE t) (hst4 L m hE t)

/-- The buffers at point `t`: the four inputs at their blocks and the output at `o`. -/
def buffers (c : Dev nD) (t : Fin (cfgA L m hE).N) (o : Vec Ideal S512x2048 .bf16) : sProp 𝕄 :=
  iprop(owns (c : Thread nD τ) (st0 L m hE t) fullShare (iblk L m hE c (0 : Fin 5) t) ∗ owns (c : Thread nD τ) (st1 L m hE t) fullShare (iblk L m hE c (1 : Fin 5) t)
    ∗ owns (c : Thread nD τ) (st2 L m hE t) fullShare (iblk L m hE c (2 : Fin 5) t) ∗ owns (c : Thread nD τ) (st3 L m hE t) fullShare (iblk L m hE c (3 : Fin 5) t)
    ∗ owns (c : Thread nD τ) (st4 L m hE t) fullShare o)

/-- The body's triple at point `t` from the one case that applies, given as `h`; `R` is left alone. -/
theorem body_of (R : sProp 𝕄) (c : Dev nD) (t : Fin (cfgA L m hE).N) (o o' : Vec Ideal S512x2048 .bf16) (g u g' u' : Vec Ideal S2048x512 .bf16) (d d' : Vec Ideal S512x2048 .bf16)
    (h : ∀ Q : PUnit → sProp 𝕄, iprop(readOnly c (st0 L m hE t) (st1 L m hE t) (st2 L m hE t) (st3 L m hE t) (expertsOf (tables m)) (countOf (tables m))
          (iblk L m hE c (0 : Fin 5) t) (iblk L m hE c (1 : Fin 5) t) (iblk L m hE c (2 : Fin 5) t) (iblk L m hE c (3 : Fin 5) t)
        ∗ output c (st4 L m hE t) o ∗ scratch c g u d
        ∗ (iprop(readOnly c (st0 L m hE t) (st1 L m hE t) (st2 L m hE t) (st3 L m hE t) (expertsOf (tables m)) (countOf (tables m))
          (iblk L m hE c (0 : Fin 5) t) (iblk L m hE c (1 : Fin 5) t) (iblk L m hE c (2 : Fin 5) t) (iblk L m hE c (3 : Fin 5) t)
          ∗ output c (st4 L m hE t) o' ∗ scratch c g' u' d') -∗ Q ⟨⟩))
      ⊢ wp frame (wpE (defs₀ (F := Ideal)) Variants.none c none) Set.univ (bodyAt L m hE t) Q)
    (hh : Holds L m hE c (t.val + 1) g' u' d') :
    iprop((tbE.view.loc (c : Thread nD τ) ↦{fullShare.right} expertsOf (tables m)) ∗ (tbN.view.loc (c : Thread nD τ) ↦{fullShare.right} countOf (tables m))
        ∗ (∃ r, prngReg c r) ∗ scratch c g u d ∗ buffers L m hE c t o ∗ R)
      ⊢ wp frame (wpE (defs₀ (F := Ideal)) Variants.none c none) Set.univ (bodyAt L m hE t) fun _ =>
        iprop(between L m hE c (t.val + 1) ∗ buffers L m hE c t o' ∗ R) := by
  unfold buffers between
  iintro ⟨HT0, HT1, Hg, HS, ⟨H0, H1, H2, H3, H4⟩, HR⟩
  iapply h
  unfold readOnly output
  isplitl [HT0 HT1 H0 H1 H2 H3]
  · isplitl [H0]; · iapply rep_of_owns; iexact H0
    isplitl [H1]; · iapply rep_of_owns; iexact H1
    isplitl [H2]; · iapply rep_of_owns; iexact H2
    isplitl [H3]; · iapply rep_of_owns; iexact H3
    isplitl [HT0] <;> iassumption
  isplitl [H4]; · iapply rep_of_owns; iexact H4
  isplitl [HS]; · iexact HS
  iintro ⟨⟨H0, H1, H2, H3, HT0, HT1⟩, H4, HS⟩
  isplitl [HT0 HT1 Hg HS]
  · isplitl [HT0]; · iexact HT0
    isplitl [HT1]; · iexact HT1
    isplitl [Hg]; · iexact Hg
    iexists g', u', d'
    isplitr; · ipureintro; exact hh
    iexact HS
  isplitr [HR]; swap; · iexact HR
  isplitl [H0]; · iapply owns_of_rep; iexact H0
  isplitl [H1]; · iapply owns_of_rep; iexact H1
  isplitl [H2]; · iapply owns_of_rep; iexact H2
  isplitl [H3]; · iapply owns_of_rep; iexact H3
  iapply owns_of_rep; iexact H4

/-- The body at point `t`, whatever the case. -/
theorem body_any (R : sProp 𝕄) (c : Dev nD) (t : Fin (cfgA L m hE).N) (o : Vec Ideal S512x2048 .bf16) :
    iprop(between L m hE c t.val ∗ buffers L m hE c t o ∗ R)
      ⊢ wp frame (wpE (defs₀ (F := Ideal)) Variants.none c none) Set.univ (bodyAt L m hE t) fun _ =>
        iprop(between L m hE c (t.val + 1) ∗ buffers L m hE c t (left L m hE c t) ∗ R) := by
  rw [show between L m hE c t.val = _ from rfl]
  unfold between
  iintro ⟨⟨HT0, HT1, Hg, %g, %u, %d, %hh, HS⟩, HB, HR⟩
  by_cases hu : Used m t.val
  · have hu' : InUse (countOf (tables m)) ((crd L m hE t) 0).val := by rw [crd_val]; exact hu
    have h2 := (cond2_iff (countOf (tables m)) (crd L m hE t)).2 hu'
    have h3 : ¬ (k0_cond3 (crd L m hE t) (usedWord (countOf (tables m))) = 1#1) := fun h => (cond3_iff _ _).1 h hu'
    by_cases ht : takes (crd L m hE t) (expertsOf (tables m)) (countOf (tables m))
    · have hl : left L m hE c t = blockOut (iblk L m hE c (0 : Fin 5) t) (k0_pay1 (iblk L m hE c (1 : Fin 5) t)) (k0_pay2 (iblk L m hE c (2 : Fin 5) t))
          (k0_pay3 (iblk L m hE c (3 : Fin 5) t)) := by
        unfold left; rw [if_pos hu, iblk_gate, iblk_up, iblk_down]
      rw [hl]
      iapply (body_of L m hE R c t o _ g u _ _ d _ (fun Q => body_take c (crd L m hE t) (st0 L m hE t) (hst0 L m hE t) (st1 L m hE t) (hst1 L m hE t) (st2 L m hE t) (hst2 L m hE t)
        (st3 L m hE t) (hst3 L m hE t) (st4 L m hE t) (hst4 L m hE t) _ _ _ _ _ _ ht h2 h3 g u d o Q)
        (holds_succ L m hE c t fun _ => by rw [iblk_gate, iblk_up, iblk_down]; exact ⟨rfl, rfl, rfl⟩))
      iframe
    · obtain ⟨rfl, rfl, rfl⟩ := holds_keep L m hE c t hu ht hh
      have hl : left L m hE c t = blockOut (iblk L m hE c (0 : Fin 5) t) (k0_pay1 (gateBlk m c (place L m hE t.val (t_lt L m hE t))))
          (k0_pay2 (upBlk m c (place L m hE t.val (t_lt L m hE t)))) (k0_pay3 (downBlk m c (place L m hE t.val (t_lt L m hE t)))) := by
        unfold left; rw [if_pos hu]
      rw [hl]
      iapply (body_of L m hE R c t o _ _ _ _ _ _ _ (fun Q => body_keep c (crd L m hE t) (st0 L m hE t) (hst0 L m hE t) (st1 L m hE t) (hst1 L m hE t) (st2 L m hE t) (hst2 L m hE t)
        (st3 L m hE t) (hst3 L m hE t) (st4 L m hE t) (hst4 L m hE t) _ _ _ _ _ _ ht h2 h3 _ _ _ o Q)
        (holds_succ L m hE c t fun _ => ⟨rfl, rfl, rfl⟩))
      iframe
  · have hu' : ¬ InUse (countOf (tables m)) ((crd L m hE t) 0).val := by rw [crd_val]; exact hu
    have h3 := (cond3_iff (countOf (tables m)) (crd L m hE t)).2 hu'
    have h2 : ¬ (k0_cond2 (crd L m hE t) (usedWord (countOf (tables m))) = 1#1) := fun h => hu' ((cond2_iff _ _).1 h)
    have ht : ¬ takes (crd L m hE t) (expertsOf (tables m)) (countOf (tables m)) := fun h => hu' ((takes_iff _ _ _).1 h).1
    have hl : left L m hE c t = k0_pay5 (F := Ideal) := by unfold left; rw [if_neg hu]
    rw [hl]
    iapply (body_of L m hE R c t o _ _ _ _ _ _ _ (fun Q => body_zero c (crd L m hE t) (st0 L m hE t) (hst0 L m hE t) (st1 L m hE t) (hst1 L m hE t) (st2 L m hE t) (hst2 L m hE t)
      (st3 L m hE t) (hst3 L m hE t) (st4 L m hE t) (hst4 L m hE t) _ _ _ _ _ _ ht h2 h3 g u d o Q)
      (holds_succ L m hE c t fun h => absurd h hu))
    iframe

set_option maxHeartbeats 1000000 in
/-- The body does at every point what the proof data say. -/
theorem body_obligation (c : Dev nD) : BodyObligation (dats L m hE 0 c) (defs₀ (F := Ideal)) Variants.none () Set.univ := fun t => by
  rw [bigSep_W0, bigSep_W0]
  rewrite [never_idle L m hE t]
  simp only [before_0, before_1, before_2, before_3, after_0, after_1, after_2, after_3, after_4]
  rewrite [show (dats L m hE 0 c).Φ t.succ = between L m hE c (t.val + 1) from rfl, show (dats L m hE 0 c).Φ t.castSucc = between L m hE c t.val from rfl,
    show (dats L m hE 0 c).owesAt () t.succ = (dats L m hE 0 c).owesAt () t.castSucc from rfl]
  iintro ⟨HΦ, Ho, ⟨%d0, H0⟩, ⟨%d1, H1⟩, ⟨%d2, H2⟩, ⟨%d3, H3⟩, ⟨%d4, H4⟩⟩
  have h := body_any L m hE ((dats L m hE 0 c).owesAt () t.castSucc) c t ((dats L m hE 0 c).before (4 : Fin 5) t d4)
  unfold buffers at h
  iapply (h.trans (wp_mono _ _ _ (fun _ => ?hp)))
  case hp =>
    iintro ⟨HΦ, ⟨H0, H1, H2, H3, H4⟩, Ho⟩
    isplitl [HΦ]; · iexact HΦ
    isplitl [Ho]; · iexact Ho
    isplitl [H0]; · iexact H0
    isplitl [H1]; · iexact H1
    isplitl [H2]; · iexact H2
    isplitl [H3]; · iexact H3
    iexact H4
  isplitl [HΦ]; · iexact HΦ
  isplitr [Ho]; swap; · iexact Ho
  isplitl [H0]; · iexact H0
  isplitl [H1]; · iexact H1
  isplitl [H2]; · iexact H2
  isplitl [H3]; · iexact H3
  iexact H4

/-! ## The run -/

theorem share_full (c : Dev nD) (w : Fin (cfgA L m hE).W) : (dats L m hE 0 c).share w = fullShare := by
  unfold Dat.share; split <;> rfl

/-- The body's halves of the two tables. -/
theorem heldTables (c : Dev nD) (v : pre0.Contents (Elt Ideal)) :
    (Pipeline.ΦT pre0 v c : sProp 𝕄) = iprop((tbE.view.loc (c : Thread nD τ) ↦{fullShare.right} expertsOf v) ∗ (tbN.view.loc (c : Thread nD τ) ↦{fullShare.right} countOf v)) := by
  unfold Pipeline.ΦT Pipeline.prefHeld
  rw [show (Finset.univ : Finset (Fin 2)) = insert (0 : Fin 2) {(1 : Fin 2)} from by decide, bigSep_insert (by decide), bigSep_singleton]
  rfl

/-- The scratches at anything, and the generator's register. -/
theorem anyScratch_eq (c : Dev nD) : (Pipeline.ΦA spec0 c : sProp 𝕄)
    = iprop(((∃ g, owns (c : Thread nD τ) scG fullShare g) ∗ (∃ u, owns (c : Thread nD τ) scU fullShare u) ∗ (∃ d, owns (c : Thread nD τ) scD fullShare d))
      ∗ (∃ r, prngReg c r)) := by
  unfold Pipeline.ΦA; rw [scopedRest0_eq]; simp only [owns_whole]; try rfl

theorem between_zero (c : Dev nD) : iprop(Pipeline.ΦA spec0 c ∗ Pipeline.ΦT pre0 (tables m) c) ⊢ between L m hE c 0 := by
  rw [heldTables, anyScratch_eq]; unfold between
  simp only [scratch_eq]
  iintro ⟨⟨⟨⟨%g, HG⟩, ⟨%u, HU⟩, ⟨%d, HD⟩⟩, Hg⟩, HT0, HT1⟩
  isplitl [HT0]; · iexact HT0
  isplitl [HT1]; · iexact HT1
  isplitl [Hg]; · iexact Hg
  iexists g, u, d
  isplitr
  · ipureintro; intro k hk e; exact absurd e (by omega)
  iframe

theorem between_any (c : Dev nD) (n : ℕ) : between L m hE c n ⊢ (Pipeline.ΦA spec0 c : sProp 𝕄) := by
  rw [anyScratch_eq]; unfold between
  simp only [scratch_eq]
  iintro ⟨-, -, Hg, %g, %u, %d, -, HG, HU, HD⟩
  isplitr [Hg]; swap; · iexact Hg
  isplitl [HG]; · iexists g; iexact HG
  isplitl [HU]; · iexists u; iexact HU
  iexists d; iexact HD

set_option backward.isDefEq.respectTransparency.types false in
set_option maxHeartbeats 800000 in
/-- The run ends with every array as the pipeline leaves it, all else as it was, and the counters at zero. -/
theorem run_main : θ_run (defsOf L) (onTc (τ := τ) (mainOf (F := Ideal) L)) ⟨m, fun _ => 0, ρ⟩ fun r =>
    Pipeline.FramePost (Pipeline.pin (pcfgsOf (F := Ideal) L) fun _ => adm L m hE) (dats L m hE) 0 (fun c b => m ((c.tc : Thread nD τ).loc b)) r
      ∧ r.2.sem = fun _ => 0 :=
  Pipeline.θ_run_frameP_track (Q' := _) (pcfgsOf (F := Ideal) L) (fun _ => adm L m hE) (dats L m hE) (0 : Fin 1) (launchOf L) defs₀ Variants.none m ρ (mainOf L)
    (hbody := fun c => (body_obligation L m hE c).loose) (hshare := share_full L m hE) (howed := fun _ _ => rfl)
    (V := fun c b => m ((c.tc : Thread nD τ).loc b))
    (hmain := Pipeline.hmainP_region _ 0 defs₀ Variants.none m (mainOf L) (fun c => rfl))
    (hA := fun _ _ => rfl) (hpf := fun c k => by rw [core_eq c]; rfl)
    (hin := fun c => between_zero L m hE c) (hout := fun c => between_any L m hE c _)

/-- The tables are no window's array. -/
theorem experts_rest : main_arg1 ∈ Pipeline.restRefs sig spec0 := Pipeline.mem_restRefs_of main_arg1 rfl (by decide)
theorem count_rest : main_arg2 ∈ Pipeline.restRefs sig spec0 := Pipeline.mem_restRefs_of main_arg2 rfl (by decide)

include hE in
/-- The frame: every run ends, with the arguments unchanged and the counters at zero. -/
theorem frame : θ_run (defsOf L) (onTc (τ := τ) (mainOf (F := Ideal) L)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run (defsOf L) _ _).mono (fun r h => ⟨fun c => by
    obtain ⟨hw, hr⟩ := h.1 c
    exact ⟨(hw (0 : Fin 5)).trans ((dats L m hE 0 c).arrAt_in (0 : Fin 5) rfl _),
      hr main_arg1 experts_rest, hr main_arg2 count_rest,
      (hw (1 : Fin 5)).trans ((dats L m hE 0 c).arrAt_in (1 : Fin 5) rfl _), (hw (2 : Fin 5)).trans ((dats L m hE 0 c).arrAt_in (2 : Fin 5) rfl _),
      (hw (3 : Fin 5)).trans ((dats L m hE 0 c).arrAt_in (3 : Fin 5) rfl _)⟩, h.2⟩) (run_main L m ρ hE)

end Cert.MoeIdeal.Hand

end
-- ==== Proof.Packed.Halves.lean ====
module

public import Idealize.ShloMosaic.PureOps.Ideal
public import Idealize.ShloMosaic.Lib.Tactic

/-! # Rows kept two numbers to a word

An expert's row of 2048 numbers comes as 1024 words: the low halves are its first 1024 numbers, the high halves its
last. The experts' calls and the combination both read their rows so. -/

@[expose] public section

noncomputable section

open Idealize.ShloMosaic

namespace Packed

/-- The number that column `j` of a row has in its word: the low half in the first 1024 columns, else the high half. -/
def half (w : BitVec 32) (j : Fin 2048) : EReal :=
  Ideal.ofBits .f32 (if j.val < 1024 then IntOp.shli .vector w 16#32 else IntOp.andi w 4294901760#32)

/-- Which word of a row holds column `j`. -/
def col (j : Fin 2048) : Fin 1024 := ⟨j.val % 1024, Nat.mod_lt _ (by decide)⟩

theorem half_low (w : BitVec 32) (j : Fin 1024) :
    half w ⟨j.val, by omega⟩ = Ideal.ofBits .f32 (IntOp.shli .vector w 16#32) := by
  unfold half; rw [if_pos j.isLt]

theorem half_high (w : BitVec 32) (j : Fin 1024) :
    half w ⟨1024 + j.val, by omega⟩ = Ideal.ofBits .f32 (IntOp.andi w 4294901760#32) := by
  unfold half; rw [if_neg (Nat.not_lt.2 (Nat.le_add_right _ _))]

theorem col_low (j : Fin 1024) : col ⟨j.val, by omega⟩ = j := Fin.ext (Nat.mod_eq_of_lt j.isLt)

theorem col_high (j : Fin 1024) : col ⟨1024 + j.val, by omega⟩ = j :=
  Fin.ext ((Nat.add_mod_left _ _).trans (Nat.mod_eq_of_lt j.isLt))

/-- A column is one of the first 1024 or one of the last. -/
theorem col_cases (j : Fin 2048) :
    (∃ l : Fin 1024, j = ⟨l.val, by omega⟩) ∨ ∃ l : Fin 1024, j = ⟨1024 + l.val, by omega⟩ := by
  rcases Nat.lt_or_ge j.val 1024 with h | h
  · exact .inl ⟨⟨j.val, h⟩, rfl⟩
  · exact .inr ⟨⟨j.val - 1024, by omega⟩, Fin.ext (by simp; omega)⟩

end Packed

end
-- ==== Proof.Moe.Value.lean ====
module

public import proofs.«01_k».proof.Proof.Moe.Launch
public import Idealize.ShloMosaic.Lib.Pipeline.Covers
public import proofs.«01_k».proof.Proof.Packed.Halves

/-! # The expert blocks: what the run leaves

A row comes as 1024 words, whose halves are its 2048 numbers. Every block in use is its expert's gated product of its rows: the gate's product times its own logistic, times the
second product, all of it times the third weights. The blocks past the last in use are zero. -/

@[expose] public section

set_option maxRecDepth 16384

noncomputable section

open Idealize.ShloMosaic Idealize.ShloMosaic.TcCoe Idealize.SL.Sem

namespace Moe

open Cert.MoeIdeal

/-- The place in the weight arrays of expert `e` of the layer whose experts start at `L`. -/
def place (L : ℕ) (e : BitVec 32) : Fin 128 := ⟨(L + e.toNat) % 128, Nat.mod_lt _ (by decide)⟩

/-- The rows' numbers, out of their words. -/
def rows (X : IVec S163840x1024 32) : FVec Ideal S163840x2048 .bf16 := fun i => Packed.half (X (ix2 (i 0) (Packed.col (i 1)))) (i 1)

/-- Row `r` times column `f` of expert `p`'s weights. -/
def lane (X : FVec Ideal S163840x2048 .bf16) (W : FVec Ideal S128x2048x512 .f32) (p : Fin 128) (r : Fin 163840) (f : Fin 512) : EReal :=
  ∑ k : Fin 2048, X (ix2 r k) * W (ix3 p k f)

/-- Hidden entry `f` of row `r` under expert `p`. -/
def hidden (X : FVec Ideal S163840x2048 .bf16) (G U : FVec Ideal S128x2048x512 .f32) (p : Fin 128) (r : Fin 163840) (f : Fin 512) : EReal :=
  lane X G p r f * Ideal.logistic (lane X G p r f) * lane X U p r f

/-- The block row `r` lies in. -/
def blockOf (r : Fin 163840) : Fin 320 := ⟨r.val / 512, by omega⟩

open Classical in
/-- Entry `(r, j)` of the result: row `r` through its block's expert, or zero past the blocks in use. -/
def out (L : ℕ) (X : FVec Ideal S163840x2048 .bf16) (E : S320.Idx → BitVec 32) (N : S1.Idx → BitVec 32) (G U : FVec Ideal S128x2048x512 .f32)
    (D : FVec Ideal S128x512x2048 .f32) : FVec Ideal S163840x2048 .bf16 := fun i =>
  if ((blockOf (i 0)).val : ℤ) < (N (ix1 (0 : Fin 1))).toInt then
    ∑ f : Fin 512, hidden X G U (place L (E (ix1 (blockOf (i 0))))) (i 0) f * D (ix3 (place L (E (ix1 (blockOf (i 0))))) f (i 1))
  else 0

/-- The same with the row's block named. -/
theorem out_apply (L : ℕ) (X : FVec Ideal S163840x2048 .bf16) (E : S320.Idx → BitVec 32) (N : S1.Idx → BitVec 32) (G U : FVec Ideal S128x2048x512 .f32)
    (D : FVec Ideal S128x512x2048 .f32) (r : Fin 163840) (j : Fin 2048) (n : Fin 320) (h : blockOf r = n) [Decidable ((n.val : ℤ) < (N (ix1 (0 : Fin 1))).toInt)] :
    out L X E N G U D (ix2 r j) = if (n.val : ℤ) < (N (ix1 (0 : Fin 1))).toInt then
      ∑ f : Fin 512, hidden X G U (place L (E (ix1 n))) r f * D (ix3 (place L (E (ix1 n))) f j) else 0 := by
  subst h
  exact ite_congr rfl (fun _ => rfl) fun _ => rfl

end Moe

namespace Cert.MoeIdeal.Hand

open Cert.MoeIdeal Cert.MoeIdeal.Gen

/-! ## One block -/

/-- The weights as the scratches take them. -/
theorem pay1_apply (w : Vec Ideal S1x2048x512 .f32) (k : Fin 2048) (f : Fin 512) : k0_pay1 w (ix2 k f) = w (ix3 (0 : Fin 1) k f) := by
  pointwise [k0_pay1]
@[inherit_doc pay1_apply] theorem pay2_apply (w : Vec Ideal S1x2048x512 .f32) (k : Fin 2048) (f : Fin 512) : k0_pay2 w (ix2 k f) = w (ix3 (0 : Fin 1) k f) := by
  pointwise [k0_pay2]
@[inherit_doc pay1_apply] theorem pay3_apply (w : Vec Ideal S1x512x2048 .f32) (k : Fin 512) (f : Fin 2048) : k0_pay3 w (ix2 k f) = w (ix3 (0 : Fin 1) k f) := by
  pointwise [k0_pay3]

/-- A block past the last in use is zero. -/
theorem pay5_apply (r : Fin 512) (j : Fin 2048) : k0_pay5 (F := Ideal) (ix2 r j) = 0 := by
  pointwise [k0_pay5]

/-- Half of the weights' rows. -/
theorem window_weights (w : Vec Ideal S2048x512 .bf16) (o : ℕ) (inb) (k : Fin 1024) (f : Fin 512) (h : o + k.val < 2048) :
    VecWindow.window w ![o, 0] S1024x512.size inb (ix2 k f) = w (ix2 ⟨o + k.val, h⟩ f) := by
  refine congrArg w (funext fun a => Fin.ext ?_)
  fin_cases a
  · show o + 1 * k.val = o + k.val; omega
  · show 0 + 1 * f.val = f.val; omega

/-- The two halves of the columns, each read from its half of the words, add up to the whole product. -/
theorem halves (x : Vec Ideal S512x1024 .i32) (w : Vec Ideal S2048x512 .bf16) (r : Fin 512) (f : Fin 512) :
    (∑ k : Fin 1024, Ideal.ofBits .f32 (IntOp.shli .vector (x (ix2 r k)) 16#32)
        * VecWindow.window w ![0, 0] S1024x512.size inb_S2048x512_S1024x512_0_0 (ix2 k f) : EReal)
      + ∑ k : Fin 1024, Ideal.ofBits .f32 (IntOp.andi (x (ix2 r k)) 4294901760#32)
        * VecWindow.window w ![1024, 0] S1024x512.size inb_S2048x512_S1024x512_1024_0 (ix2 k f)
      = ∑ k : Fin 2048, Packed.half (x (ix2 r (Packed.col k))) k * w (ix2 k f) := by
  refine .trans ?_ (Fin.sum_univ_add (a := 1024) fun k : Fin (1024 + 1024) => (Packed.half (x (ix2 r (Packed.col k))) k * w (ix2 k f) : EReal)).symm
  refine congrArg₂ (· + ·) (Finset.sum_congr rfl fun k _ => ?_) (Finset.sum_congr rfl fun k _ => ?_)
  · rw [window_weights w 0 _ k f (by omega)]
    have e : (⟨0 + k.val, by omega⟩ : Fin 2048) = Fin.castAdd 1024 k := Fin.ext (Nat.zero_add _)
    have h := Packed.half_low (x (ix2 r k)) k
    rw [e, ← h]
    exact congrArg (fun c => Packed.half (x (ix2 r c)) (Fin.castAdd 1024 k) * w (ix2 (Fin.castAdd 1024 k) f)) (Packed.col_low k).symm
  · rw [window_weights w 1024 _ k f (by omega), ← Packed.half_high (x (ix2 r k)) k]
    exact congrArg (fun c => Packed.half (x (ix2 r c)) (Fin.natAdd 1024 k) * w (ix2 (Fin.natAdd 1024 k) f)) (Packed.col_high k).symm

/-- One entry of the stored product, from the two halves of the words. -/
theorem pay4_apply (x : Vec Ideal S512x1024 .i32) (g0 g1 u0 u1 : Vec Ideal S1024x512 .bf16) (d : Vec Ideal S512x2048 .bf16)
    (r : Fin 512) (j : Fin 2048) : k0_pay4 x g0 g1 u0 u1 d (ix2 r j) = ∑ f : Fin 512,
      ((∑ k : Fin 1024, Ideal.ofBits .f32 (IntOp.shli .vector (x (ix2 r k)) 16#32) * g0 (ix2 k f) : EReal) + ∑ k : Fin 1024, Ideal.ofBits .f32 (IntOp.andi (x (ix2 r k)) 4294901760#32) * g1 (ix2 k f))
      * Ideal.logistic ((∑ k : Fin 1024, Ideal.ofBits .f32 (IntOp.shli .vector (x (ix2 r k)) 16#32) * g0 (ix2 k f) : EReal) + ∑ k : Fin 1024, Ideal.ofBits .f32 (IntOp.andi (x (ix2 r k)) 4294901760#32) * g1 (ix2 k f))
      * ((∑ k : Fin 1024, Ideal.ofBits .f32 (IntOp.shli .vector (x (ix2 r k)) 16#32) * u0 (ix2 k f) : EReal) + ∑ k : Fin 1024, Ideal.ofBits .f32 (IntOp.andi (x (ix2 r k)) 4294901760#32) * u1 (ix2 k f)) * d (ix2 f j) := by
  pointwise [k0_pay4]

/-- One entry of a block in use. -/
theorem blockOut_apply (x : Vec Ideal S512x1024 .i32) (g u : Vec Ideal S2048x512 .bf16) (d : Vec Ideal S512x2048 .bf16) (r : Fin 512) (j : Fin 2048) :
    blockOut x g u d (ix2 r j) = ∑ f : Fin 512, (∑ k : Fin 2048, Packed.half (x (ix2 r (Packed.col k))) k * g (ix2 k f) : EReal)
      * Ideal.logistic (∑ k : Fin 2048, Packed.half (x (ix2 r (Packed.col k))) k * g (ix2 k f))
      * (∑ k : Fin 2048, Packed.half (x (ix2 r (Packed.col k))) k * u (ix2 k f)) * d (ix2 f j) := by
  unfold blockOut
  rw [pay4_apply]
  refine Finset.sum_congr rfl fun f _ => ?_
  have hg := halves x g r f
  exact congrArg (· * d (ix2 f j)) (congrArg₂ (· * ·) (congrArg₂ (· * ·) hg (congrArg Ideal.logistic hg)) (halves x u r f))

/-! ## The array -/

variable (L : Start) (m : (ℓ : Loc nD τ sig) → Buf (Elt Ideal) ℓ) (hE : Experts (tables m))

theorem place_eq (n : ℕ) (h : n < 320) : place L m hE n h = Moe.place L.val (expertOf (expertsOf (tables m)) n h) :=
  Fin.ext (Nat.mod_eq_of_lt (place L m hE n h).isLt).symm

/-- The rows a block in use reads are its own. -/
theorem iblk_rows (c : Dev nD) (t : Fin (cfgA L m hE).N) (hu : Used m t.val) (r : Fin 512) (k : Fin 1024) :
    iblk L m hE c (0 : Fin 5) t (ix2 r k) = argX m c (ix2 ⟨512 * t.val + r.val, by have := t_lt L m hE t; omega⟩ k) := by
  refine congrArg (argX m c) (funext fun a => Fin.ext ?_)
  show (cc0_transform_0 inb_S1_S1_0 numel1_S1 (tables m) (crd L m hE t)) a * S512x1024.size a + 1 * ((ix2 r k : S512x1024.Idx) a).val = _
  have hu' : (((crd L m hE t) 0).val : ℤ) < (countOf (tables m) (ix1 (0 : Fin 1))).toInt := by rw [crd_val]; exact hu
  rw [rows_eq, Cert.MoeWords.row_eq _ (num_lt _) _ hu', crd_val]
  fin_cases a
  · show t.val * 512 + 1 * r.val = 512 * t.val + r.val; omega
  · show 0 * 1024 + 1 * k.val = k.val; omega

/-- The result, from the arguments as they are at launch. -/
abbrev result (c : Dev nD) : FVec Ideal S163840x2048 .bf16 :=
  Moe.out L.val (Moe.rows (argX m c)) (expertsOf (tables m)) (countOf (tables m)) (argG m c) (argU m c) (argD m c)

/-- The block left at point `t` is that block of the result. -/
theorem point (c : Dev nD) (t : Fin (cfgA L m hE).N) (r : Fin 512) (j : Fin 2048) :
    left L m hE c t (ix2 r j) = result L m c (ix2 ⟨512 * t.val + r.val, by have := t_lt L m hE t; omega⟩ j) := by
  have hb : Moe.blockOf ⟨512 * t.val + r.val, by have := t_lt L m hE t; omega⟩ = ⟨t.val, t_lt L m hE t⟩ := Fin.ext (by
    show (512 * t.val + r.val) / 512 = t.val; omega)
  rw [show result L m c _ = _ from Moe.out_apply _ _ _ _ _ _ _ _ _ _ hb]
  unfold left
  by_cases hu : Used m t.val
  · rw [if_pos hu, if_pos (show ((t.val : ℕ) : ℤ) < _ from hu), blockOut_apply]
    refine Finset.sum_congr rfl fun f _ => ?_
    simp only [iblk_rows L m hE c t hu, pay1_apply, pay2_apply, pay3_apply, place_eq]
    rfl
  · rw [if_neg hu, if_neg (show ¬ ((t.val : ℕ) : ℤ) < _ from hu), pay5_apply]

/-- The grid has 320 points along its one axis. -/
theorem bound_eq (x : Fin 1) : grid0.bound x = 320 := by obtain rfl : x = 0 := Subsingleton.elim _ _; rfl

/-- Every block of the result is written. -/
theorem covers : ((cfgA L m hE).win (4 : Fin 5)).Covers := by
  refine Pipeline.Window.covers_of_indexMap_surj _ rfl (by decide +kernel : ∀ a : Fin 2, 0 < S512x2048.size a) fun β =>
    ⟨fun _ => ⟨(β (0 : Fin 2)).val, ?_⟩, fun a => ?_⟩
  · exact (lt_of_lt_of_eq (β (0 : Fin 2)).isLt (show (163840 + 512 - 1) / 512 = 320 by decide)).trans_eq (bound_eq _).symm
  · have h0 : (β (0 : Fin 2)).val < 320 := lt_of_lt_of_eq (β (0 : Fin 2)).isLt (show (163840 + 512 - 1) / 512 = 320 by decide)
    have h1 : (β (1 : Fin 2)).val < 1 := lt_of_lt_of_eq (β (1 : Fin 2)).isLt (show (2048 + 2048 - 1) / 2048 = 1 by decide)
    show cc0_transform_4 (fun _ => ⟨(β (0 : Fin 2)).val, h0.trans_eq (bound_eq _).symm⟩) a = (β a).val
    fin_cases a
    · show (BitVec.ofNat 32 (β (0 : Fin 2)).val).toNat = (β (0 : Fin 2)).val
      simp only [BitVec.toNat_ofNat]; omega
    · show 0 = (β (1 : Fin 2)).val; omega

/-- The output array after the run. -/
theorem final (c : Dev nD) : (dats L m hE 0 c).arrAt (4 : Fin 5) (cfgA L m hE).N = result L m c := by
  refine (dats L m hE 0 c).arrAt_eq_of_covers (4 : Fin 5) _ (covers L m hE) fun t _ y => ?_
  blk_simp
  rw [after_4]
  have hy : ((((cfgA L m hE).win (4 : Fin 5)).blk t).view.emb y : S163840x2048.Idx)
      = ix2 ⟨512 * t.val + (y (0 : Fin 2)).val, by have := t_lt L m hE t; have : (y (0 : Fin 2)).val < 512 := (y (0 : Fin 2)).isLt; omega⟩ (y (1 : Fin 2)) := by
    funext a
    refine Fin.ext ?_
    show cc0_transform_4 (crd L m hE t) a * S512x2048.size a + 1 * (y a).val = _
    have ht := t_lt L m hE t
    fin_cases a
    · show (BitVec.ofNat 32 ((crd L m hE t) 0).val).toNat * 512 + 1 * (y (0 : Fin 2)).val = 512 * t.val + (y (0 : Fin 2)).val
      rw [crd_val]; simp only [BitVec.toNat_ofNat]; omega
    · show 0 * 2048 + 1 * (y (1 : Fin 2)).val = (y (1 : Fin 2)).val; omega
  exact (congrArg (left L m hE c t) (eq_ix2 y)).trans ((point L m hE c t (y (0 : Fin 2)) (y (1 : Fin 2))).trans (congrArg (result L m c) hy.symm))

end Cert.MoeIdeal.Hand

end
-- ==== Proof.Moe.Ref.lean ====
module

public import proofs.«01_k».proof.Proof.Moe.Value
public import proofs.«01_k».proof.Proof.Gen.MoeRefIdeal.Run

/-! # The expert blocks: the reference

The reference takes every block's expert's weights out of the arrays, multiplies all blocks at once, and zeroes the
blocks past the last in use. Entry by entry this is the result the kernel leaves. -/

@[expose] public section

set_option maxRecDepth 16384

noncomputable section

namespace Cert.MoeRefIdeal.Hand

open Cert.MoeRefIdeal Cert.MoeRefIdeal.Gen
open Idealize.ShloMosaic Idealize.ShloMosaic.TcCoe Idealize.SL.Sem

/-! ## Taking an expert's weights -/

section Take
variable {α : Type}

/-- The dimension numbers of taking, per block, one of 64 matrices. -/
abbrev pick (A B : ℕ) (wf : GatherDims.WF ⟨3, ![64, A, B]⟩ ⟨2, ![320, 1]⟩ ⟨3, ![320, A, B]⟩ [1, 2] [0] [] [0] [] 1 ![1, A, B]) :
    GatherDims ⟨3, ![64, A, B]⟩ ⟨2, ![320, 1]⟩ ⟨3, ![320, A, B]⟩ where
  offsetDims := [1, 2]
  collapsedSliceDims := [0]
  operandBatchingDims := []
  startIndicesBatchingDims := []
  startIndexMap := [0]
  indexVectorDim := 1
  sliceSizes := ![1, A, B]
  wf := wf

/-- Block `n` takes the matrix its index names, held to the 64 there are. -/
theorem pick_apply {A B : ℕ} (wf) (x : (⟨3, ![64, A, B]⟩ : Shape).Idx → α) (idx : IVec ⟨2, ![320, 1]⟩ 32) (n : Fin 320) (a : Fin A) (b : Fin B) :
    Host.gather (pick A B wf) x idx (ix3 n a b) = x (ix3 ⟨min (idx (ix2 n (0 : Fin 1))).toInt.toNat 63, by omega⟩ a b) := by
  unfold Host.gather
  congr 1
  funext d
  refine Fin.ext ?_
  show (pick A B wf).start (ix3 n a b) idx d + (pick A B wf).batchCoord (ix3 n a b) d + (pick A B wf).offCoord (ix3 n a b) d = _
  rw [GatherDims.batchCoord_eq_zero _ _ _ List.not_mem_nil, Nat.add_zero]
  match d with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 3) ∈ (pick A B wf).startIndexMap from List.mem_singleton.mpr rfl)]
    have hs : (pick A B wf).siIdx (ix3 n a b) ⟨List.idxOf (⟨0, by decide⟩ : Fin 3) (pick A B wf).startIndexMap,
        List.idxOf_lt_length_iff.2 (List.mem_singleton.mpr rfl)⟩ = ix2 n (0 : Fin 1) := by
      funext e; refine Fin.ext ?_
      match e with
      | ⟨0, _⟩ => rfl
      | ⟨1, _⟩ => rfl
    rw [hs]
    rfl
  | ⟨1, _⟩ =>
    unfold GatherDims.start
    rw [dif_neg (show (⟨1, by decide⟩ : Fin 3) ∉ (pick A B wf).startIndexMap from (by decide : (⟨1, by decide⟩ : Fin 3) ∉ ([0] : List (Fin 3)))), Nat.zero_add]
    unfold GatherDims.offCoord
    rw [dif_pos ((GatherDims.mem_sKept _ _).2 ⟨(by decide : (⟨1, by decide⟩ : Fin 3) ∉ ([0] : List (Fin 3))), List.not_mem_nil⟩)]
    rfl
  | ⟨2, _⟩ =>
    unfold GatherDims.start
    rw [dif_neg (show (⟨2, by decide⟩ : Fin 3) ∉ (pick A B wf).startIndexMap from (by decide : (⟨2, by decide⟩ : Fin 3) ∉ ([0] : List (Fin 3)))), Nat.zero_add]
    unfold GatherDims.offCoord
    rw [dif_pos ((GatherDims.mem_sKept _ _).2 ⟨(by decide : (⟨2, by decide⟩ : Fin 3) ∉ ([0] : List (Fin 3))), List.not_mem_nil⟩)]
    rfl

end Take

/-! ## The stages -/

/-- 64 experts in a row fit among 128, wherever a layer's start. -/
theorem wide_fits (L : Fin 65) : S128x2048x512.Slices ![L.val, 0, 0] S64x2048x512 := by
  revert L; decide
@[inherit_doc wide_fits] theorem narrow_fits (L : Fin 65) : S128x512x2048.Slices ![L.val, 0, 0] S64x512x2048 := by
  revert L; decide

/-- Which expert every block takes: the number itself, counted from the end where it is negative. -/
def which (E : IVec S320 32) : IVec S320x1 32 :=
  broadcastInDim S320x1 ![0] bcast_S320_S320x1_0 (select (cmpi .slt E (broadcastInDim S320 ![] bcast_S_S320 (constantI S_ 32 0#32)))
    (addi E (broadcastInDim S320 ![] bcast_S_S320 (constantI S_ 32 64#32))) E)

/-- Every block's first, or second, weights, of the layer whose experts start at `L`. -/
def wide (L : Fin 65) (E : IVec S320 32) (W : FVec Ideal S128x2048x512 .f32) : FVec Ideal S320x2048x512 .f32 :=
  Host.gather gather_S64x2048x512_S320x1_S320x2048x512_12_0_n_n_0_1_12048512
    (extractStridedSlice S64x2048x512 ![L.val, 0, 0] W (wide_fits L)) (which E)

/-- Every block's third weights. -/
def narrow (L : Fin 65) (E : IVec S320 32) (D : FVec Ideal S128x512x2048 .f32) : FVec Ideal S320x512x2048 .f32 :=
  Host.gather gather_S64x512x2048_S320x1_S320x512x2048_12_0_n_n_0_1_15122048
    (extractStridedSlice S64x512x2048 ![L.val, 0, 0] D (narrow_fits L)) (which E)

/-- The rows' numbers, out of their words: the low halves, then the high halves. -/
def rows (X : IVec S163840x1024 32) : FVec Ideal S163840x2048 .f32 :=
  concatenate S163840x2048 1 [⟨S163840x1024, (bitcastToFloat (F := Ideal) .f32 (Host.shli X (broadcastInDim S163840x1024 ![]
    bcast_S_S163840x1024 (constantI S_ 32 16#32))))⟩, ⟨S163840x1024, (bitcastToFloat (F := Ideal) .f32 (andi X
    (broadcastInDim S163840x1024 ![] bcast_S_S163840x1024 (constantI S_ 32 4294901760#32))))⟩]
    concatenates_S163840x1024_S163840x1024_S163840x2048_d1

/-- Every block's rows times its weights. -/
def times (X : IVec S163840x1024 32) (W : FVec Ideal S320x2048x512 .f32) : FVec Ideal S320x512x512 .f32 :=
  Host.dotGeneral dot_S320x512x2048_S320x2048x512_S320x512x512_2_1_1_2_0_0 none
    (shapeCast _ (rows X) shapeCasts_S163840x2048_S320x512x2048) W

/-- The gate's product times its logistic, times the second product. -/
def gated (a b : FVec Ideal S320x512x512 .f32) : FVec Ideal S320x512x512 .f32 :=
  mulf (mulf a (Host.divf (broadcastInDim S320x512x512 ![] bcast_S_S320x512x512 (constant S_ .f32 0x3F800000#32))
    (addf (broadcastInDim S320x512x512 ![] bcast_S_S320x512x512 (constant S_ .f32 0x3F800000#32)) (Host.exp (Host.negf a))))) b

/-- Which blocks are in use. -/
def used (N : IVec S1 32) : IVec S320x1x1 1 :=
  cmpi .slt (broadcastInDim S320x1x1 ![0] bcast_S320_S320x1x1_0 (iotaInDim S320 32 0))
    (broadcastInDim S320x1x1 ![] bcast_S_S320x1x1 (shapeCast _ N shapeCasts_S1_S_))

/-- The blocks' results, zero past those in use. -/
def blocks (L : Fin 65) (X : IVec S163840x1024 32) (E : IVec S320 32) (N : IVec S1 32) (G U : FVec Ideal S128x2048x512 .f32)
    (D : FVec Ideal S128x512x2048 .f32) : FVec Ideal S320x512x2048 .f32 :=
  select (broadcastInDim S320x512x2048 ![0, 1, 2] bcast_S320x1x1_S320x512x2048_0_1_2 (used N))
    (Host.dotGeneral dot_S320x512x512_S320x512x2048_S320x512x2048_2_1_1_2_0_0 none
      (gated (times X (wide L E G)) (times X (wide L E U))) (narrow L E D))
    (broadcastInDim S320x512x2048 ![] bcast_S_S320x512x2048 (id (constant S_ .f32 0x00000000#32)))

/-- The reference's result. -/
def term (L : Fin 65) (X : IVec S163840x1024 32) (E : IVec S320 32) (N : IVec S1 32) (G U : FVec Ideal S128x2048x512 .f32)
    (D : FVec Ideal S128x512x2048 .f32) : FVec Ideal S163840x2048 .bf16 :=
  truncf .bf16 (shapeCast _ (blocks L X E N G U D) shapeCasts_S320x512x2048_S163840x2048) bitsLt_bf16_f32

/-! ## Their entries -/

variable (L : Fin 65) (X : IVec S163840x1024 32) (E : IVec S320 32) (N : IVec S1 32) (G U : FVec Ideal S128x2048x512 .f32)
  (D : FVec Ideal S128x512x2048 .f32)

/-- A number in range is the expert taken. -/
theorem which_apply (n : Fin 320) (h : MoeWords.InRange (E (ix1 n))) : which E (ix2 n (0 : Fin 1)) = E (ix1 n) := by
  have e : which E (ix2 n (0 : Fin 1)) = if Scalar.cmpi .slt (E (ix1 n)) 0#32 = 1#1 then Scalar.addi (E (ix1 n)) 64#32 else E (ix1 n) := by
    pointwise [which]
    rfl
  rw [e, if_neg]
  rw [MoeWords.slt_iff]
  have h0 : (0#32).toInt = 0 := by decide
  have := h.1
  omega

/-- The matrix taken is that of the expert's place in the whole arrays. -/
theorem place_eq (n : Fin 320) (h : MoeWords.InRange (E (ix1 n))) :
    L.val + min (which E (ix2 n (0 : Fin 1))).toInt.toNat 63 = (Moe.place L.val (E (ix1 n))).val := by
  rw [which_apply E n h]
  show _ = (L.val + (E (ix1 n)).toNat) % 128
  have := h.lt
  have := L.isLt
  have := h.1
  have := h.2
  have e := BitVec.toInt_eq_toNat_cond (E (ix1 n))
  split_ifs at e <;> omega

theorem wide_apply (n : Fin 320) (h : MoeWords.InRange (E (ix1 n))) (k : Fin 2048) (f : Fin 512) :
    wide L E G (ix3 n k f) = G (ix3 (Moe.place L.val (E (ix1 n))) k f) := by
  refine (pick_apply gather_S64x2048x512_S320x1_S320x2048x512_12_0_n_n_0_1_12048512_wf _ (which E) n k f).trans ?_
  refine congrArg G (funext fun d => Fin.ext ?_)
  fin_cases d
  · exact place_eq L E n h
  · exact Nat.zero_add _
  · exact Nat.zero_add _

theorem narrow_apply (n : Fin 320) (h : MoeWords.InRange (E (ix1 n))) (f : Fin 512) (j : Fin 2048) :
    narrow L E D (ix3 n f j) = D (ix3 (Moe.place L.val (E (ix1 n))) f j) := by
  refine (pick_apply gather_S64x512x2048_S320x1_S320x512x2048_12_0_n_n_0_1_15122048_wf _ (which E) n f j).trans ?_
  refine congrArg D (funext fun d => Fin.ext ?_)
  fin_cases d
  · exact place_eq L E n h
  · exact Nat.zero_add _
  · exact Nat.zero_add _

/-- Row `t` of block `n` among all the rows. -/
def at_ (n : Fin 320) (t : Fin 512) : Fin 163840 := ⟨n.val * 512 + t.val, by omega⟩

/-- A row's numbers are those the kernel reads. -/
theorem rows_apply (r : Fin 163840) (j : Fin 2048) : rows X (ix2 r j) = Moe.rows X (ix2 r j) := by
  show _ = Packed.half (X (ix2 r (Packed.col j))) j
  unfold rows
  rcases Packed.col_cases j with ⟨l, rfl⟩ | ⟨l, rfl⟩
  · rw [Packed.half_low, Packed.col_low]
    pointwise
    rfl
  · rw [Packed.half_high, Packed.col_high]
    pointwise

theorem times_apply (W : FVec Ideal S320x2048x512 .f32) (n : Fin 320) (t f : Fin 512) :
    times X W (ix3 n t f) = ∑ k : Fin 2048, Moe.rows X (ix2 (at_ n t) k) * W (ix3 n k f) := by
  have h : times X W (ix3 n t f) = ∑ k : Fin 2048, rows X (ix2 (at_ n t) k) * W (ix3 n k f) := by
    pointwise [times]
    rfl
  rw [h]
  exact Finset.sum_congr rfl fun k _ => congrArg (· * W (ix3 n k f)) (rows_apply X _ k)

theorem gated_apply (a b : FVec Ideal S320x512x512 .f32) (n : Fin 320) (t f : Fin 512) :
    gated a b (ix3 n t f) = a (ix3 n t f) * Ideal.logistic (a (ix3 n t f)) * b (ix3 n t f) := by
  pointwise [gated]
  rfl

theorem used_apply (n : Fin 320) : used N (ix3 n (0 : Fin 1) (0 : Fin 1)) = Scalar.cmpi .slt (BitVec.ofNat 32 n.val) (N (ix1 (0 : Fin 1))) := by
  pointwise [used]
  rfl

theorem blocks_apply (n : Fin 320) (t : Fin 512) (j : Fin 2048) : blocks L X E N G U D (ix3 n t j)
    = if used N (ix3 n (0 : Fin 1) (0 : Fin 1)) = 1#1 then
        ∑ f : Fin 512, gated (times X (wide L E G)) (times X (wide L E U)) (ix3 n t f) * narrow L E D (ix3 n f j) else 0 := by
  pointwise [blocks]
  rw [show (id (constant S_ FTy.f32 0#32) ix0 : Ideal .f32) = 0 from Ideal.ofBits_zero_f32]
  rfl

theorem term_apply (n : Fin 320) (t : Fin 512) (j : Fin 2048) : term L X E N G U D (ix2 (at_ n t) j) = blocks L X E N G U D (ix3 n t j) := by
  pointwise [term]
  have e1 : (⟨(at_ n t).val / 512, by have := (at_ n t).isLt; omega⟩ : Fin 320) = n := Fin.ext (by show (n.val * 512 + t.val) / 512 = _; omega)
  have e2 : (⟨(at_ n t).val % 512, Nat.mod_lt _ (by decide)⟩ : Fin 512) = t := Fin.ext (by show (n.val * 512 + t.val) % 512 = _; omega)
  exact congrArg₂ (fun a b => blocks L X E N G U D (ix3 a b j)) e1 e2

/-- The reference's result is the kernel's, where every block's expert is in range. -/
theorem term_eq (h : ∀ j : S320.Idx, MoeWords.InRange (E j)) : term L X E N G U D = Moe.out L.val (Moe.rows X) E N G U D := by
  classical
  funext i
  obtain ⟨r, j, rfl⟩ : ∃ r j, i = ix2 r j := ⟨_, _, eq_ix2 i⟩
  obtain ⟨n, t, rfl⟩ : ∃ n t, r = at_ n t := ⟨⟨r.val / 512, by omega⟩, ⟨r.val % 512, by omega⟩, Fin.ext (by show r.val = r.val / 512 * 512 + r.val % 512; omega)⟩
  have hb : Moe.blockOf (at_ n t) = n := Fin.ext (by show (n.val * 512 + t.val) / 512 = _; omega)
  rw [term_apply, blocks_apply, Moe.out_apply L.val (Moe.rows X) E N G U D (at_ n t) j n hb]
  refine if_congr ?_ (Finset.sum_congr rfl fun f _ => ?_) rfl
  · rw [used_apply, MoeWords.slt_iff, MoeWords.toInt_block _ n.isLt]
  rw [gated_apply, times_apply, times_apply, narrow_apply L E D n (h _)]
  simp only [wide_apply L E _ n (h _)]
  rfl

end Cert.MoeRefIdeal.Hand

end
-- ==== Proof.Moe.KernelFrame.lean ====
module

public import proofs.«01_k».proof.Proof.Moe.Tables

/-! # The expert blocks at any precision: the frame

Nothing is said of the output block or of the scratches: each is handed to the body at any contents and taken back at any
contents. What is left is that the run ends, without a fault, with the arguments unchanged. The blocks read are inside
their arrays by the same argument as in the idealized program: it is about the two integer tables alone. -/

@[expose] public section

set_option maxRecDepth 16384

noncomputable section

namespace Cert.MoeIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)
open Cert.MoeIdeal Cert.MoeIdeal.Gen Cert.MoeWords
open Cert.MoeIdeal.Hand (Start pcfgOf pcfgsOf defsOf mainOf launchOf inside)

variable {F : FTy → Type} [FloatOps F]

local notation "𝕄" => MT nD τ sig Unit (Elt F) ℕ (UR sig nD τ) ℕ

/-! ## The tables -/

/-- The table of experts and the count. -/
def expertsOf (pf : pre0.Contents (Elt F)) : S320.Idx → BitVec 32 := pf 0
@[inherit_doc expertsOf] def countOf (pf : pre0.Contents (Elt F)) : S1.Idx → BitVec 32 := pf 1

/-- The same tables, beside exact arithmetic. -/
def sameTables (pf : pre0.Contents (Elt F)) : pre0.Contents (Elt Ideal)
  | ⟨0, _⟩ => expertsOf pf
  | ⟨1, _⟩ => countOf pf

/-- Every block read lies inside its array. -/
theorem ok (L : Start) (pf : pre0.Contents (Elt F)) (hE : ∀ j, InRange (expertsOf pf j)) : inside L pf :=
  MoeIdeal.Hand.ok (sameTables pf) L hE

/-! ## The body -/

/-- The two tables and the three scratches, as the body is handed them. -/
abbrev tbE : Memref sig .tc .smem S320 .i32 := Memref.whole main_arg1
@[inherit_doc tbE] abbrev tbN : Memref sig .tc .smem S1 .i32 := Memref.whole main_arg2
@[inherit_doc tbE] abbrev scG : Memref sig .tc .vmem S2048x512 .bf16 := Memref.whole cc0_scratch0
@[inherit_doc tbE] abbrev scU : Memref sig .tc .vmem S2048x512 .bf16 := Memref.whole cc0_scratch1
@[inherit_doc tbE] abbrev scD : Memref sig .tc .vmem S512x2048 .bf16 := Memref.whole cc0_scratch2

/-- The words the body reads: the number of blocks in use, the expert of this block and of the block before. -/
abbrev usedWord (T1 : S1.Idx → Elt F .i32) : BitVec 32 :=
  View.readAt (Elt F) tbN.view (Rect.unit (s := S1) ![0] S1.size inb_S1_S1_0).toLoadRect T1 (Shape.Idx.first (numel1_S1.symm ▸ Nat.one_pos))
@[inherit_doc usedWord] abbrev expertWord (i : grid0.Coords) (T0 : S320.Idx → Elt F .i32) : BitVec 32 :=
  View.readAt (Elt F) tbE.view (Rect.unit (s := S320) (k0_off1 i) S1.size (k0_off1_inb i)).toLoadRect T0 (Shape.Idx.first (numel1_S1.symm ▸ Nat.one_pos))
@[inherit_doc usedWord] abbrev lastWord (i : grid0.Coords) (T0 : S320.Idx → Elt F .i32) : BitVec 32 :=
  View.readAt (Elt F) tbE.view (Rect.unit (s := S320) (k0_off2 i) S1.size (k0_off2_inb i)).toLoadRect T0 (Shape.Idx.first (numel1_S1.symm ▸ Nat.one_pos))

/-- The weights are taken anew. -/
abbrev takes (i : grid0.Coords) (T0 : S320.Idx → Elt F .i32) (T1 : S1.Idx → Elt F .i32) : Prop :=
  (Scalar.cmpi .ne (Scalar.extui (Scalar.andi (Scalar.cmpi .slt (BitVec.ofNat 32 (i 0).val) (usedWord (F := F) T1))
    (Scalar.ori (Scalar.cmpi .eq (BitVec.ofNat 32 (i 0).val) 0#32) (Scalar.cmpi .ne (expertWord (F := F) i T0) (lastWord (F := F) i T0))))) 0#32) = 1#1

set_option maxHeartbeats 8000000 in
/-- The body keeps its four input blocks and the two tables, whichever of its three conditions hold. -/
theorem body_keeps (c : Dev nD) (i : grid0.Coords) (arg3 : Memref sig .tc .vmem S512x1024 .i32) (harg3 : arg3.IsWhole)
    (arg4 : Memref sig .tc .vmem S1x2048x512 .f32) (harg4 : arg4.IsWhole) (arg5 : Memref sig .tc .vmem S1x2048x512 .f32) (harg5 : arg5.IsWhole)
    (arg6 : Memref sig .tc .vmem S1x512x2048 .f32) (harg6 : arg6.IsWhole) (arg7 : Memref sig .tc .vmem S512x2048 .bf16) (harg7 : arg7.IsWhole)
    (T0 : S320.Idx → Elt F .i32) (T1 : S1.Idx → Elt F .i32)
    (x : Vec F S512x1024 .i32) (wg wu : Vec F S1x2048x512 .f32) (wd : Vec F S1x512x2048 .f32) (Q : PUnit → sProp 𝕄) :
    iprop(owns (c : Thread nD τ) arg3 fullShare x ∗ owns (c : Thread nD τ) arg4 fullShare wg ∗ owns (c : Thread nD τ) arg5 fullShare wu
        ∗ owns (c : Thread nD τ) arg6 fullShare wd ∗ (∃ o, owns (c : Thread nD τ) arg7 fullShare o)
        ∗ ((∃ g, owns (c : Thread nD τ) scG fullShare g) ∗ (∃ u, owns (c : Thread nD τ) scU fullShare u) ∗ (∃ d, owns (c : Thread nD τ) scD fullShare d))
        ∗ (tbE.view.loc (c : Thread nD τ) ↦{fullShare.right} T0) ∗ (tbN.view.loc (c : Thread nD τ) ↦{fullShare.right} T1)
        ∗ (iprop(owns (c : Thread nD τ) arg3 fullShare x ∗ owns (c : Thread nD τ) arg4 fullShare wg ∗ owns (c : Thread nD τ) arg5 fullShare wu
          ∗ owns (c : Thread nD τ) arg6 fullShare wd ∗ (∃ o, owns (c : Thread nD τ) arg7 fullShare o)
          ∗ ((∃ g, owns (c : Thread nD τ) scG fullShare g) ∗ (∃ u, owns (c : Thread nD τ) scU fullShare u) ∗ (∃ d, owns (c : Thread nD τ) scD fullShare d))
          ∗ (tbE.view.loc (c : Thread nD τ) ↦{fullShare.right} T0) ∗ (tbN.view.loc (c : Thread nD τ) ↦{fullShare.right} T1)) -∗ Q ⟨⟩))
      ⊢ wp frame (wpE (defs₀ (F := F)) Variants.none c none) Set.univ (cc0_moe_grouped_swiglu i tbE (Memref.isWhole_whole _) tbN (Memref.isWhole_whole _)
          arg3 harg3 arg4 harg4 arg5 harg5 arg6 harg6 arg7 harg7 scG (Memref.isWhole_whole _) scU (Memref.isWhole_whole _) scD (Memref.isWhole_whole _)) Q := by
  rw [cc0_moe_grouped_swiglu_eq_skeleton]; unfold cc0_moe_grouped_swiglu_skel
  have hT0 : tbE.IsWhole := Memref.isWhole_whole _
  have hT1 : tbN.IsWhole := Memref.isWhole_whole _
  have hS0 : scG.IsWhole := Memref.isWhole_whole _
  have hS1 : scU.IsWhole := Memref.isWhole_whole _
  have hS2 : scD.IsWhole := Memref.isWhole_whole _
  unfold owns
  by_cases h1 : takes (F := F) i T0 T1 <;> by_cases h2 : k0_cond2 i (usedWord (F := F) T1) = 1#1 <;> by_cases h3 : k0_cond3 i (usedWord (F := F) T1) = 1#1
  all_goals
    iintro ⟨⟨%f3, %hf3, H3⟩, ⟨%f4, %hf4, H4⟩, ⟨%f5, %hf5, H5⟩, ⟨%f6, %hf6, H6⟩, ⟨%o, %f7, -, H7⟩,
      ⟨⟨%g, %f8, -, H8⟩, ⟨%u, %f9, -, H9⟩, ⟨%d, %f10, -, H10⟩⟩, HT0, HT1, Hk⟩
    subst hf3 hf4 hf5 hf6
    sl_exec! (disch := first | exact h1 | exact h2 | exact h3)
    sl_step
    iapply Hk
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    isplitl [H7]; · iexists _; iexists _; isplitr; swap; · iexact H7
                    ipureintro; rfl
    isplitl [H8 H9 H10]
    · isplitl [H8]; · iexists _; iexists _; isplitr; swap; · iexact H8
                      ipureintro; rfl
      isplitl [H9]; · iexists _; iexists _; isplitr; swap; · iexact H9
                      ipureintro; rfl
      iexists _; iexists _; isplitr; swap; · iexact H10
      ipureintro; rfl
    isplitl [HT0] <;> iassumption

/-! ## The run -/

variable (L : Start) (m : (ℓ : Loc nD τ sig) → Buf (Elt F) ℓ) (ρ : Dev nD → PrngReg)

/-- The one core. -/
abbrev core : Dev nD := ⟨0, by decide⟩

theorem core_eq (c : Dev nD) : c = core := Subsingleton.elim (α := Fin 1) _ _

/-- The tables at launch. -/
def tables : pre0.Contents (Elt F) := fun k => m ((core.tc : Thread nD τ).loc (pre0.ref k))

variable (hE : ∀ j, InRange (expertsOf (tables m) j))

/-- The launch at them, its configuration, and a grid point's coordinates. -/
def adm : (pcfgOf (F := F) L).Adm := ⟨tables m, ok L (tables m) hE⟩
@[inherit_doc adm] abbrev cfgA : Pipeline.Cfg sig Λ₀ := (pcfgOf (F := F) L).at (adm L m hE)

/-- The block window `w` holds at grid point `t`. -/
def iblk (c : Dev nD) (w : Fin (cfgA L m hE).W) (t : Fin (cfgA L m hE).N) :
    (((cfgA L m hE).win w).xblock ((cfgA L m hE).grid.coords t)).Idx → Elt F ((cfgA L m hE).win w).elt :=
  (((cfgA L m hE).win w).blk t).view.read (Elt F) (m (((cfgA L m hE).win w).arr.view.loc (c : Thread nD τ)))

/-- The pipeline's proof data: the inputs' blocks, of the output's nothing that is used. -/
def dats (_ : Fin 1) (c : Dev nD) : Dat τ (Elt F) Unit ℕ (UR sig nD τ) ℕ (cfgA L m hE) c where
  A w := m (((cfgA L m hE).win w).arr.view.loc (c : Thread nD τ))
  after w t := match w with
    | ⟨0, _⟩ => iblk L m hE c (0 : Fin 5) t
    | ⟨1, _⟩ => iblk L m hE c (1 : Fin 5) t
    | ⟨2, _⟩ => iblk L m hE c (2 : Fin 5) t
    | ⟨3, _⟩ => iblk L m hE c (3 : Fin 5) t
    | ⟨4, _⟩ => iblk L m hE c (4 : Fin 5) t
  Φ _ := iprop(Pipeline.ΦA spec0 c ∗ Pipeline.ΦT pre0 (tables m) c)
  q _ := fullShare
  owed _ := 0

/-- The output's is the window of which nothing is said. -/
def forgotten : Fin 5 → Bool
  | ⟨4, _⟩ => true
  | _ => false

/-- An input window holds its block at every point. -/
theorem before_0 (c : Dev nD) (t : Fin (cfgA L m hE).N) (d) : (dats L m hE 0 c).before (0 : Fin 5) t d = iblk L m hE c (0 : Fin 5) t :=
  ((dats L m hE 0 c).before_in_eq_fetched (0 : Fin 5) rfl (fun _ => rfl) (fun _ _ _ => rfl) (fun t => rfl) t d).trans rfl
@[inherit_doc before_0] theorem before_1 (c : Dev nD) (t : Fin (cfgA L m hE).N) (d) : (dats L m hE 0 c).before (1 : Fin 5) t d = iblk L m hE c (1 : Fin 5) t :=
  ((dats L m hE 0 c).before_in_eq_fetched (1 : Fin 5) rfl (fun _ => rfl) (fun _ _ _ => rfl) (fun t => rfl) t d).trans rfl
@[inherit_doc before_0] theorem before_2 (c : Dev nD) (t : Fin (cfgA L m hE).N) (d) : (dats L m hE 0 c).before (2 : Fin 5) t d = iblk L m hE c (2 : Fin 5) t :=
  ((dats L m hE 0 c).before_in_eq_fetched (2 : Fin 5) rfl (fun _ => rfl) (fun _ _ _ => rfl) (fun t => rfl) t d).trans rfl
@[inherit_doc before_0] theorem before_3 (c : Dev nD) (t : Fin (cfgA L m hE).N) (d) : (dats L m hE 0 c).before (3 : Fin 5) t d = iblk L m hE c (3 : Fin 5) t :=
  ((dats L m hE 0 c).before_in_eq_fetched (3 : Fin 5) rfl (fun _ => rfl) (fun _ _ _ => rfl) (fun t => rfl) t d).trans rfl

/-- The body's halves of the two tables. -/
theorem heldTables (c : Dev nD) (v : pre0.Contents (Elt F)) :
    (Pipeline.ΦT pre0 v c : sProp 𝕄) = iprop((tbE.view.loc (c : Thread nD τ) ↦{fullShare.right} expertsOf v) ∗ (tbN.view.loc (c : Thread nD τ) ↦{fullShare.right} countOf v)) := by
  unfold Pipeline.ΦT Pipeline.prefHeld
  rw [show (Finset.univ : Finset (Fin 2)) = insert (0 : Fin 2) {(1 : Fin 2)} from by decide, bigSep_insert (by decide), bigSep_singleton]
  rfl

/-- The scratches at anything, and the generator's register. -/
theorem anyScratch_eq (c : Dev nD) : (Pipeline.ΦA spec0 c : sProp 𝕄)
    = iprop(((∃ g, owns (c : Thread nD τ) scG fullShare g) ∗ (∃ u, owns (c : Thread nD τ) scU fullShare u) ∗ (∃ d, owns (c : Thread nD τ) scD fullShare d))
      ∗ (∃ r, prngReg c r)) := by
  unfold Pipeline.ΦA; rw [scopedRest0_eq]; simp only [owns_whole]; try rfl

set_option maxHeartbeats 1000000 in
/-- The body leaves the inputs' blocks as it found them. -/
theorem body_obligation (c : Dev nD) : BodyObligation (dats L m hE 0 c) (defs₀ (F := F)) Variants.none () Set.univ forgotten := fun t => by
  rw [bigSep_W0, bigSep_W0]
  rewrite [show forgotten (0 : Fin 5) = false from rfl, show forgotten (1 : Fin 5) = false from rfl, show forgotten (2 : Fin 5) = false from rfl,
    show forgotten (3 : Fin 5) = false from rfl, show forgotten (4 : Fin 5) = true from rfl]
  simp only [before_0, before_1, before_2, before_3]
  rewrite [show (dats L m hE 0 c).Φ t.succ = iprop(Pipeline.ΦA spec0 c ∗ Pipeline.ΦT pre0 (tables m) c) from rfl,
    show (dats L m hE 0 c).Φ t.castSucc = iprop(Pipeline.ΦA spec0 c ∗ Pipeline.ΦT pre0 (tables m) c) from rfl,
    show (dats L m hE 0 c).owesAt () t.succ = (dats L m hE 0 c).owesAt () t.castSucc from rfl, anyScratch_eq, heldTables]
  iintro ⟨⟨⟨HS, Hg⟩, HT0, HT1⟩, Ho, ⟨%d0, H0⟩, ⟨%d1, H1⟩, ⟨%d2, H2⟩, ⟨%d3, H3⟩, H4⟩
  iapply (body_keeps c ((cfgA L m hE).grid.coords t)
    _ (hstage0_0 (((cfgA L m hE).slots t (0 : Fin 5)).cast nbuf0_0))
    _ (hstage0_1 (((cfgA L m hE).slots t (1 : Fin 5)).cast nbuf0_1))
    _ (hstage0_2 (((cfgA L m hE).slots t (2 : Fin 5)).cast nbuf0_2))
    _ (hstage0_3 (((cfgA L m hE).slots t (3 : Fin 5)).cast nbuf0_3))
    _ (hstage0_4 (((cfgA L m hE).slots t (4 : Fin 5)).cast nbuf0_4)) (expertsOf (tables m)) (countOf (tables m))
    (iblk L m hE c (0 : Fin 5) t) (iblk L m hE c (1 : Fin 5) t) (iblk L m hE c (2 : Fin 5) t) (iblk L m hE c (3 : Fin 5) t) _)
  isplitl [H0]; · iexact H0
  isplitl [H1]; · iexact H1
  isplitl [H2]; · iexact H2
  isplitl [H3]; · iexact H3
  isplitl [H4]; · iexact H4
  isplitl [HS]; · iexact HS
  isplitl [HT0]; · iexact HT0
  isplitl [HT1]; · iexact HT1
  iintro ⟨H0, H1, H2, H3, H4, HS, HT0, HT1⟩
  isplitl [HS Hg HT0 HT1]
  · isplitl [HS Hg]
    · isplitl [HS] <;> iassumption
    isplitl [HT0] <;> iassumption
  isplitl [Ho]; · iexact Ho
  isplitl [H0]; · iexact H0
  isplitl [H1]; · iexact H1
  isplitl [H2]; · iexact H2
  isplitl [H3]; · iexact H3
  iexact H4

theorem share_full (c : Dev nD) (w : Fin (cfgA L m hE).W) : (dats L m hE 0 c).share w = fullShare := by
  unfold Dat.share; split <;> rfl

/-- The tables are no window's array. -/
theorem experts_rest : main_arg1 ∈ Pipeline.restRefs sig spec0 := Pipeline.mem_restRefs_of main_arg1 rfl (by decide)
@[inherit_doc experts_rest] theorem count_rest : main_arg2 ∈ Pipeline.restRefs sig spec0 := Pipeline.mem_restRefs_of main_arg2 rfl (by decide)

include hE in
set_option backward.isDefEq.respectTransparency.types false in
set_option maxHeartbeats 800000 in
/-- The frame: every run ends, with the arguments unchanged and the counters at zero. -/
theorem frame : θ_run (defsOf L) (onTc (τ := τ) (mainOf (F := F) L)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  Pipeline.θ_run_frameP_forget (pcfgsOf (F := F) L) (fun _ => adm L m hE) (dats L m hE) (0 : Fin 1) (launchOf L) defs₀ Variants.none forgotten m ρ (mainOf L)
    (hbody := fun c => (body_obligation L m hE c).loose) (hshare := share_full L m hE) (howed := fun _ _ => rfl)
    (V := fun c b => m ((c.tc : Thread nD τ).loc b))
    (hmain := Pipeline.hmainP_region _ 0 defs₀ Variants.none m (mainOf L) (fun c => rfl))
    (hA := fun _ _ => rfl) (hpf := fun c k => by rw [core_eq c]; rfl) (hΦ := fun _ _ => rfl) (Q' := _)
    (hQ' := fun r h => ⟨fun c =>
      ⟨h.1.arr_in c (0 : Fin 5) rfl, (h.1 c).2 main_arg1 experts_rest, (h.1 c).2 main_arg2 count_rest,
       h.1.arr_in c (1 : Fin 5) rfl, h.1.arr_in c (2 : Fin 5) rfl, h.1.arr_in c (3 : Fin 5) rfl⟩, h.2⟩)

end Cert.MoeIdeal.Frame

end
-- ==== Proof.Moe.Claim.lean ====
module

public import proofs.«01_k».proof.Defs
public import proofs.«01_k».proof.Proof.Moe.Ref
public import proofs.«01_k».proof.Proof.Moe.KernelFrame
public import proofs.«01_k».proof.Proof.Gen.Pre_experts_in_range

/-! # The expert blocks: kernel and reference agree

Of either layer: the run ends with the result, and the reference's result is the same. The claims of the two layers' calls
are these, with the layer put in. -/

@[expose] public section

set_option maxRecDepth 16384

noncomputable section

open Idealize.ShloMosaic Idealize.ShloMosaic.TcCoe Idealize.SL.Sem

namespace Cert.MoeIdeal.Hand

open Cert.MoeIdeal Cert.MoeIdeal.Gen

variable (L : Start) (m : (ℓ : Loc nD τ sig) → Buf (Elt Ideal) ℓ) (ρ : Dev nD → PrngReg)

/-- The run ends with the result, and the arguments as they were. -/
theorem run_value (hE : Experts (tables m)) : θ_run (defsOf L) (onTc (τ := τ) (mainOf (F := Ideal) L)) ⟨m, fun _ => 0, ρ⟩ fun r => ∀ c : Dev nD,
    r.2.mem ((c.tc : Thread nD τ).loc main_v0) = result L m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run (defsOf L) _ _).mono (fun r h c => ⟨((h.1.1 c).1 (4 : Fin 5)).trans (final L m hE c), h.2.1 c⟩)
    (θ_run_and (run_main L m ρ hE) (frame L m ρ hE))

/-- From arguments that agree the reference has the same result. -/
theorem agree (hE : Experts (tables m)) (c : Dev nD) {X : IVec S163840x1024 32} {E : IVec S320 32} {N : IVec S1 32}
    {G U : FVec Ideal S128x2048x512 .f32} {D : FVec Ideal S128x512x2048 .f32} (hX : X = argX m c) (hE' : E = m ((c.tc : Thread nD τ).loc main_arg1))
    (hN : N = m ((c.tc : Thread nD τ).loc main_arg2)) (hG : G = argG m c) (hU : U = argU m c) (hD : D = argD m c) :
    MoeRefIdeal.Hand.term L X E N G U D = result L m c := by
  obtain rfl := core_eq c
  subst hX hE' hN hG hU hD
  exact MoeRefIdeal.Hand.term_eq L _ _ _ _ _ _ hE

end Cert.MoeIdeal.Hand

end
-- ==== Proof.Moe.Calls.lean ====
module

public import proofs.«01_k».proof.Proof.Moe.Claim
public import proofs.«01_k».proof.Proof.Gen.Moe
public import proofs.«01_k».proof.Proof.Gen.MoeFirst
public import proofs.«01_k».proof.Proof.Gen.MoeFirstIdeal
public import proofs.«01_k».proof.Proof.Gen.MoeFirstRefIdeal.Run

/-! # The expert blocks: the two layers' calls

The claims of each call are those of any layer, with the start of this one put in. -/

@[expose] public section

set_option maxRecDepth 16384

noncomputable section

open Idealize.ShloMosaic Idealize.ShloMosaic.TcCoe Idealize.SL.Sem
open Cert.MoeIdeal Cert.MoeIdeal.Hand

namespace Moe

attribute [local instance] Cert.Moe.Gen.facts Cert.MoeIdeal.Gen.facts Cert.MoeRefIdeal.Gen.facts Cert.MoeFirst.Gen.facts
  Cert.MoeFirstIdeal.Gen.facts Cert.MoeFirstRefIdeal.Gen.facts Cert.Pre_experts_in_range.Gen.facts

/-! ## One body -/

section Bodies
variable {F : FTy → Type} [FloatOps F]

/-- The second layer's kernel has the body the claims of any layer are made of. -/
theorem body_eq_Moe : Cert.Moe.defs₀ (F := F) = Cert.MoeIdeal.defs₀ (F := F) := by
  unfold Cert.Moe.defs₀ Cert.MoeIdeal.defs₀
  refine congrArg Defs.onTc (funext₂ fun l x => ?_)
  match l, x with
  | ⟨0, _⟩, (t, s) =>
    dsimp only
    unfold Cert.Moe.cc0_moe_grouped_swiglu Cert.MoeIdeal.cc0_moe_grouped_swiglu
    rfl

/-- So has the first layer's, -/
theorem body_eq_MoeFirst : Cert.MoeFirst.defs₀ (F := F) = Cert.MoeIdeal.defs₀ (F := F) := by
  unfold Cert.MoeFirst.defs₀ Cert.MoeIdeal.defs₀
  refine congrArg Defs.onTc (funext₂ fun l x => ?_)
  match l, x with
  | ⟨0, _⟩, (t, s) =>
    dsimp only
    unfold Cert.MoeFirst.cc0_moe_grouped_swiglu Cert.MoeIdeal.cc0_moe_grouped_swiglu
    rfl

/-- and the idealized one. -/
theorem body_eq_MoeFirstIdeal : Cert.MoeFirstIdeal.defs₀ (F := F) = Cert.MoeIdeal.defs₀ (F := F) := by
  unfold Cert.MoeFirstIdeal.defs₀ Cert.MoeIdeal.defs₀
  refine congrArg Defs.onTc (funext₂ fun l x => ?_)
  match l, x with
  | ⟨0, _⟩, (t, s) =>
    dsimp only
    unfold Cert.MoeFirstIdeal.cc0_moe_grouped_swiglu Cert.MoeIdeal.cc0_moe_grouped_swiglu
    rfl

end Bodies

/-! ## The second layer's call -/

namespace Second

/-- The kernel's frame: every run ends, with the arguments unchanged and the counters at zero. -/
theorem frame_kernel : Cert.quiescent_Moe := fun m ρ h => by
  unfold Cert.Moe.defs
  rw [body_eq_Moe]
  exact Frame.frame secondLayer m ρ fun j => Cert.MoeWords.inRange_of_pre _ _ _ _ _ _ (h core) j

/-- The precondition puts every block's expert in range. -/
theorem experts (m : (ℓ : Loc Cert.MoeIdeal.nD Cert.MoeIdeal.τ Cert.MoeIdeal.sig) → Buf (Elt Ideal) ℓ) (h : Cert.Pre_MoeIdeal m) : Experts (tables m) :=
  fun j => Cert.MoeWords.inRange_of_pre _ _ _ _ _ _ (h core) j

/-- The idealized kernel's frame. -/
theorem frame_ideal : Cert.quiescent_MoeIdeal := fun m ρ h => by
  unfold Cert.MoeIdeal.defs
  exact Hand.frame secondLayer m ρ (experts m h)

/-- The reference's frame. -/
theorem frame_reference : Cert.quiescent_MoeRefIdeal := fun m ρ _ =>
  (θ_run _ _ _).mono (fun r h => ⟨fun c => (h c).2, sem_eq_zero_of_no_sems (by decide) r.2⟩) (Cert.MoeRefIdeal.Value.run m ρ)

/-- Kernel and reference end with the same result, from arguments that agree. -/
theorem algebraic : Cert.algebraic_MoeIdeal_MoeRefIdeal := by
  intro m g m' g' hpre hargs
  have hE := experts m hpre
  refine ⟨fun c => result secondLayer m c, ?_,
    (θ_run _ _ _).mono (fun r h c => ⟨(h c).1.trans ?_, (h c).2⟩) (Cert.MoeRefIdeal.Value.run m' g')⟩
  · unfold Cert.MoeIdeal.defs
    exact run_value secondLayer m g hE
  · obtain ⟨h0, h1, h2, h3, h4, h5⟩ := hargs c
    exact agree secondLayer m hE c h0 h1 h2 h3 h4 h5

end Second

/-! ## The first layer's call -/

namespace First

/-- The kernel's frame: every run ends, with the arguments unchanged and the counters at zero. -/
theorem frame_kernel : Cert.quiescent_MoeFirst := fun m ρ h => by
  unfold Cert.MoeFirst.defs
  rw [body_eq_MoeFirst]
  exact Frame.frame firstLayer m ρ fun j => Cert.MoeWords.inRange_of_pre _ _ _ _ _ _ (h core) j

/-- The precondition puts every block's expert in range. -/
theorem experts (m : (ℓ : Loc Cert.MoeFirstIdeal.nD Cert.MoeFirstIdeal.τ Cert.MoeFirstIdeal.sig) → Buf (Elt Ideal) ℓ) (h : Cert.Pre_MoeFirstIdeal m) : Experts (tables m) :=
  fun j => Cert.MoeWords.inRange_of_pre _ _ _ _ _ _ (h core) j

/-- The idealized kernel's frame. -/
theorem frame_ideal : Cert.quiescent_MoeFirstIdeal := fun m ρ h => by
  unfold Cert.MoeFirstIdeal.defs
  rw [body_eq_MoeFirstIdeal]
  exact Hand.frame firstLayer m ρ (experts m h)

/-- The reference's frame. -/
theorem frame_reference : Cert.quiescent_MoeFirstRefIdeal := fun m ρ _ =>
  (θ_run _ _ _).mono (fun r h => ⟨fun c => (h c).2, sem_eq_zero_of_no_sems (by decide) r.2⟩) (Cert.MoeFirstRefIdeal.Value.run m ρ)

/-- Kernel and reference end with the same result, from arguments that agree. -/
theorem algebraic : Cert.algebraic_MoeFirstIdeal_MoeFirstRefIdeal := by
  intro m g m' g' hpre hargs
  have hE := experts m hpre
  refine ⟨fun c => result firstLayer m c, ?_,
    (θ_run _ _ _).mono (fun r h c => ⟨(h c).1.trans ?_, (h c).2⟩) (Cert.MoeFirstRefIdeal.Value.run m' g')⟩
  · unfold Cert.MoeFirstIdeal.defs
    rw [body_eq_MoeFirstIdeal]
    exact run_value firstLayer m g hE
  · obtain ⟨h0, h1, h2, h3, h4, h5⟩ := hargs c
    exact agree firstLayer m hE c h0 h1 h2 h3 h4 h5

end First

end Moe

end
-- ==== Proof.Combine.Value.lean ====
module

public import proofs.«01_k».proof.Proof.Gen.CombineIdeal.Frame
public import Idealize.ShloMosaic.Lib.Pipeline.ValueKit
public import Idealize.ShloMosaic.Lib.Pointwise
public import proofs.«01_k».proof.Proof.Packed.Halves

/-! # The shared expert and the experts' combination: what the two launches leave

The first launch multiplies the rows with the shared expert's gate and up weights, side by side. The second forms the
gated product, multiplies it with the down weights, adds the eight chosen experts' rows by their weights, and adds all
that, scaled by the batch's gate, to the residual. An expert's row comes as 1024 words: the low halves are its first
1024 numbers, the high halves its last. -/

@[expose] public section

set_option maxRecDepth 16384

noncomputable section

open Idealize.ShloMosaic Idealize.ShloMosaic.TcCoe Idealize.SL.Sem

namespace Combine

open Cert.CombineIdeal

/-- A logistic gate: `g · σ(g) · u`. -/
def gated (g u : EReal) : EReal := g * Ideal.logistic g * u

/-- The shared expert's gate and up products, side by side. -/
def prod (A : FVec Ideal S16384x2048 .bf16) (B : FVec Ideal S2048x1024 .bf16) : FVec Ideal S16384x1024 .f32 :=
  fun i => ∑ k : Fin 2048, A (ix2 (i 0) k) * B (ix2 k (i 1))

/-- The second launch: the residual plus, scaled by the gate of the row's batch, the shared expert's row and the weighted
rows of the chosen experts. -/
def out (P : FVec Ideal S16384x1024 .f32) (D : FVec Ideal S512x2048 .bf16) (X : FVec Ideal S16384x2048 .f32)
    (G : FVec Ideal S8x1x2048 .f32) (M : IVec S8x16384x1024 32) (T : FVec Ideal S16384x8 .f32) :
    FVec Ideal S16384x2048 .f32 := fun i =>
  X i + G (ix3 ⟨(i 0).val / 2048, Nat.div_lt_of_lt_mul (i 0).isLt⟩ 0 (i 1))
    * ((∑ f : Fin 512, gated (P (ix2 (i 0) ⟨f.val, by omega⟩)) (P (ix2 (i 0) ⟨512 + f.val, by omega⟩)) * D (ix2 f (i 1)))
      + ∑ k : Fin 8, T (ix2 (i 0) k) * Packed.half (M (ix3 k (i 0) (Packed.col (i 1)))) (i 1))

end Combine

namespace Cert.CombineIdeal.Hand

open Cert.CombineIdeal Cert.CombineIdeal.Gen

variable (V : (c : Dev nD) → (b : Ref sig .tc) → Buf (Elt Ideal) ((c : Thread nD τ).loc b))

/-! ## The first launch -/

/-- Which block each window holds at grid point `t`. -/
theorem idx0 : ∀ t : Fin cfg0.N, win0_0.index t = ![t.val % 16, 0] ∧ win0_1.index t = ![0, t.val / 16]
    ∧ win0_2.index t = ![t.val % 16, t.val / 16] :=
  (by decide +kernel : ∀ t : Fin grid0.N, _)

/-- One entry of the stored block. -/
theorem body0 (a : Vec Ideal S1024x2048 .bf16) (b : Vec Ideal S2048x1024 .bf16) (r : Fin 1024) (j : Fin 1024) :
    out0_2 a b (ix2 r j) = ∑ k : Fin 2048, a (ix2 r k) * b (ix2 k j) := by
  unfold out0_2
  frame_out
  pointwise [k0_pay1]

/-- The block stored at grid point `t` is that block of the product. -/
theorem point0 (c : Dev nD) (t : Fin cfg0.N) (y : S1024x1024.Idx) :
    out0_2 (iblk0 V c 0 t) (iblk0 V c 1 t) y
      = Combine.prod (V c main_arg0) (V c main_v1) (((cfg0.win 2).blk t).view.emb y) := by
  refine (congrArg _ (eq_ix2 y)).trans ((body0 _ _ (y 0) (y 1)).trans ?_)
  unfold Combine.prod
  blk_point [iblk0, idx0 t]

/-- The launch leaves the product in its result array. -/
theorem final0 (c : Dev nD) : (dat0 V c).arrAt 2 cfg0.N = Combine.prod (V c main_arg0) (V c main_v1) := by
  refine (dat0 V c).arrAt_eq_of_covers 2 _ (by decide +kernel) fun t _ y => ?_
  blk_simp
  rw [after0_2]
  exact point0 V c t y

/-! ## The second launch -/

/-- Which block each window holds at grid point `t`; eight row blocks share a batch. -/
theorem idx1 : ∀ t : Fin cfg1.N, win1_0.index t = ![t.val, 0] ∧ win1_1.index t = ![0, 0] ∧ win1_2.index t = ![t.val, 0]
    ∧ win1_3.index t = ![t.val / 8, 0, 0] ∧ win1_4.index t = ![0, t.val, 0] ∧ win1_5.index t = ![t.val, 0]
    ∧ win1_6.index t = ![t.val, 0] :=
  (by decide +kernel : ∀ t : Fin grid1.N, _)

/-- Eight terms added one after the other are added as a sum. -/
theorem add_eight (y : EReal) (f : Fin 8 → EReal) :
    y + f 0 + f 1 + f 2 + f 3 + f 4 + f 5 + f 6 + f 7 = y + ∑ k, f k := by
  simp only [Fin.sum_univ_eight, add_assoc]

/-- One entry of the stored block. -/
theorem body1 (a : Vec Ideal S256x1024 .f32) (d : Vec Ideal S512x2048 .bf16) (x : Vec Ideal S256x2048 .f32)
    (g : Vec Ideal S1x1x2048 .f32) (M : Vec Ideal S8x256x1024 .i32) (w : Vec Ideal S256x8 .f32) (r : Fin 256) (j : Fin 2048) :
    out1_6 a d x g M w (ix2 r j) = x (ix2 r j) + g (ix3 0 0 j)
      * ((∑ f : Fin 512, Combine.gated (a (ix2 r ⟨f.val, by omega⟩)) (a (ix2 r ⟨512 + f.val, by omega⟩)) * d (ix2 f j))
        + ∑ k : Fin 8, w (ix2 r k) * Packed.half (M (ix3 k r (Packed.col j))) j) := by
  rw [← add_eight]
  unfold_out out1_6
  canon_tiles y h
  · obtain rfl : r = y 0 := Fin.ext h0
    obtain rfl : j = ⟨1024 + (y 1).val, Nat.add_lt_add_left (y 1).isLt 1024⟩ := Fin.ext h1
    rw [Packed.col_high (y 1)]
    simp only [Packed.half_high _ (y 1)]
    refine (congrArg _ (eq_ix2 y)).trans ?_
    frame_out
    pointwise [k1_pay1, k1_pay2, k1_pay3, k1_pay5, k1_pay6, k1_pay7, k1_pay8, k1_pay10, k1_pay11, k1_pay13, k1_pay14,
      k1_pay15, k1_pay16, k1_pay17, k1_pay18, k1_pay20, k1_pay21, k1_pay23, k1_pay24, k1_pay25, k1_pay26, k1_pay27,
      k1_pay28, k1_pay29, k1_pay31]
    rfl
  · obtain rfl : r = y 0 := Fin.ext h0
    obtain rfl : j = ⟨(y 1).val, (y 1).isLt.trans (by decide)⟩ := Fin.ext h1
    rw [Packed.col_low (y 1)]
    simp only [Packed.half_low _ (y 1)]
    refine (congrArg _ (eq_ix2 y)).trans ?_
    frame_out
    pointwise [k1_pay1, k1_pay2, k1_pay3, k1_pay4, k1_pay6, k1_pay7, k1_pay8, k1_pay9, k1_pay11, k1_pay12, k1_pay14,
      k1_pay15, k1_pay16, k1_pay17, k1_pay18, k1_pay19, k1_pay21, k1_pay22, k1_pay23, k1_pay24, k1_pay25, k1_pay27,
      k1_pay29, k1_pay30, k1_pay31]
    rfl

/-- The block stored at grid point `t` is that block of the result. -/
theorem point1 (c : Dev nD) (t : Fin cfg1.N) (y : S256x2048.Idx) :
    out1_6 (iblk1 V c 0 t) (iblk1 V c 1 t) (iblk1 V c 2 t) (iblk1 V c 3 t) (iblk1 V c 4 t) (iblk1 V c 5 t) y
      = Combine.out (V c main_v2) (V c main_v3) (V c main_arg4) (V c main_arg5) (V c main_arg6) (V c main_v4)
        (((cfg1.win 6).blk t).view.emb y) := by
  refine (congrArg _ (eq_ix2 y)).trans ((body1 _ _ _ _ _ _ (y 0) (y 1)).trans ?_)
  unfold Combine.out Packed.col
  blk_point [iblk1, idx1 t]

/-- The launch leaves that result in its array. -/
theorem final1 (c : Dev nD) : (dat1 V c).arrAt 6 cfg1.N
    = Combine.out (V c main_v2) (V c main_v3) (V c main_arg4) (V c main_arg5) (V c main_arg6) (V c main_v4) := by
  refine (dat1 V c).arrAt_eq_of_covers 6 _ (by decide +kernel) fun t _ y => ?_
  blk_simp
  rw [after1_6]
  exact point1 V c t y

end Cert.CombineIdeal.Hand

end
-- ==== Proof.Combine.Ref.lean ====
module

public import proofs.«01_k».proof.Proof.Combine.Value
public import proofs.«01_k».proof.Proof.Gen.CombineRefIdeal.Run

/-! # The shared expert and the experts' combination: one formula, and the reference

The value both programs compute is written as one formula of the arguments. The reference is shown to compute it, stage
by stage. -/

@[expose] public section

set_option maxRecDepth 16384

noncomputable section

open Idealize.ShloMosaic Idealize.ShloMosaic.TcCoe Idealize.SL.Sem

namespace Combine

open Cert.CombineIdeal

variable (A : FVec Ideal S16384x2048 .bf16) (Wg Wu : FVec Ideal S2048x512 .f32) (Wd : FVec Ideal S512x2048 .f32)
  (X : FVec Ideal S16384x2048 .f32) (G : FVec Ideal S8x1x2048 .f32) (M : IVec S8x16384x1024 32)
  (T : FVec Ideal S8x16384 .f32)

/-- The shared expert's row `r`, column `j`. -/
def shared (r : Fin 16384) (j : Fin 2048) : EReal :=
  ∑ f : Fin 512, gated (∑ k : Fin 2048, A (ix2 r k) * Wg (ix2 k f)) (∑ k : Fin 2048, A (ix2 r k) * Wu (ix2 k f))
    * Wd (ix2 f j)

/-- The chosen experts' rows, added by their weights. -/
def routed (r : Fin 16384) (j : Fin 2048) : EReal :=
  ∑ k : Fin 8, T (ix2 k r) * Packed.half (M (ix3 k r (Packed.col j))) j

/-- The residual plus the two, scaled by the gate of the row's batch. -/
def result : FVec Ideal S16384x2048 .f32 := fun i =>
  X i + G (ix3 ⟨(i 0).val / 2048, Nat.div_lt_of_lt_mul (i 0).isLt⟩ 0 (i 1))
    * (shared A Wg Wu Wd (i 0) (i 1) + routed M T (i 0) (i 1))

end Combine

namespace Cert.CombineRefIdeal.Hand

open Cert.CombineRefIdeal Cert.CombineRefIdeal.Gen

variable (A : FVec Ideal S16384x2048 .bf16) (Wg Wu : FVec Ideal S2048x512 .f32) (Wd : FVec Ideal S512x2048 .f32)
  (X : FVec Ideal S16384x2048 .f32) (G : FVec Ideal S8x1x2048 .f32) (M : IVec S8x16384x1024 32)
  (T : FVec Ideal S8x16384 .f32)

/-- The rows times a weight array. -/
def times (W : FVec Ideal S2048x512 .f32) : FVec Ideal S16384x512 .f32 :=
  Host.dotGeneral dot_S16384x2048_S2048x512_S16384x512_1_0_0_1_n_n none (extf .f32 A bitsLt_bf16_f32) W

/-- The gate's product times its logistic. -/
def silu (g : FVec Ideal S16384x512 .f32) : FVec Ideal S16384x512 .f32 :=
  mulf g (Host.divf (broadcastInDim S16384x512 ![] bcast_S_S16384x512 (constant S_ .f32 0x3F800000#32))
    (addf (broadcastInDim S16384x512 ![] bcast_S_S16384x512 (constant S_ .f32 0x3F800000#32)) (Host.exp (Host.negf g))))

/-- The shared expert. -/
def shared : FVec Ideal S16384x2048 .f32 :=
  Host.dotGeneral dot_S16384x512_S512x2048_S16384x2048_1_0_0_1_n_n none (mulf (silu (times A Wg)) (times A Wu)) Wd

/-- The experts' rows out of their words. -/
def rows : FVec Ideal S8x16384x2048 .f32 :=
  concatenate S8x16384x2048 2 [⟨S8x16384x1024, (bitcastToFloat (F := Ideal) .f32 (Host.shli M (broadcastInDim S8x16384x1024 ![]
    bcast_S_S8x16384x1024 (constantI S_ 32 16#32))))⟩, ⟨S8x16384x1024, (bitcastToFloat (F := Ideal) .f32 (andi M
    (broadcastInDim S8x16384x1024 ![] bcast_S_S8x16384x1024 (constantI S_ 32 4294901760#32))))⟩]
    concatenates_S8x16384x1024_S8x16384x1024_S8x16384x2048_d2

/-- The rows times their weights. -/
def weighted : FVec Ideal S8x16384x2048 .f32 :=
  mulf (broadcastInDim S8x16384x2048 ![0, 1, 2] bcast_S8x16384x1_S8x16384x2048_0_1_2
    (broadcastInDim S8x16384x1 ![0, 1] bcast_S8x16384_S8x16384x1_0_1 T)) (rows M)

/-- The weighted rows, added. -/
def routed : FVec Ideal S16384x2048 .f32 :=
  Host.reduceAdd (weighted M T) (constant S_ .f32 0x00000000#32) reducesTo_S8x16384x2048_S16384x2048_d0 h_S_

/-- The reference's result as a term of its arguments. -/
def term : FVec Ideal S16384x2048 .f32 :=
  shapeCast _ (addf (shapeCast _ X shapeCasts_S16384x2048_S8x2048x2048)
    (mulf (broadcastInDim S8x2048x2048 ![0, 1, 2] bcast_S8x1x2048_S8x2048x2048_0_1_2 G)
      (shapeCast _ (addf (routed M T) (shared A Wg Wu Wd)) shapeCasts_S16384x2048_S8x2048x2048)))
    shapeCasts_S8x2048x2048_S16384x2048

theorem times_apply (W : FVec Ideal S2048x512 .f32) (r : Fin 16384) (f : Fin 512) :
    times A W (ix2 r f) = ∑ k : Fin 2048, A (ix2 r k) * W (ix2 k f) := by
  pointwise [times]

theorem silu_apply (g : FVec Ideal S16384x512 .f32) (r : Fin 16384) (f : Fin 512) :
    silu g (ix2 r f) = g (ix2 r f) * Ideal.logistic (g (ix2 r f)) := by
  pointwise [silu]
  unfold Ideal.logistic
  blk_point []

theorem shared_apply (r : Fin 16384) (j : Fin 2048) :
    shared A Wg Wu Wd (ix2 r j) = Combine.shared A Wg Wu Wd r j := by
  pointwise [shared]
  simp only [silu_apply, times_apply]
  rfl

/-- An expert's row out of its words: the low halves, then the high halves. -/
theorem rows_apply (k : Fin 8) (r : Fin 16384) (j : Fin 2048) :
    rows M (ix3 k r j) = Packed.half (M (ix3 k r (Packed.col j))) j := by
  unfold rows
  rcases Packed.col_cases j with ⟨l, rfl⟩ | ⟨l, rfl⟩
  · rw [Packed.half_low, Packed.col_low]
    pointwise
    rfl
  · rw [Packed.half_high, Packed.col_high]
    pointwise

theorem routed_apply (r : Fin 16384) (j : Fin 2048) : routed M T (ix2 r j) = Combine.routed M T r j := by
  pointwise [routed, weighted]
  simp only [rows_apply]
  rfl

/-- The reference computes the formula. -/
theorem term_eq : term A Wg Wu Wd X G M T = Combine.result A Wg Wu Wd X G M T := by
  funext i
  pointwise [term]
  unfold Combine.result
  refine congrArg₂ (· + ·) rfl (congrArg₂ (· * ·) rfl ((add_comm _ _).trans (congrArg₂ (· + ·) ?_ ?_)))
  · exact (congrArg _ (eq_ix2 i)).trans (shared_apply A Wg Wu Wd (i 0) (i 1))
  · exact (congrArg _ (eq_ix2 i)).trans (routed_apply M T (i 0) (i 1))

end Cert.CombineRefIdeal.Hand

end
-- ==== Proof.Combine.Claim.lean ====
module

public import proofs.«01_k».proof.Defs
public import proofs.«01_k».proof.Proof.Combine.Ref

/-! # The shared expert and the experts' combination: kernel and reference agree

The kernel's host code puts the shared expert's gate and up weights side by side and turns the experts' weights. Between
the two launches nothing else happens to the product, so the second launch's value is the formula. -/

@[expose] public section

set_option maxRecDepth 16384

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run ends with every array as the host code and the two launches, one after the other, leave it. -/
theorem run_all : θ_run defs (onTc (τ := τ) (main (F := Ideal))) ⟨m, fun _ => 0, ρ⟩ fun r =>
    ∀ c : Dev nD, ∀ b ∈ Pipeline.ucRefs τ sig, r.2.mem ((c : Thread nD τ).1, b) = W4 m ρ c b :=
  Pipeline.θ_run_regions_kit_sems (pcfgs (F := Ideal)) adm (pdats m ρ) () cellOf_inj emb₁ defs₀ 𝒱₀ L lv m ρ main
    (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The shared expert's gate and up weights, side by side, as the host code rounds them. -/
def wide (Wg Wu : FVec Ideal S2048x512 .f32) : FVec Ideal S2048x1024 .bf16 :=
  truncf .bf16 (concatenate S2048x1024 1 [⟨S2048x512, Wg⟩, ⟨S2048x512, Wu⟩]
    concatenates_S2048x512_S2048x512_S2048x1024_d1) bitsLt_bf16_f32

theorem wide_left (Wg Wu : FVec Ideal S2048x512 .f32) (k : Fin 2048) (f : Fin 512) :
    wide Wg Wu (ix2 k ⟨f.val, by omega⟩) = Wg (ix2 k f) := by
  pointwise [wide]

theorem wide_right (Wg Wu : FVec Ideal S2048x512 .f32) (k : Fin 2048) (f : Fin 512) :
    wide Wg Wu (ix2 k ⟨512 + f.val, by omega⟩) = Wu (ix2 k f) := by
  pointwise [wide]

/-- The second launch, fed by the first and by the host code, computes the formula. -/
theorem out_eq (A : FVec Ideal S16384x2048 .bf16) (Wg Wu : FVec Ideal S2048x512 .f32) (Wd : FVec Ideal S512x2048 .f32)
    (X : FVec Ideal S16384x2048 .f32) (G : FVec Ideal S8x1x2048 .f32) (M : IVec S8x16384x1024 32)
    (T : FVec Ideal S8x16384 .f32) :
    Combine.out (Combine.prod A (wide Wg Wu)) (truncf .bf16 Wd bitsLt_bf16_f32) X G M
      (transpose S16384x8 [1, 0] T transposes_S8x16384_S16384x8_1_0) = Combine.result A Wg Wu Wd X G M T := by
  funext i
  unfold Combine.out Combine.result Combine.shared Combine.routed
  refine congrArg₂ (· + ·) rfl (congrArg₂ (· * ·) rfl (congrArg₂ (· + ·) ?_ ?_))
  · refine Finset.sum_congr rfl fun f _ => congrArg₂ (· * ·) (congrArg₂ Combine.gated ?_ ?_) rfl
    · exact Finset.sum_congr rfl fun k _ => congrArg₂ (· * ·) rfl (wide_left Wg Wu k f)
    · exact Finset.sum_congr rfl fun k _ => congrArg₂ (· * ·) rfl (wide_right Wg Wu k f)
  · refine Finset.sum_congr rfl fun k _ => congrArg₂ (· * ·) ?_ rfl
    pointwise

/-- What the first launch finds as its weights. -/
theorem weights (c : Dev nD) : W1 m ρ c (Proc.devRef .tc main_v1)
    = wide (m ((c : Thread nD τ).loc main_arg1)) (m ((c : Thread nD τ).loc main_arg2)) := by
  show StableHlo.after hostOps0 _ _ = _
  unfold hostOps0
  after_results_simp <;> rfl

/-- What the second launch finds as the down weights. -/
theorem down (c : Dev nD) : W3 m ρ c (Proc.devRef .tc main_v3)
    = (truncf .bf16 (m ((c : Thread nD τ).loc main_arg3) : FVec Ideal S512x2048 .f32) bitsLt_bf16_f32 : FVec Ideal S512x2048 .bf16) := by
  rw [← W2_args m ρ c main_arg3 (by simp)]
  show StableHlo.after hostOps1 _ _ = _
  unfold hostOps1
  after_results_simp <;> rfl

/-- What the second launch finds as the experts' weights. -/
theorem turned (c : Dev nD) : W3 m ρ c (Proc.devRef .tc main_v4)
    = (transpose S16384x8 [1, 0] (m ((c : Thread nD τ).loc main_arg7) : FVec Ideal S8x16384 .f32)
        transposes_S8x16384_S16384x8_1_0 : FVec Ideal S16384x8 .f32) := by
  rw [← W2_args m ρ c main_arg7 (by simp)]
  show StableHlo.after hostOps1 _ _ = _
  unfold hostOps1
  after_results_simp <;> rfl

/-- What the second launch finds as the product. -/
theorem product (c : Dev nD) : W3 m ρ c (Proc.devRef .tc main_v2)
    = Combine.prod (m ((c : Thread nD τ).loc main_arg0))
        (wide (m ((c : Thread nD τ).loc main_arg1)) (m ((c : Thread nD τ).loc main_arg2))) :=
  (W3_of m ρ c main_v2 (by decide)).trans <| (W2_arr m ρ c 2).trans <| (final0 (V1 m ρ) c).trans <|
    congrArg₂ Combine.prod (W1_args m ρ c main_arg0 (by simp)) (weights m ρ c)

/-- The formula, of the arguments in memory. -/
abbrev value (c : Dev nD) : FVec Ideal S16384x2048 .f32 :=
  Combine.result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The result array ends with the formula. -/
theorem ends (c : Dev nD) : W4 m ρ c (Proc.devRef .tc main_v5) = value m c := by
  refine (W4_arr m ρ c 6).trans <| (final1 (V3 m ρ) c).trans ?_
  have h4 : V3 m ρ c main_arg4 = m ((c : Thread nD τ).loc main_arg4) := W3_args m ρ c main_arg4 (by simp)
  have h5 : V3 m ρ c main_arg5 = m ((c : Thread nD τ).loc main_arg5) := W3_args m ρ c main_arg5 (by simp)
  have h6 : V3 m ρ c main_arg6 = m ((c : Thread nD τ).loc main_arg6) := W3_args m ρ c main_arg6 (by simp)
  have e2 := product m ρ c
  have e3 := down m ρ c
  have e4 := turned m ρ c
  rw [h4, h5, h6]
  refine Eq.trans ?_ (out_eq _ _ _ _ _ _ _ _)
  exact congr (congr (congr (congr (congr (congrArg Combine.out e2) e3) rfl) rfl) rfl) e4

/-- The run ends with the formula and the arguments as they were. -/
theorem run_value : θ_run defs (onTc (τ := τ) (main (F := Ideal))) ⟨m, fun _ => 0, ρ⟩ fun r => ∀ c : Dev nD,
    r.2.mem ((c.tc : Thread nD τ).loc main_v5) = value m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun r h c =>
    ⟨(h c _ (mem_uc main_v5 (by decide))).trans (ends m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.CombineIdeal.Hand

namespace Cert.CombineRefIdeal.Hand

open Cert.CombineRefIdeal Cert.CombineRefIdeal.Gen
open Idealize.ShloMosaic Idealize.ShloMosaic.TcCoe Idealize.SL.Sem

variable (m : (ℓ : Loc nD τ sig) → Buf (Elt Ideal) ℓ) (ρ : Dev nD → PrngReg)

/-- The reference's frame: every run ends, with the arguments unchanged and the counters at zero. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run defs _ _).mono (fun r h => ⟨fun c => (h c).2, sem_eq_zero_of_no_sems (by decide) r.2⟩)
    (Cert.CombineRefIdeal.Value.run m ρ)

end Cert.CombineRefIdeal.Hand

namespace Combine

open Idealize.ShloMosaic Idealize.ShloMosaic.TcCoe Idealize.SL.Sem

attribute [local instance] Cert.CombineIdeal.Gen.facts Cert.CombineRefIdeal.Gen.facts

/-- Kernel and reference end with the same result, from arguments that agree. -/
theorem algebraic : Cert.algebraic_CombineIdeal_CombineRefIdeal := by
  intro m g m' g' _ hargs
  refine ⟨fun c => Cert.CombineIdeal.Hand.value m c, Cert.CombineIdeal.Hand.run_value m g, ?_⟩
  refine (θ_run _ _ _).mono (fun r h c => ⟨(h c).1.trans ?_, (h c).2⟩) (Cert.CombineRefIdeal.Value.run m' g')
  obtain ⟨h0, h1, h2, h3, h4, h5, h6, h7⟩ := hargs c
  exact (Cert.CombineRefIdeal.Hand.term_eq _ _ _ _ _ _ _ _).trans (by rw [h0, h1, h2, h3, h4, h5, h6, h7])

end Combine

end
-- ==== Proof.Norm.Value.lean ====
module

public import proofs.«01_k».proof.Proof.Gen.NormIdeal.Value
public import Idealize.ShloMosaic.Lib.Pipeline.ValueKit
public import Idealize.ShloMosaic.Lib.Pointwise

/-! # The normalization: what the kernel computes

Every row is divided by the root of its mean square, scaled by the learned weights and modulated by its batch's scale
and shift. -/

@[expose] public section

set_option maxRecDepth 16384

noncomputable section

open Idealize.ShloMosaic Idealize.ShloMosaic.TcCoe Idealize.SL.Sem

namespace Norm

open Cert.NormIdeal

/-- Entry `(r, j)`: the row's entry by the inverse root of the row's mean square (the sum of the squares over 2048, plus
    the guard `1e-6`), by the weight `g j`, by one plus the scale of the row's batch `r / 2048`, plus that batch's shift. -/
def row (X : FVec Ideal S16384x2048 .f32) (g : FVec Ideal S1x2048 .f32) (scale shift : FVec Ideal S8x1x2048 .f32) :
    FVec Ideal S16384x2048 .f32 := fun i =>
  X i * Ideal.rsqrt (Ideal.div (∑ k : Fin 2048, X (ix2 (i 0) k) * X (ix2 (i 0) k)) (Ideal.ofBits .f32 0x45000000#32)
      + Ideal.ofBits .f32 0x358637BD#32) * g (ix2 0 (i 1))
    * (1 + scale (ix3 ⟨(i 0).val / 2048, Nat.div_lt_of_lt_mul (i 0).isLt⟩ 0 (i 1)))
    + shift (ix3 ⟨(i 0).val / 2048, Nat.div_lt_of_lt_mul (i 0).isLt⟩ 0 (i 1))

end Norm

namespace Cert.NormIdeal.Hand

open Cert.NormIdeal Cert.NormIdeal.Gen

variable (m : (ℓ : Loc nD τ sig) → Buf (Elt Ideal) ℓ)

/-- Which block of its array each window holds at grid point `t`; four row blocks share a batch. -/
theorem idx : ∀ t : Fin cfg0.N, win0_0.index t = ![t.val, 0]
    ∧ win0_1.index t = ![0, 0] ∧ win0_2.index t = ![t.val / 4, 0, 0]
    ∧ win0_3.index t = ![t.val / 4, 0, 0] ∧ win0_4.index t = ![t.val, 0] :=
  (by decide +kernel : ∀ t : Fin grid0.N, _)

/-- One entry of the stored block. -/
theorem body_apply (x : Vec Ideal S512x2048 .f32) (g : Vec Ideal S1x2048 .f32) (sc sh : Vec Ideal S1x1x2048 .f32)
    (r : Fin 512) (j : Fin 2048) : out0_4 x g sc sh (ix2 r j)
      = x (ix2 r j) * Ideal.rsqrt (Ideal.div (∑ k : Fin 2048, x (ix2 r k) * x (ix2 r k))
            (Ideal.ofBits .f32 0x45000000#32) + Ideal.ofBits .f32 0x358637BD#32) * g (ix2 0 j)
          * (1 + sc (ix3 0 0 j)) + sh (ix3 0 0 j) := by
  unfold out0_4
  frame_out
  pointwise [k0_pay1]

/-- The block stored at grid point `t` is that block of the result. -/
theorem point (c : Dev nD) (t : Fin cfg0.N) (y : S512x2048.Idx) :
    out0_4 (iblk m c 0 t) (iblk m c 1 t) (iblk m c 2 t) (iblk m c 3 t) y
      = Norm.row (m ((c : Thread nD τ).loc main_arg0)) (m ((c : Thread nD τ).loc main_arg1))
        (m ((c : Thread nD τ).loc main_arg2)) (m ((c : Thread nD τ).loc main_arg3))
        (((cfg0.win 4).blk t).view.emb y) := by
  refine (congrArg _ (eq_ix2 y)).trans ((body_apply _ _ _ _ (y 0) (y 1)).trans ?_)
  unfold Norm.row
  blk_point [iblk, V, idx t]

/-- The output array after the run holds the normalized rows. -/
theorem final (c : Dev nD) : (dats m 0 c).arrAt 4 (cfgs 0).N
    = Norm.row (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.NormIdeal.Hand

end
-- ==== Proof.Norm.Claim.lean ====
module

public import proofs.«01_k».proof.Defs
public import proofs.«01_k».proof.Proof.Norm.Value
public import proofs.«01_k».proof.Proof.Gen.NormRefIdeal.Run

/-! # The normalization: kernel and reference agree

Both normalize and modulate each row, entry by entry. -/

@[expose] public section

set_option maxRecDepth 16384

noncomputable section

open Idealize.ShloMosaic Idealize.ShloMosaic.TcCoe Idealize.SL.Sem

namespace Cert.NormRefIdeal.Hand

open Cert.NormRefIdeal Cert.NormRefIdeal.Gen

variable (m : (ℓ : Loc nD τ sig) → Buf (Elt Ideal) ℓ) (ρ : Dev nD → PrngReg)

/-- The reference's rows, before they are rounded, as a term of its arguments. -/
def rows (X : FVec Ideal S16384x2048 .f32) (g : FVec Ideal S1x2048 .f32) (scale shift : FVec Ideal S8x1x2048 .f32) :
    FVec Ideal S16384x2048 .f32 :=
  shapeCast _ (addf (mulf (mulf (mulf (shapeCast _ X shapeCasts_S16384x2048_S8x2048x2048) (broadcastInDim
  S8x2048x2048 ![0, 1, 2] bcast_S8x2048x1_S8x2048x2048_0_1_2 (Host.rsqrt (addf (Host.divf (broadcastInDim S8x2048x1
  ![0, 1] bcast_S8x2048_S8x2048x1_0_1 (Host.reduceAdd (mulf (shapeCast _ X shapeCasts_S16384x2048_S8x2048x2048)
  (shapeCast _ X shapeCasts_S16384x2048_S8x2048x2048)) (constant S_ .f32 0x00000000#32)
  reducesTo_S8x2048x2048_S8x2048_d2 h_S_)) (broadcastInDim S8x2048x1 ![] bcast_S_S8x2048x1 (constant S_ .f32
  0x45000000#32))) (broadcastInDim S8x2048x1 ![] bcast_S_S8x2048x1 (constant S_ .f32 0x358637BD#32))))))
  (broadcastInDim S8x2048x2048 ![0, 1, 2] bcast_S1x1x2048_S8x2048x2048_0_1_2 (broadcastInDim S1x1x2048 ![2]
  bcast_S2048_S1x1x2048_2 (shapeCast _ g shapeCasts_S1x2048_S2048)))) (broadcastInDim S8x2048x2048 ![0, 1, 2]
  bcast_S8x1x2048_S8x2048x2048_0_1_2 (addf (broadcastInDim S8x1x2048 ![] bcast_S_S8x1x2048 (constant S_ .f32
  0x3F800000#32)) scale))) (broadcastInDim S8x2048x2048 ![0, 1, 2] bcast_S8x1x2048_S8x2048x2048_0_1_2 shift))
  shapeCasts_S8x2048x2048_S16384x2048

/-- The reference computes the normalized rows. -/
theorem rows_eq (X : FVec Ideal S16384x2048 .f32) (g : FVec Ideal S1x2048 .f32)
    (scale shift : FVec Ideal S8x1x2048 .f32) : rows X g scale shift = Norm.row X g scale shift := by
  funext i
  rw [eq_ix2 i]
  pointwise [rows]
  unfold Norm.row
  blk_point []

/-- Rounding to fewer bits leaves an exact value as it is. -/
theorem rounded_eq (X : FVec Ideal S16384x2048 .f32) (g : FVec Ideal S1x2048 .f32)
    (scale shift : FVec Ideal S8x1x2048 .f32) :
    (truncf .bf16 (rows X g scale shift) bitsLt_bf16_f32 : FVec Ideal S16384x2048 .bf16) = Norm.row X g scale shift :=
  rows_eq X g scale shift

/-- The reference's frame: every run ends, with the arguments unchanged and the counters at zero. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems (by decide) r.2⟩) (Cert.NormRefIdeal.Value.run m ρ)

end Cert.NormRefIdeal.Hand

namespace Norm

attribute [local instance] Cert.NormIdeal.Gen.facts Cert.NormRefIdeal.Gen.facts

/-- Kernel and reference end with the same result, from arguments that agree. -/
theorem algebraic : Cert.algebraic_NormIdeal_NormRefIdeal := by
  intro m g m' g' _ hargs
  refine ⟨fun c => Norm.row (m (c.tc.loc Cert.NormIdeal.main_arg0)) (m (c.tc.loc Cert.NormIdeal.main_arg1)) (m (c.tc.loc Cert.NormIdeal.main_arg2)) (m (c.tc.loc Cert.NormIdeal.main_arg3)), ?_, ?_⟩
  · exact (θ_run _ _ _).mono (fun r h c => ⟨(h c).1.trans (Cert.NormIdeal.Hand.final m c), (h c).2⟩)
      (Cert.NormIdeal.Value.run_blocks m g)
  · refine (θ_run _ _ _).mono (fun r h c => ⟨(h c).1.trans ?_, (h c).2⟩) (Cert.NormRefIdeal.Value.run m' g')
    obtain ⟨h0, h1, h2, h3⟩ := hargs c
    exact (Cert.NormRefIdeal.Hand.rounded_eq _ _ _ _).trans (by rw [h0, h1, h2, h3])

end Norm

end
-- ==== Proof.Router.Value.lean ====
module

public import proofs.«01_k».proof.Proof.Norm.Value
public import proofs.«01_k».proof.Proof.Gen.RouterIdeal.Value
public import Idealize.ShloMosaic.Lib.Pipeline.ValueKit
public import Idealize.ShloMosaic.Lib.Pointwise
public import Idealize.ShloMosaic.Lib.StableHlo.RunRead

/-! # The normalization before the experts: what the kernel computes

The rows are normalized as before the mixers (`Norm.row`) and stored twice, and every expert's score of every row is
the product of the row with the expert's column of the router. -/

@[expose] public section

set_option maxRecDepth 16384

noncomputable section

open Idealize.ShloMosaic Idealize.ShloMosaic.TcCoe Idealize.SL.Sem

namespace Router

open Cert.RouterIdeal

/-- The score of expert `e` for row `r`: the product of the normalized row with column `e` of the router. -/
def score (X : FVec Ideal S16384x2048 .f32) (g : FVec Ideal S1x2048 .f32) (scale shift : FVec Ideal S8x1x2048 .f32)
    (R : FVec Ideal S2048x64 .f32) : FVec Ideal S64x16384 .f32 := fun i =>
  ∑ k : Fin 2048, R (ix2 k (i 0)) * Norm.row X g scale shift (ix2 (i 1) k)

end Router

namespace Cert.RouterIdeal.Hand

open Cert.RouterIdeal Cert.RouterIdeal.Gen

variable (m : (ℓ : Loc nD τ sig) → Buf (Elt Ideal) ℓ)

/-- The normalized rows of the arrays the launch finds. -/
abbrev rows (c : Dev nD) : FVec Ideal S16384x2048 .f32 :=
  Norm.row (V m c main_arg0) (V m c main_arg1) (V m c main_arg2) (V m c main_arg3)

/-- Which block of its array each window holds at grid point `t`; four row blocks share a batch. -/
theorem idx : ∀ t : Fin cfg0.N, win0_0.index t = ![t.val, 0]
    ∧ win0_1.index t = ![0, 0] ∧ win0_2.index t = ![t.val / 4, 0, 0]
    ∧ win0_3.index t = ![t.val / 4, 0, 0] ∧ win0_4.index t = ![0, 0] ∧ win0_5.index t = ![t.val, 0]
    ∧ win0_6.index t = ![0, t.val] ∧ win0_7.index t = ![t.val, 0] :=
  (by decide +kernel : ∀ t : Fin grid0.N, _)

/-- One entry of the block of normalized rows, before it is rounded. -/
theorem rows_apply (x : Vec Ideal S512x2048 .f32) (g : Vec Ideal S1x2048 .f32) (sc sh : Vec Ideal S1x1x2048 .f32)
    (r : Fin 512) (j : Fin 2048) : k0_pay1 x g sc sh (ix2 r j)
      = x (ix2 r j) * Ideal.rsqrt (Ideal.div (∑ k : Fin 2048, x (ix2 r k) * x (ix2 r k))
            (Ideal.ofBits .f32 0x45000000#32) + Ideal.ofBits .f32 0x358637BD#32) * g (ix2 0 j)
          * (1 + sc (ix3 0 0 j)) + sh (ix3 0 0 j) := by
  pointwise [k0_pay1]

/-- The rows the body normalizes at grid point `t` are that block of the normalized rows. -/
theorem rows_point (c : Dev nD) (t : Fin cfg0.N) (y : S512x2048.Idx) :
    k0_pay1 (iblk m c 0 t) (iblk m c 1 t) (iblk m c 2 t) (iblk m c 3 t) y
      = rows m c (((cfg0.win 5).blk t).view.emb y) := by
  refine (congrArg _ (eq_ix2 y)).trans ((rows_apply _ _ _ _ (y 0) (y 1)).trans ?_)
  unfold rows Norm.row
  blk_point [iblk, idx t]

/-- The first block of rows stored is the block the body normalizes, -/
theorem first_apply (x : Vec Ideal S512x2048 .f32) (g : Vec Ideal S1x2048 .f32) (sc sh : Vec Ideal S1x1x2048 .f32)
    (w : Vec Ideal S64x2048 .f32) (r : Fin 512) (j : Fin 2048) :
    out0_5 x g sc sh w (ix2 r j) = k0_pay1 x g sc sh (ix2 r j) := by
  unfold out0_5
  frame_out
  pointwise [k0_pay2]

/-- and so is the second. -/
theorem second_apply (x : Vec Ideal S512x2048 .f32) (g : Vec Ideal S1x2048 .f32) (sc sh : Vec Ideal S1x1x2048 .f32)
    (w : Vec Ideal S64x2048 .f32) (r : Fin 512) (j : Fin 2048) :
    out0_7 x g sc sh w (ix2 r j) = k0_pay1 x g sc sh (ix2 r j) := by
  unfold out0_7
  frame_out
  pointwise [k0_pay4]

/-- One entry of the stored block of scores. -/
theorem score_apply (x : Vec Ideal S512x2048 .f32) (g : Vec Ideal S1x2048 .f32) (sc sh : Vec Ideal S1x1x2048 .f32)
    (w : Vec Ideal S64x2048 .f32) (e : Fin 64) (r : Fin 512) :
    out0_6 x g sc sh w (ix2 e r) = ∑ k : Fin 2048, w (ix2 e k) * k0_pay1 x g sc sh (ix2 r k) := by
  unfold out0_6
  frame_out
  pointwise [k0_pay3]

/-- The router as the launch finds it, its rows the experts. -/
theorem router_apply (c : Dev nD) (e : Fin 64) (k : Fin 2048) :
    (V m c main_v0 : Vec Ideal S64x2048 .f32) (ix2 e k) = (V m c main_arg4 : Vec Ideal S2048x64 .f32) (ix2 k e) := by
  rw [V_main_arg4]
  show StableHlo.after hostOps0 _ _ _ = _
  unfold hostOps0
  after_reads_simp
  pointwise

/-- The block of scores stored at grid point `t` is that block of the scores. -/
theorem score_point (c : Dev nD) (t : Fin cfg0.N) (y : S64x512.Idx) :
    out0_6 (iblk m c 0 t) (iblk m c 1 t) (iblk m c 2 t) (iblk m c 3 t) (iblk m c 4 t) y
      = Router.score (V m c main_arg0) (V m c main_arg1) (V m c main_arg2) (V m c main_arg3) (V m c main_arg4)
        (((cfg0.win 6).blk t).view.emb y) := by
  refine (congrArg _ (eq_ix2 y)).trans ((score_apply _ _ _ _ _ (y 0) (y 1)).trans ?_)
  unfold Router.score
  refine Finset.sum_congr rfl fun k _ => congrArg₂ (· * ·) ?_ ((rows_point m c t (ix2 (y 1) k)).trans ?_)
  · refine Eq.trans ?_ (router_apply m c _ k)
    blk_point [iblk, idx t]
  · refine congrArg (rows m c) ?_
    blk_ext [idx t]

/-- The first array of rows after the run holds the normalized rows, -/
theorem first_final (c : Dev nD) : (dats m 0 c).arrAt 5 (cfgs 0).N = rows m c := by
  refine (dats m 0 c).arrAt_eq_of_covers 5 _ (by decide +kernel) fun t _ y => ?_
  blk_simp
  rw [after0_5]
  exact ((congrArg _ (eq_ix2 y)).trans (first_apply _ _ _ _ _ (y 0) (y 1))).trans
    ((congrArg _ (eq_ix2 y).symm).trans (rows_point m c t y))

/-- the second too, -/
theorem second_final (c : Dev nD) : (dats m 0 c).arrAt 7 (cfgs 0).N = rows m c := by
  refine (dats m 0 c).arrAt_eq_of_covers 7 _ (by decide +kernel) fun t _ y => ?_
  blk_simp
  rw [after0_7]
  exact ((congrArg _ (eq_ix2 y)).trans (second_apply _ _ _ _ _ (y 0) (y 1))).trans
    ((congrArg _ (eq_ix2 y).symm).trans (rows_point m c t y))

/-- and the array of scores holds the scores. -/
theorem score_final (c : Dev nD) : (dats m 0 c).arrAt 6 (cfgs 0).N
    = Router.score (V m c main_arg0) (V m c main_arg1) (V m c main_arg2) (V m c main_arg3) (V m c main_arg4) := by
  refine (dats m 0 c).arrAt_eq_of_covers 6 _ (by decide +kernel) fun t _ y => ?_
  blk_simp
  rw [after0_6]
  exact score_point m c t y

end Cert.RouterIdeal.Hand

end
-- ==== Proof.Router.Claim.lean ====
module

public import proofs.«01_k».proof.Defs
public import proofs.«01_k».proof.Proof.Norm.Claim
public import proofs.«01_k».proof.Proof.Router.Value
public import proofs.«01_k».proof.Proof.Gen.RouterRefIdeal.Run

/-! # The normalization before the experts: kernel and reference agree

The rows are those of `Proof/Norm/`; the scores are the same products, with the factors the other way round. -/

@[expose] public section

set_option maxRecDepth 16384

noncomputable section

open Idealize.ShloMosaic Idealize.ShloMosaic.TcCoe Idealize.SL.Sem

namespace Cert.RouterRefIdeal.Hand

open Cert.RouterRefIdeal Cert.RouterRefIdeal.Gen

variable (m : (ℓ : Loc nD τ sig) → Buf (Elt Ideal) ℓ) (ρ : Dev nD → PrngReg)

/-- The reference's scores as a term of its normalized rows and the router. -/
def scores (H : FVec Ideal S16384x2048 .f32) (R : FVec Ideal S2048x64 .f32) : FVec Ideal S64x16384 .f32 :=
  transpose S64x16384 [1, 0] (Host.dotGeneral dot_S16384x2048_S2048x64_S16384x64_1_0_0_1_n_n none H R)
    transposes_S16384x64_S64x16384_1_0

/-- One score is the product of a row with a column of the router. -/
theorem scores_apply (H : FVec Ideal S16384x2048 .f32) (R : FVec Ideal S2048x64 .f32) (e : Fin 64) (r : Fin 16384) :
    scores H R (ix2 e r) = ∑ k : Fin 2048, H (ix2 r k) * R (ix2 k e) := by
  pointwise [scores]

/-- The reference computes the scores of the normalized rows. -/
theorem scores_eq (X : FVec Ideal S16384x2048 .f32) (g : FVec Ideal S1x2048 .f32)
    (scale shift : FVec Ideal S8x1x2048 .f32) (R : FVec Ideal S2048x64 .f32) :
    scores (Cert.NormRefIdeal.Hand.rows X g scale shift) R = Router.score X g scale shift R := by
  rw [Cert.NormRefIdeal.Hand.rows_eq]
  funext i
  refine (congrArg _ (eq_ix2 i)).trans ((scores_apply _ R (i 0) (i 1)).trans ?_)
  exact Finset.sum_congr rfl fun k _ => mul_comm _ _

/-- The reference's frame: every run ends, with the arguments unchanged and the counters at zero. -/
theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2.2.2, sem_eq_zero_of_no_sems (by decide) r.2⟩) (Cert.RouterRefIdeal.Value.run m ρ)

end Cert.RouterRefIdeal.Hand

namespace Router

attribute [local instance] Cert.RouterIdeal.Gen.facts Cert.RouterRefIdeal.Gen.facts

open Cert.RouterIdeal in
/-- The normalized rows of the arguments. -/
def rows (m : (ℓ : Loc nD τ sig) → Buf (Elt Ideal) ℓ) (c : Dev nD) : FVec Ideal S16384x2048 .f32 :=
  Norm.row (m (c.tc.loc main_arg0)) (m (c.tc.loc main_arg1)) (m (c.tc.loc main_arg2)) (m (c.tc.loc main_arg3))

open Cert.RouterIdeal in
/-- The scores of the arguments. -/
def scores (m : (ℓ : Loc nD τ sig) → Buf (Elt Ideal) ℓ) (c : Dev nD) : FVec Ideal S64x16384 .f32 :=
  score (m (c.tc.loc main_arg0)) (m (c.tc.loc main_arg1)) (m (c.tc.loc main_arg2)) (m (c.tc.loc main_arg3))
    (m (c.tc.loc main_arg4))

open Cert.RouterIdeal Cert.RouterIdeal.Gen in
/-- The launch finds the arguments' normalized rows, -/
theorem rows_found (m : (ℓ : Loc nD τ sig) → Buf (Elt Ideal) ℓ) (c : Dev nD) : Cert.RouterIdeal.Hand.rows m c = rows m c := by
  unfold rows Cert.RouterIdeal.Hand.rows
  rw [V_main_arg0, V_main_arg1, V_main_arg2, V_main_arg3]

open Cert.RouterIdeal Cert.RouterIdeal.Gen in
/-- and leaves their scores. -/
theorem scores_found (m : (ℓ : Loc nD τ sig) → Buf (Elt Ideal) ℓ) (c : Dev nD) :
    (dats m 0 c).arrAt 6 (cfgs 0).N = scores m c := by
  rw [Cert.RouterIdeal.Hand.score_final, V_main_arg0, V_main_arg1, V_main_arg2, V_main_arg3, V_main_arg4]
  rfl

/-- Kernel and reference end with the same three results, from arguments that agree. -/
theorem algebraic : Cert.algebraic_RouterIdeal_RouterRefIdeal := by
  intro m g m' g' _ hargs
  refine ⟨rows m, scores m, rows m, ?_, ?_⟩
  · exact (θ_run _ _ _).mono (fun r h c =>
      ⟨(h c).1.trans ((Cert.RouterIdeal.Hand.first_final m c).trans (rows_found m c)),
        (h c).2.1.trans (scores_found m c),
        (h c).2.2.1.trans ((Cert.RouterIdeal.Hand.second_final m c).trans (rows_found m c)), (h c).2.2.2⟩)
      (Cert.RouterIdeal.Value.run_blocks m g)
  · refine (θ_run _ _ _).mono (fun r h c => ?_) (Cert.RouterRefIdeal.Value.run m' g')
    obtain ⟨h0, h1, h2, h3, h4⟩ := hargs c
    have er := Cert.NormRefIdeal.Hand.rounded_eq (m' (c.tc.loc Cert.RouterRefIdeal.main_arg0))
      (m' (c.tc.loc Cert.RouterRefIdeal.main_arg1)) (m' (c.tc.loc Cert.RouterRefIdeal.main_arg2))
      (m' (c.tc.loc Cert.RouterRefIdeal.main_arg3))
    have es := Cert.RouterRefIdeal.Hand.scores_eq (m' (c.tc.loc Cert.RouterRefIdeal.main_arg0))
      (m' (c.tc.loc Cert.RouterRefIdeal.main_arg1)) (m' (c.tc.loc Cert.RouterRefIdeal.main_arg2))
      (m' (c.tc.loc Cert.RouterRefIdeal.main_arg3)) (m' (c.tc.loc Cert.RouterRefIdeal.main_arg4))
    have e : Norm.row (m' (c.tc.loc Cert.RouterRefIdeal.main_arg0)) (m' (c.tc.loc Cert.RouterRefIdeal.main_arg1))
        (m' (c.tc.loc Cert.RouterRefIdeal.main_arg2)) (m' (c.tc.loc Cert.RouterRefIdeal.main_arg3)) = rows m c := by
      rw [h0, h1, h2, h3]; rfl
    have f : score (m' (c.tc.loc Cert.RouterRefIdeal.main_arg0)) (m' (c.tc.loc Cert.RouterRefIdeal.main_arg1))
        (m' (c.tc.loc Cert.RouterRefIdeal.main_arg2)) (m' (c.tc.loc Cert.RouterRefIdeal.main_arg3))
        (m' (c.tc.loc Cert.RouterRefIdeal.main_arg4)) = scores m c := by
      rw [h0, h1, h2, h3, h4]; rfl
    exact ⟨(h c).1.trans (er.trans e), (h c).2.1.trans (es.trans f), (h c).2.2.1.trans (er.trans e), (h c).2.2.2⟩

end Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Rwkv.Claim
public import proofs.«01_k».proof.Proof.Rwkv.KernelFrame
public import proofs.«01_k».proof.Proof.Merge.Claim
public import proofs.«01_k».proof.Proof.Residual.Claim
public import proofs.«01_k».proof.Proof.Proj.Claim
public import proofs.«01_k».proof.Proof.Moe.Calls
public import proofs.«01_k».proof.Proof.Combine.Claim
public import proofs.«01_k».proof.Proof.Norm.Claim
public import proofs.«01_k».proof.Proof.Router.Claim
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.Residual
public import proofs.«01_k».proof.Proof.Gen.Residual.Skeleton
public import proofs.«01_k».proof.Proof.Gen.Residual.Launch
public import proofs.«01_k».proof.Proof.Gen.Residual.Points
public import proofs.«01_k».proof.Proof.Gen.Residual.Frame
public import proofs.«01_k».proof.Proof.Gen.ResidualIdeal
public import proofs.«01_k».proof.Proof.Gen.ResidualIdeal.Skeleton
public import proofs.«01_k».proof.Proof.Gen.ResidualIdeal.Launch
public import proofs.«01_k».proof.Proof.Gen.ResidualIdeal.Points
public import proofs.«01_k».proof.Proof.Gen.ResidualIdeal.Frame
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.Pre_experts_in_range
public import proofs.«01_k».proof.Proof.Gen.MoeFirst
public import proofs.«01_k».proof.Proof.Gen.MoeFirst.Skeleton
public import proofs.«01_k».proof.Proof.Gen.MoeFirst.Launch
public import proofs.«01_k».proof.Proof.Gen.MoeFirstIdeal
public import proofs.«01_k».proof.Proof.Gen.MoeFirstIdeal.Skeleton
public import proofs.«01_k».proof.Proof.Gen.MoeFirstIdeal.Launch
public import proofs.«01_k».proof.Proof.Gen.MoeFirstRefIdeal
public import proofs.«01_k».proof.Proof.Gen.MoeFirstRefIdeal.Run
public import proofs.«01_k».proof.Proof.Gen.MoeRefIdeal
public import proofs.«01_k».proof.Proof.Gen.MoeRefIdeal.Run
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.MergeIdeal.Value
public import proofs.«01_k».proof.Proof.Gen.ResidualIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.ResidualRefIdeal
public import proofs.«01_k».proof.Proof.Gen.ResidualRefIdeal.Run
public import proofs.«01_k».proof.Proof.Gen.ResidualRefIdeal.Read
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.CombineRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterIdeal.Value
public import proofs.«01_k».proof.Proof.Gen.RouterRefIdeal
public import proofs.«01_k».proof.Proof.Gen.RouterRefIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
  Cert.Merge.Gen.facts, Cert.MergeIdeal.Gen.facts, Cert.MergeRefIdeal.Gen.facts,
  Cert.Residual.Gen.facts, Cert.ResidualIdeal.Gen.facts, Cert.ResidualRefIdeal.Gen.facts,
  Cert.Proj.Gen.facts, Cert.ProjIdeal.Gen.facts, Cert.ProjRefIdeal.Gen.facts,
  Cert.Moe.Gen.facts, Cert.MoeIdeal.Gen.facts, Cert.MoeRefIdeal.Gen.facts,
  Cert.MoeFirst.Gen.facts, Cert.MoeFirstIdeal.Gen.facts, Cert.MoeFirstRefIdeal.Gen.facts,
  Cert.Combine.Gen.facts, Cert.CombineIdeal.Gen.facts, Cert.CombineRefIdeal.Gen.facts,
  Cert.Norm.Gen.facts, Cert.NormIdeal.Gen.facts, Cert.NormRefIdeal.Gen.facts,
  Cert.Router.Gen.facts, Cert.RouterIdeal.Gen.facts, Cert.RouterRefIdeal.Gen.facts, Cert.Pre_experts_in_range.Gen.facts,
  fun m ρ _ => Cert.Kernel.Hand.frame m ρ, fun m ρ _ => Cert.KernelIdeal.Hand.frame m ρ,
  fun m ρ _ => Cert.ReferenceIdeal.Hand.frame m ρ,
  fun m ρ _ => Cert.Merge.Gen.frame m ρ, fun m ρ _ => Cert.MergeIdeal.Gen.frame m ρ,
  fun m ρ _ => Cert.MergeRefIdeal.Hand.frame m ρ,
  fun m ρ _ => Cert.Residual.Gen.frame m ρ, fun m ρ _ => Cert.ResidualIdeal.Gen.frame m ρ,
  fun m ρ _ => Cert.ResidualRefIdeal.Hand.frame m ρ,
  fun m ρ _ => Cert.Proj.Gen.frame m ρ, fun m ρ _ => Cert.ProjIdeal.Gen.frame m ρ,
  fun m ρ _ => Cert.ProjRefIdeal.Hand.frame m ρ,
  Moe.Second.frame_kernel, Moe.Second.frame_ideal, Moe.Second.frame_reference,
  Moe.First.frame_kernel, Moe.First.frame_ideal, Moe.First.frame_reference,
  fun m ρ _ => Cert.Combine.Gen.frame m ρ, fun m ρ _ => Cert.CombineIdeal.Gen.frame m ρ,
  fun m ρ _ => Cert.CombineRefIdeal.Hand.frame m ρ,
  fun m ρ _ => Cert.Norm.Gen.frame m ρ, fun m ρ _ => Cert.NormIdeal.Gen.frame m ρ,
  fun m ρ _ => Cert.NormRefIdeal.Hand.frame m ρ,
  fun m ρ _ => Cert.Router.Gen.frame m ρ, fun m ρ _ => Cert.RouterIdeal.Gen.frame m ρ,
  fun m ρ _ => Cert.RouterRefIdeal.Hand.frame m ρ,
  trivial, Rwkv.algebraic, trivial, Merge.algebraic, trivial, Residual.algebraic,
  trivial, Proj.algebraic, trivial, Moe.Second.algebraic, trivial, Moe.First.algebraic,
  trivial, Combine.algebraic, trivial, Norm.algebraic, trivial, Router.algebraic⟩

end Cert.Proof

end
